-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v13_0)) (v1 : (c : Dev Cert.Kernel9Ideal.nD) → Buf (Elt Ideal) ((c.tc : Thread Cert.Kernel9Ideal.nD Cert.Kernel9Ideal.τ).loc Cert.Kernel9Ideal.main_v13_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13_0) = v0 c
          ∧ r.2.mem ((c.tc : Thread Cert.Kernel9Ideal.nD Cert.Kernel9Ideal.τ).loc Cert.Kernel9Ideal.main_v13_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "inv" .f32 0x3BAAAAAB#32 ((1 / 192 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v51_0)) (v1 : (c : Dev Cert.Kernel10Ideal.nD) → Buf (Elt Ideal) ((c.tc : Thread Cert.Kernel10Ideal.nD Cert.Kernel10Ideal.τ).loc Cert.Kernel10Ideal.main_v51_1)) (v2 : (c : Dev Cert.Kernel10Ideal.nD) → Buf (Elt Ideal) ((c.tc : Thread Cert.Kernel10Ideal.nD Cert.Kernel10Ideal.τ).loc Cert.Kernel10Ideal.main_v51_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v51_0) = v0 c
          ∧ r.2.mem ((c.tc : Thread Cert.Kernel10Ideal.nD Cert.Kernel10Ideal.τ).loc Cert.Kernel10Ideal.main_v51_1) = v1 c
          ∧ r.2.mem ((c.tc : Thread Cert.Kernel10Ideal.nD Cert.Kernel10Ideal.τ).loc Cert.Kernel10Ideal.main_v51_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_v105) = v1 c
          ∧ r.2.mem ((c.tc : Thread Cert.Reference10Ideal.nD Cert.Reference10Ideal.τ).loc Cert.Reference10Ideal.main_v107) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S8192x2560 : Shape := ⟨2, ![8192, 2560]⟩
abbrev S8192x1280 : Shape := ⟨2, ![8192, 1280]⟩
abbrev S8192x4096 : Shape := ⟨2, ![8192, 4096]⟩
abbrev S1x4096 : Shape := ⟨2, ![1, 4096]⟩
abbrev S2048x256 : Shape := ⟨2, ![2048, 256]⟩
abbrev S8192x256 : Shape := ⟨2, ![8192, 256]⟩
abbrev S8192x128 : Shape := ⟨2, ![8192, 128]⟩
abbrev S2048x128 : Shape := ⟨2, ![2048, 128]⟩
abbrev S1x128 : Shape := ⟨2, ![1, 128]⟩
abbrev S4x512x128 : Shape := ⟨3, ![4, 512, 128]⟩
abbrev S4x512x256 : Shape := ⟨3, ![4, 512, 256]⟩
abbrev S4x512x512 : Shape := ⟨3, ![4, 512, 512]⟩
abbrev S512x128 : Shape := ⟨2, ![512, 128]⟩
abbrev S512x256 : Shape := ⟨2, ![512, 256]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x512x128 : Shape := ⟨3, ![1, 512, 128]⟩
abbrev S1x512x256 : Shape := ⟨3, ![1, 512, 256]⟩

abbrev nBuf : Space → Nat
  | .hbm => 6
  | .vmem => 16
  | .smem => 0
  | _ => 0

abbrev bufTy : (tb : Table) → Fin (tcTables nBuf tb) → BufTy
  | .hbm, ⟨0, _⟩ => ⟨S8192x2560, .bf16⟩
  | .hbm, ⟨1, _⟩ => ⟨S8192x2560, .bf16⟩
  | .hbm, ⟨2, _⟩ => ⟨S8192x1280, .bf16⟩
  | .hbm, ⟨3, _⟩ => ⟨S8192x4096, .f32⟩
  | .hbm, ⟨4, _⟩ => ⟨S1x4096, .f32⟩
  | .hbm, ⟨5, _⟩ => ⟨S8192x1280, .bf16⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | .local _ .vmem, ⟨12, _⟩ => ⟨S4x512x128, .f32⟩
  | .local _ .vmem, ⟨13, _⟩ => ⟨S4x512x256, .f32⟩
  | .local _ .vmem, ⟨14, _⟩ => ⟨S4x512x512, .f32⟩
  | .local _ .vmem, ⟨15, _⟩ => ⟨S4x512x128, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![10, 4], ![false, false]⟩

def k0_mult1 (i : grid0.Coords) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_19 : BitVec 32 := 0#32
  let v29 : BitVec 32 := Scalar.subi v16 c0_i32_19
  let c512_i32 : BitVec 32 := 512#32
  let v30 : BitVec 32 := Scalar.muli v29 c512_i32
  v30
def k0_off1 (i : grid0.Coords) (c0_i32_8 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_8
  let c0_i32_19 : BitVec 32 := 0#32
  let v29 : BitVec 32 := Scalar.subi v16 c0_i32_19
  let c512_i32 : BitVec 32 := 512#32
  let v30 : BitVec 32 := Scalar.muli v29 c512_i32
  let v31 : BitVec 32 := v30
  let v32 : Index := Scalar.indexCast v31
  let c0_20 : Index := 0#32
  ![v32.toNat, 0]
def k0_mult2 (i : grid0.Coords) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_30 : BitVec 32 := 0#32
  let v50 : BitVec 32 := Scalar.subi v19 c0_i32_30
  let c512_i32_31 : BitVec 32 := 512#32
  let v51 : BitVec 32 := Scalar.muli v50 c512_i32_31
  v51
def k0_mult3 (i : grid0.Coords) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_41 : BitVec 32 := 0#32
  let v71 : BitVec 32 := Scalar.subi v22 c0_i32_41
  let c512_i32_42 : BitVec 32 := 512#32
  let v72 : BitVec 32 := Scalar.muli v71 c512_i32_42
  v72
def k0_mult4 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_52 : BitVec 32 := 0#32
  let v92 : BitVec 32 := Scalar.subi v25 c0_i32_52
  let c512_i32_53 : BitVec 32 := 512#32
  let v93 : BitVec 32 := Scalar.muli v92 c512_i32_53
  v93
@[reducible] def k0_t1_loop (i : grid0.Coords) : Scf.Loop 32 :=
  let c0_i32_67 : BitVec 32 := 0#32
  let c4_i32_17 : BitVec 32 := 4#32
  let arg1 : BitVec 32 := BitVec.ofNat 32 (i 1).val
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_69 : BitVec 32 := 1#32
  ⟨c0_i32_67, v120, c1_i32_69⟩
def k0_mult5 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c0_i32_422 : BitVec 32 := 0#32
  let v653 : BitVec 32 := Scalar.addi v652 c0_i32_422
  let v654 : BitVec 32 := Scalar.subi v16 v653
  let c512_i32_423 : BitVec 32 := 512#32
  let v655 : BitVec 32 := Scalar.muli v654 c512_i32_423
  v655
def k0_off2 (i : grid0.Coords) (k0_t1 : Fin (k0_t1_loop i).trips) (c0_i32_8 : BitVec 32) (c0_i32_422 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_8
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let v653 : BitVec 32 := Scalar.addi v652 c0_i32_422
  let v654 : BitVec 32 := Scalar.subi v16 v653
  let c512_i32_423 : BitVec 32 := 512#32
  let v655 : BitVec 32 := Scalar.muli v654 c512_i32_423
  let v656 : BitVec 32 := v655
  let v657 : Index := Scalar.indexCast v656
  let c0_424 : Index := 0#32
  ![v657.toNat, 0]
def k0_mult6 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c0_i32_444 : BitVec 32 := 0#32
  let v685 : BitVec 32 := Scalar.addi v652 c0_i32_444
  let c1_i32_445 : BitVec 32 := 1#32
  let v686 : BitVec 32 := Scalar.addi v685 c1_i32_445
  let v687 : BitVec 32 := Scalar.subi v16 v686
  let c512_i32_446 : BitVec 32 := 512#32
  let v688 : BitVec 32 := Scalar.muli v687 c512_i32_446
  v688
def k0_off3 (i : grid0.Coords) (k0_t1 : Fin (k0_t1_loop i).trips) (c0_i32_8 : BitVec 32) (c0_i32_444 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_8
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let v685 : BitVec 32 := Scalar.addi v652 c0_i32_444
  let c1_i32_445 : BitVec 32 := 1#32
  let v686 : BitVec 32 := Scalar.addi v685 c1_i32_445
  let v687 : BitVec 32 := Scalar.subi v16 v686
  let c512_i32_446 : BitVec 32 := 512#32
  let v688 : BitVec 32 := Scalar.muli v687 c512_i32_446
  let v689 : BitVec 32 := v688
  let v690 : Index := Scalar.indexCast v689
  let c0_447 : Index := 0#32
  ![v690.toNat, 0]
def k0_mult7 (i : grid0.Coords) (k0_t1 : Fin (k0_t1_loop i).trips) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c0_i32_456 : BitVec 32 := 0#32
  let v703 : BitVec 32 := Scalar.addi v652 c0_i32_456
  let v704 : BitVec 32 := Scalar.subi v19 v703
  let c512_i32_457 : BitVec 32 := 512#32
  let v705 : BitVec 32 := Scalar.muli v704 c512_i32_457
  v705
def k0_mult8 (i : grid0.Coords) (k0_t1 : Fin (k0_t1_loop i).trips) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c0_i32_478 : BitVec 32 := 0#32
  let v735 : BitVec 32 := Scalar.addi v652 c0_i32_478
  let c1_i32_479 : BitVec 32 := 1#32
  let v736 : BitVec 32 := Scalar.addi v735 c1_i32_479
  let v737 : BitVec 32 := Scalar.subi v19 v736
  let c512_i32_480 : BitVec 32 := 512#32
  let v738 : BitVec 32 := Scalar.muli v737 c512_i32_480
  v738
def k0_mult9 (i : grid0.Coords) (k0_t1 : Fin (k0_t1_loop i).trips) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c0_i32_490 : BitVec 32 := 0#32
  let v753 : BitVec 32 := Scalar.addi v652 c0_i32_490
  let v754 : BitVec 32 := Scalar.subi v22 v753
  let c512_i32_491 : BitVec 32 := 512#32
  let v755 : BitVec 32 := Scalar.muli v754 c512_i32_491
  v755
def k0_mult10 (i : grid0.Coords) (k0_t1 : Fin (k0_t1_loop i).trips) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c0_i32_512 : BitVec 32 := 0#32
  let v785 : BitVec 32 := Scalar.addi v652 c0_i32_512
  let c1_i32_513 : BitVec 32 := 1#32
  let v786 : BitVec 32 := Scalar.addi v785 c1_i32_513
  let v787 : BitVec 32 := Scalar.subi v22 v786
  let c512_i32_514 : BitVec 32 := 512#32
  let v788 : BitVec 32 := Scalar.muli v787 c512_i32_514
  v788
def k0_mult11 (i : grid0.Coords) (k0_t1 : Fin (k0_t1_loop i).trips) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c0_i32_524 : BitVec 32 := 0#32
  let v803 : BitVec 32 := Scalar.addi v652 c0_i32_524
  let v804 : BitVec 32 := Scalar.subi v25 v803
  let c512_i32_525 : BitVec 32 := 512#32
  let v805 : BitVec 32 := Scalar.muli v804 c512_i32_525
  v805
def k0_mult12 (i : grid0.Coords) (k0_t1 : Fin (k0_t1_loop i).trips) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c0_i32_546 : BitVec 32 := 0#32
  let v835 : BitVec 32 := Scalar.addi v652 c0_i32_546
  let c1_i32_547 : BitVec 32 := 1#32
  let v836 : BitVec 32 := Scalar.addi v835 c1_i32_547
  let v837 : BitVec 32 := Scalar.subi v25 v836
  let c512_i32_548 : BitVec 32 := 512#32
  let v838 : BitVec 32 := Scalar.muli v837 c512_i32_548
  v838
def k0_mult13 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c1_i32_558 : BitVec 32 := 1#32
  let v853 : BitVec 32 := Scalar.addi v652 c1_i32_558
  let v854 : BitVec 32 := Scalar.subi v16 v853
  let c512_i32_559 : BitVec 32 := 512#32
  let v855 : BitVec 32 := Scalar.muli v854 c512_i32_559
  v855
def k0_mult14 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c1_i32_580 : BitVec 32 := 1#32
  let v885 : BitVec 32 := Scalar.addi v652 c1_i32_580
  let c1_i32_581 : BitVec 32 := 1#32
  let v886 : BitVec 32 := Scalar.addi v885 c1_i32_581
  let v887 : BitVec 32 := Scalar.subi v16 v886
  let c512_i32_582 : BitVec 32 := 512#32
  let v888 : BitVec 32 := Scalar.muli v887 c512_i32_582
  v888
def k0_mult15 (i : grid0.Coords) (k0_t1 : Fin (k0_t1_loop i).trips) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c1_i32_592 : BitVec 32 := 1#32
  let v903 : BitVec 32 := Scalar.addi v652 c1_i32_592
  let v904 : BitVec 32 := Scalar.subi v19 v903
  let c512_i32_593 : BitVec 32 := 512#32
  let v905 : BitVec 32 := Scalar.muli v904 c512_i32_593
  v905
def k0_mult16 (i : grid0.Coords) (k0_t1 : Fin (k0_t1_loop i).trips) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c1_i32_614 : BitVec 32 := 1#32
  let v935 : BitVec 32 := Scalar.addi v652 c1_i32_614
  let c1_i32_615 : BitVec 32 := 1#32
  let v936 : BitVec 32 := Scalar.addi v935 c1_i32_615
  let v937 : BitVec 32 := Scalar.subi v19 v936
  let c512_i32_616 : BitVec 32 := 512#32
  let v938 : BitVec 32 := Scalar.muli v937 c512_i32_616
  v938
def k0_mult17 (i : grid0.Coords) (k0_t1 : Fin (k0_t1_loop i).trips) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c1_i32_626 : BitVec 32 := 1#32
  let v953 : BitVec 32 := Scalar.addi v652 c1_i32_626
  let v954 : BitVec 32 := Scalar.subi v22 v953
  let c512_i32_627 : BitVec 32 := 512#32
  let v955 : BitVec 32 := Scalar.muli v954 c512_i32_627
  v955
def k0_mult18 (i : grid0.Coords) (k0_t1 : Fin (k0_t1_loop i).trips) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c1_i32_648 : BitVec 32 := 1#32
  let v985 : BitVec 32 := Scalar.addi v652 c1_i32_648
  let c1_i32_649 : BitVec 32 := 1#32
  let v986 : BitVec 32 := Scalar.addi v985 c1_i32_649
  let v987 : BitVec 32 := Scalar.subi v22 v986
  let c512_i32_650 : BitVec 32 := 512#32
  let v988 : BitVec 32 := Scalar.muli v987 c512_i32_650
  v988
def k0_mult19 (i : grid0.Coords) (k0_t1 : Fin (k0_t1_loop i).trips) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c1_i32_660 : BitVec 32 := 1#32
  let v1003 : BitVec 32 := Scalar.addi v652 c1_i32_660
  let v1004 : BitVec 32 := Scalar.subi v25 v1003
  let c512_i32_661 : BitVec 32 := 512#32
  let v1005 : BitVec 32 := Scalar.muli v1004 c512_i32_661
  v1005
def k0_mult20 (i : grid0.Coords) (k0_t1 : Fin (k0_t1_loop i).trips) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_421 : BitVec 32 := 0#32
  let c0_i32_67 : BitVec 32 := 0#32
  let c1_i32_69 : BitVec 32 := 1#32
  let arg12 : BitVec 32 := Scf.iv c0_i32_67 c1_i32_69 k0_t1
  let c2_i32_420 : BitVec 32 := 2#32
  let v651 : BitVec 32 := Scalar.muli arg12 c2_i32_420
  let v652 : BitVec 32 := Scalar.addi c0_i32_421 v651
  let c1_i32_682 : BitVec 32 := 1#32
  let v1035 : BitVec 32 := Scalar.addi v652 c1_i32_682
  let c1_i32_683 : BitVec 32 := 1#32
  let v1036 : BitVec 32 := Scalar.addi v1035 c1_i32_683
  let v1037 : BitVec 32 := Scalar.subi v25 v1036
  let c512_i32_684 : BitVec 32 := 512#32
  let v1038 : BitVec 32 := Scalar.muli v1037 c512_i32_684
  v1038
@[reducible] def k0_t2_loop (i : grid0.Coords) : Scf.Loop 32 :=
  let c0_i32_67 : BitVec 32 := 0#32
  let c4_i32_17 : BitVec 32 := 4#32
  let arg1 : BitVec 32 := BitVec.ofNat 32 (i 1).val
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let v117 : BitVec 32 := Scalar.addi c0_i32_67 v116
  let c1_i32_70 : BitVec 32 := 1#32
  ⟨v120, v117, c1_i32_70⟩
def k0_mult21 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c0_i32_422 : BitVec 32 := 0#32
  let v653 : BitVec 32 := Scalar.addi v652 c0_i32_422
  let v654 : BitVec 32 := Scalar.subi v16 v653
  let c512_i32_423 : BitVec 32 := 512#32
  let v655 : BitVec 32 := Scalar.muli v654 c512_i32_423
  v655
def k0_off4 (i : grid0.Coords) (k0_t2 : Fin (k0_t2_loop i).trips) (c0_i32_8 : BitVec 32) (c0_i32_422 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_8
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let v653 : BitVec 32 := Scalar.addi v652 c0_i32_422
  let v654 : BitVec 32 := Scalar.subi v16 v653
  let c512_i32_423 : BitVec 32 := 512#32
  let v655 : BitVec 32 := Scalar.muli v654 c512_i32_423
  let v656 : BitVec 32 := v655
  let v657 : Index := Scalar.indexCast v656
  let c0_424 : Index := 0#32
  ![v657.toNat, 0]
def k0_mult22 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c0_i32_444 : BitVec 32 := 0#32
  let v685 : BitVec 32 := Scalar.addi v652 c0_i32_444
  let c1_i32_445 : BitVec 32 := 1#32
  let v686 : BitVec 32 := Scalar.addi v685 c1_i32_445
  let v687 : BitVec 32 := Scalar.subi v16 v686
  let c512_i32_446 : BitVec 32 := 512#32
  let v688 : BitVec 32 := Scalar.muli v687 c512_i32_446
  v688
def k0_off5 (i : grid0.Coords) (k0_t2 : Fin (k0_t2_loop i).trips) (c0_i32_8 : BitVec 32) (c0_i32_444 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_8
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let v685 : BitVec 32 := Scalar.addi v652 c0_i32_444
  let c1_i32_445 : BitVec 32 := 1#32
  let v686 : BitVec 32 := Scalar.addi v685 c1_i32_445
  let v687 : BitVec 32 := Scalar.subi v16 v686
  let c512_i32_446 : BitVec 32 := 512#32
  let v688 : BitVec 32 := Scalar.muli v687 c512_i32_446
  let v689 : BitVec 32 := v688
  let v690 : Index := Scalar.indexCast v689
  let c0_447 : Index := 0#32
  ![v690.toNat, 0]
def k0_mult23 (i : grid0.Coords) (k0_t2 : Fin (k0_t2_loop i).trips) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c0_i32_456 : BitVec 32 := 0#32
  let v703 : BitVec 32 := Scalar.addi v652 c0_i32_456
  let v704 : BitVec 32 := Scalar.subi v19 v703
  let c512_i32_457 : BitVec 32 := 512#32
  let v705 : BitVec 32 := Scalar.muli v704 c512_i32_457
  v705
def k0_mult24 (i : grid0.Coords) (k0_t2 : Fin (k0_t2_loop i).trips) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c0_i32_478 : BitVec 32 := 0#32
  let v735 : BitVec 32 := Scalar.addi v652 c0_i32_478
  let c1_i32_479 : BitVec 32 := 1#32
  let v736 : BitVec 32 := Scalar.addi v735 c1_i32_479
  let v737 : BitVec 32 := Scalar.subi v19 v736
  let c512_i32_480 : BitVec 32 := 512#32
  let v738 : BitVec 32 := Scalar.muli v737 c512_i32_480
  v738
def k0_mult25 (i : grid0.Coords) (k0_t2 : Fin (k0_t2_loop i).trips) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c0_i32_490 : BitVec 32 := 0#32
  let v753 : BitVec 32 := Scalar.addi v652 c0_i32_490
  let v754 : BitVec 32 := Scalar.subi v22 v753
  let c512_i32_491 : BitVec 32 := 512#32
  let v755 : BitVec 32 := Scalar.muli v754 c512_i32_491
  v755
def k0_mult26 (i : grid0.Coords) (k0_t2 : Fin (k0_t2_loop i).trips) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c0_i32_512 : BitVec 32 := 0#32
  let v785 : BitVec 32 := Scalar.addi v652 c0_i32_512
  let c1_i32_513 : BitVec 32 := 1#32
  let v786 : BitVec 32 := Scalar.addi v785 c1_i32_513
  let v787 : BitVec 32 := Scalar.subi v22 v786
  let c512_i32_514 : BitVec 32 := 512#32
  let v788 : BitVec 32 := Scalar.muli v787 c512_i32_514
  v788
def k0_mult27 (i : grid0.Coords) (k0_t2 : Fin (k0_t2_loop i).trips) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c0_i32_524 : BitVec 32 := 0#32
  let v803 : BitVec 32 := Scalar.addi v652 c0_i32_524
  let v804 : BitVec 32 := Scalar.subi v25 v803
  let c512_i32_525 : BitVec 32 := 512#32
  let v805 : BitVec 32 := Scalar.muli v804 c512_i32_525
  v805
def k0_mult28 (i : grid0.Coords) (k0_t2 : Fin (k0_t2_loop i).trips) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c0_i32_546 : BitVec 32 := 0#32
  let v835 : BitVec 32 := Scalar.addi v652 c0_i32_546
  let c1_i32_547 : BitVec 32 := 1#32
  let v836 : BitVec 32 := Scalar.addi v835 c1_i32_547
  let v837 : BitVec 32 := Scalar.subi v25 v836
  let c512_i32_548 : BitVec 32 := 512#32
  let v838 : BitVec 32 := Scalar.muli v837 c512_i32_548
  v838
def k0_mult29 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c1_i32_558 : BitVec 32 := 1#32
  let v853 : BitVec 32 := Scalar.addi v652 c1_i32_558
  let v854 : BitVec 32 := Scalar.subi v16 v853
  let c512_i32_559 : BitVec 32 := 512#32
  let v855 : BitVec 32 := Scalar.muli v854 c512_i32_559
  v855
def k0_mult30 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c1_i32_580 : BitVec 32 := 1#32
  let v885 : BitVec 32 := Scalar.addi v652 c1_i32_580
  let c1_i32_581 : BitVec 32 := 1#32
  let v886 : BitVec 32 := Scalar.addi v885 c1_i32_581
  let v887 : BitVec 32 := Scalar.subi v16 v886
  let c512_i32_582 : BitVec 32 := 512#32
  let v888 : BitVec 32 := Scalar.muli v887 c512_i32_582
  v888
def k0_mult31 (i : grid0.Coords) (k0_t2 : Fin (k0_t2_loop i).trips) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c1_i32_592 : BitVec 32 := 1#32
  let v903 : BitVec 32 := Scalar.addi v652 c1_i32_592
  let v904 : BitVec 32 := Scalar.subi v19 v903
  let c512_i32_593 : BitVec 32 := 512#32
  let v905 : BitVec 32 := Scalar.muli v904 c512_i32_593
  v905
def k0_mult32 (i : grid0.Coords) (k0_t2 : Fin (k0_t2_loop i).trips) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c1_i32_614 : BitVec 32 := 1#32
  let v935 : BitVec 32 := Scalar.addi v652 c1_i32_614
  let c1_i32_615 : BitVec 32 := 1#32
  let v936 : BitVec 32 := Scalar.addi v935 c1_i32_615
  let v937 : BitVec 32 := Scalar.subi v19 v936
  let c512_i32_616 : BitVec 32 := 512#32
  let v938 : BitVec 32 := Scalar.muli v937 c512_i32_616
  v938
def k0_mult33 (i : grid0.Coords) (k0_t2 : Fin (k0_t2_loop i).trips) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c1_i32_626 : BitVec 32 := 1#32
  let v953 : BitVec 32 := Scalar.addi v652 c1_i32_626
  let v954 : BitVec 32 := Scalar.subi v22 v953
  let c512_i32_627 : BitVec 32 := 512#32
  let v955 : BitVec 32 := Scalar.muli v954 c512_i32_627
  v955
def k0_mult34 (i : grid0.Coords) (k0_t2 : Fin (k0_t2_loop i).trips) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c1_i32_648 : BitVec 32 := 1#32
  let v985 : BitVec 32 := Scalar.addi v652 c1_i32_648
  let c1_i32_649 : BitVec 32 := 1#32
  let v986 : BitVec 32 := Scalar.addi v985 c1_i32_649
  let v987 : BitVec 32 := Scalar.subi v22 v986
  let c512_i32_650 : BitVec 32 := 512#32
  let v988 : BitVec 32 := Scalar.muli v987 c512_i32_650
  v988
def k0_mult35 (i : grid0.Coords) (k0_t2 : Fin (k0_t2_loop i).trips) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c1_i32_660 : BitVec 32 := 1#32
  let v1003 : BitVec 32 := Scalar.addi v652 c1_i32_660
  let v1004 : BitVec 32 := Scalar.subi v25 v1003
  let c512_i32_661 : BitVec 32 := 512#32
  let v1005 : BitVec 32 := Scalar.muli v1004 c512_i32_661
  v1005
def k0_mult36 (i : grid0.Coords) (k0_t2 : Fin (k0_t2_loop i).trips) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_421 : BitVec 32 := 0#32
  let c0_i32_67 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let v116 : BitVec 32 := Scalar.subi v115 c0_i32_67
  let c1_i32_68 : BitVec 32 := 1#32
  let v118 : BitVec 32 := Scalar.divsi v116 c1_i32_68
  let v119 : BitVec 32 := Scalar.muli v118 c1_i32_68
  let v120 : BitVec 32 := Scalar.addi c0_i32_67 v119
  let c1_i32_70 : BitVec 32 := 1#32
  let arg12 : BitVec 32 := Scf.iv v120 c1_i32_70 k0_t2
  let c2_i32_420 : BitVec 32 := 2#32
  let v651 : BitVec 32 := Scalar.muli arg12 c2_i32_420
  let v652 : BitVec 32 := Scalar.addi c0_i32_421 v651
  let c1_i32_682 : BitVec 32 := 1#32
  let v1035 : BitVec 32 := Scalar.addi v652 c1_i32_682
  let c1_i32_683 : BitVec 32 := 1#32
  let v1036 : BitVec 32 := Scalar.addi v1035 c1_i32_683
  let v1037 : BitVec 32 := Scalar.subi v25 v1036
  let c512_i32_684 : BitVec 32 := 512#32
  let v1038 : BitVec 32 := Scalar.muli v1037 c512_i32_684
  v1038
def k0_cond1 (i : grid0.Coords) : BitVec 1 :=
  let c4_i32_17 : BitVec 32 := 4#32
  let arg1 : BitVec 32 := BitVec.ofNat 32 (i 1).val
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_73 : BitVec 32 := 1#32
  let v123 : BitVec 32 := Scalar.andi v114 c1_i32_73
  let c0_i32_74 : BitVec 32 := 0#32
  let v124 : BitVec 1 := Scalar.cmpi .ne v123 c0_i32_74
  let v125 : BitVec 32 := Scalar.extui v124
  let c0_i32_75 : BitVec 32 := 0#32
  let v126 : BitVec 1 := Scalar.cmpi .ne v125 c0_i32_75
  v126

def k0_mult37 (i : grid0.Coords) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_420 : BitVec 32 := 0#32
  let v651 : BitVec 32 := Scalar.addi v122 c0_i32_420
  let v652 : BitVec 32 := Scalar.subi v16 v651
  let c512_i32_421 : BitVec 32 := 512#32
  let v653 : BitVec 32 := Scalar.muli v652 c512_i32_421
  v653
def k0_off6 (i : grid0.Coords) (c0_i32_8 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_8
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_420 : BitVec 32 := 0#32
  let v651 : BitVec 32 := Scalar.addi v122 c0_i32_420
  let v652 : BitVec 32 := Scalar.subi v16 v651
  let c512_i32_421 : BitVec 32 := 512#32
  let v653 : BitVec 32 := Scalar.muli v652 c512_i32_421
  let v654 : BitVec 32 := v653
  let v655 : Index := Scalar.indexCast v654
  let c0_422 : Index := 0#32
  ![v655.toNat, 0]
def k0_mult38 (i : grid0.Coords) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_442 : BitVec 32 := 0#32
  let v683 : BitVec 32 := Scalar.addi v122 c0_i32_442
  let c1_i32_443 : BitVec 32 := 1#32
  let v684 : BitVec 32 := Scalar.addi v683 c1_i32_443
  let v685 : BitVec 32 := Scalar.subi v16 v684
  let c512_i32_444 : BitVec 32 := 512#32
  let v686 : BitVec 32 := Scalar.muli v685 c512_i32_444
  v686
def k0_off7 (i : grid0.Coords) (c0_i32_8 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_8
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_442 : BitVec 32 := 0#32
  let v683 : BitVec 32 := Scalar.addi v122 c0_i32_442
  let c1_i32_443 : BitVec 32 := 1#32
  let v684 : BitVec 32 := Scalar.addi v683 c1_i32_443
  let v685 : BitVec 32 := Scalar.subi v16 v684
  let c512_i32_444 : BitVec 32 := 512#32
  let v686 : BitVec 32 := Scalar.muli v685 c512_i32_444
  let v687 : BitVec 32 := v686
  let v688 : Index := Scalar.indexCast v687
  let c0_445 : Index := 0#32
  ![v688.toNat, 0]
def k0_mult39 (i : grid0.Coords) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_454 : BitVec 32 := 0#32
  let v701 : BitVec 32 := Scalar.addi v122 c0_i32_454
  let v702 : BitVec 32 := Scalar.subi v19 v701
  let c512_i32_455 : BitVec 32 := 512#32
  let v703 : BitVec 32 := Scalar.muli v702 c512_i32_455
  v703
def k0_mult40 (i : grid0.Coords) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_476 : BitVec 32 := 0#32
  let v733 : BitVec 32 := Scalar.addi v122 c0_i32_476
  let c1_i32_477 : BitVec 32 := 1#32
  let v734 : BitVec 32 := Scalar.addi v733 c1_i32_477
  let v735 : BitVec 32 := Scalar.subi v19 v734
  let c512_i32_478 : BitVec 32 := 512#32
  let v736 : BitVec 32 := Scalar.muli v735 c512_i32_478
  v736
def k0_mult41 (i : grid0.Coords) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_488 : BitVec 32 := 0#32
  let v751 : BitVec 32 := Scalar.addi v122 c0_i32_488
  let v752 : BitVec 32 := Scalar.subi v22 v751
  let c512_i32_489 : BitVec 32 := 512#32
  let v753 : BitVec 32 := Scalar.muli v752 c512_i32_489
  v753
def k0_mult42 (i : grid0.Coords) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_510 : BitVec 32 := 0#32
  let v783 : BitVec 32 := Scalar.addi v122 c0_i32_510
  let c1_i32_511 : BitVec 32 := 1#32
  let v784 : BitVec 32 := Scalar.addi v783 c1_i32_511
  let v785 : BitVec 32 := Scalar.subi v22 v784
  let c512_i32_512 : BitVec 32 := 512#32
  let v786 : BitVec 32 := Scalar.muli v785 c512_i32_512
  v786
def k0_mult43 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_522 : BitVec 32 := 0#32
  let v801 : BitVec 32 := Scalar.addi v122 c0_i32_522
  let v802 : BitVec 32 := Scalar.subi v25 v801
  let c512_i32_523 : BitVec 32 := 512#32
  let v803 : BitVec 32 := Scalar.muli v802 c512_i32_523
  v803
def k0_mult44 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c0_i32_72 : BitVec 32 := 0#32
  let c4_i32_17 : BitVec 32 := 4#32
  let v27 : BitVec 32 := Scalar.muli c4_i32_17 arg1
  let c1_i32_18 : BitVec 32 := 1#32
  let v28 : BitVec 32 := Scalar.addi v27 c1_i32_18
  let c1_i32_63 : BitVec 32 := 1#32
  let v113 : BitVec 32 := Scalar.subi v28 c1_i32_63
  let c0_i32_64 : BitVec 32 := 0#32
  let v114 : BitVec 32 := Scalar.subi v113 c0_i32_64
  let c1_i32_65 : BitVec 32 := 1#32
  let v115 : BitVec 32 := Scalar.shrui v114 c1_i32_65
  let c2_i32_71 : BitVec 32 := 2#32
  let v121 : BitVec 32 := Scalar.muli v115 c2_i32_71
  let v122 : BitVec 32 := Scalar.addi c0_i32_72 v121
  let c0_i32_544 : BitVec 32 := 0#32
  let v833 : BitVec 32 := Scalar.addi v122 c0_i32_544
  let c1_i32_545 : BitVec 32 := 1#32
  let v834 : BitVec 32 := Scalar.addi v833 c1_i32_545
  let v835 : BitVec 32 := Scalar.subi v25 v834
  let c512_i32_546 : BitVec 32 := 512#32
  let v836 : BitVec 32 := Scalar.muli v835 c512_i32_546
  v836
def k0_mult45 (i : grid0.Coords) : BitVec 32 :=
  let c4_i32 : BitVec 32 := 4#32
  let arg1 : BitVec 32 := BitVec.ofNat 32 (i 1).val
  let v15 : BitVec 32 := Scalar.muli c4_i32 arg1
  let c0_i32_8 : BitVec 32 := 0#32
  let v16 : BitVec 32 := Scalar.addi v15 c0_i32_8
  let c4_i32_17 : BitVec 32 := 4#32
  let v27 : BitVec 32 := Scalar.muli c4_i32_17 arg1
  let c1_i32_18 : BitVec 32 := 1#32
  let v28 : BitVec 32 := Scalar.addi v27 c1_i32_18
  let c1_i32_76 : BitVec 32 := 1#32
  let v127 : BitVec 32 := Scalar.subi v28 c1_i32_76
  let c0_i32_77 : BitVec 32 := 0#32
  let v128 : BitVec 32 := Scalar.addi v127 c0_i32_77
  let v129 : BitVec 32 := Scalar.subi v16 v128
  let c512_i32_78 : BitVec 32 := 512#32
  let v130 : BitVec 32 := Scalar.muli v129 c512_i32_78
  v130
def k0_off8 (i : grid0.Coords) (c0_i32_8 : BitVec 32) (c0_i32_77 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_8
  let c4_i32_17 : BitVec 32 := 4#32
  let v27 : BitVec 32 := Scalar.muli c4_i32_17 arg1
  let c1_i32_18 : BitVec 32 := 1#32
  let v28 : BitVec 32 := Scalar.addi v27 c1_i32_18
  let c1_i32_76 : BitVec 32 := 1#32
  let v127 : BitVec 32 := Scalar.subi v28 c1_i32_76
  let v128 : BitVec 32 := Scalar.addi v127 c0_i32_77
  let v129 : BitVec 32 := Scalar.subi v16 v128
  let c512_i32_78 : BitVec 32 := 512#32
  let v130 : BitVec 32 := Scalar.muli v129 c512_i32_78
  let v131 : BitVec 32 := v130
  let v132 : Index := Scalar.indexCast v131
  let c0_79 : Index := 0#32
  ![v132.toNat, 0]
def k0_off8_at (r : Fin 10) : BitVec 32 × BitVec 32 :=
  if r.val < 5 then
    if r.val < 2 then
      if r.val < 1 then
        (0#32, 0#32)
      else
        (1#32, 0#32)
    else
      if r.val < 3 then
        (2#32, 0#32)
      else
        if r.val < 4 then
          (3#32, 0#32)
        else
          (1#32, 1#32)
  else
    if r.val < 7 then
      if r.val < 6 then
        (2#32, 1#32)
      else
        (3#32, 1#32)
    else
      if r.val < 8 then
        (2#32, 2#32)
      else
        if r.val < 9 then
          (3#32, 2#32)
        else
          (3#32, 3#32)
def k0_mult46 (i : grid0.Coords) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_99 : BitVec 32 := 1#32
  let v160 : BitVec 32 := Scalar.subi v28 c1_i32_99
  let c0_i32_100 : BitVec 32 := 0#32
  let v161 : BitVec 32 := Scalar.addi v160 c0_i32_100
  let v162 : BitVec 32 := Scalar.subi v19 v161
  let c512_i32_101 : BitVec 32 := 512#32
  let v163 : BitVec 32 := Scalar.muli v162 c512_i32_101
  v163
def k0_mult47 (i : grid0.Coords) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c4_i32_17 : BitVec 32 := 4#32
  let v27 : BitVec 32 := Scalar.muli c4_i32_17 arg1
  let c1_i32_18 : BitVec 32 := 1#32
  let v28 : BitVec 32 := Scalar.addi v27 c1_i32_18
  let c0_i32_122 : BitVec 32 := 0#32
  let v193 : BitVec 32 := Scalar.addi v28 c0_i32_122
  let v194 : BitVec 32 := Scalar.subi v19 v193
  let c512_i32_123 : BitVec 32 := 512#32
  let v195 : BitVec 32 := Scalar.muli v194 c512_i32_123
  v195
def k0_off9 (i : grid0.Coords) (c1_i32 : BitVec 32) (c0_i32_122 : BitVec 32) : Fin 2 → Nat :=
  let c4_i32_11 : BitVec 32 := 4#32
  let arg1 : BitVec 32 := BitVec.ofNat 32 (i 1).val
  let v18 : BitVec 32 := Scalar.muli c4_i32_11 arg1
  let v19 : BitVec 32 := Scalar.addi v18 c1_i32
  let c4_i32_17 : BitVec 32 := 4#32
  let v27 : BitVec 32 := Scalar.muli c4_i32_17 arg1
  let c1_i32_18 : BitVec 32 := 1#32
  let v28 : BitVec 32 := Scalar.addi v27 c1_i32_18
  let v193 : BitVec 32 := Scalar.addi v28 c0_i32_122
  let v194 : BitVec 32 := Scalar.subi v19 v193
  let c512_i32_123 : BitVec 32 := 512#32
  let v195 : BitVec 32 := Scalar.muli v194 c512_i32_123
  let v196 : BitVec 32 := v195
  let v197 : Index := Scalar.indexCast v196
  let c0_124 : Index := 0#32
  ![v197.toNat, 0]
def k0_off9_at (r : Fin 6) : BitVec 32 × BitVec 32 :=
  if r.val < 3 then
    if r.val < 1 then
      (1#32, 0#32)
    else
      if r.val < 2 then
        (2#32, 0#32)
      else
        (3#32, 0#32)
  else
    if r.val < 4 then
      (2#32, 1#32)
    else
      if r.val < 5 then
        (3#32, 1#32)
      else
        (3#32, 2#32)
def k0_mult48 (i : grid0.Coords) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_133 : BitVec 32 := 1#32
  let v210 : BitVec 32 := Scalar.subi v28 c1_i32_133
  let c0_i32_134 : BitVec 32 := 0#32
  let v211 : BitVec 32 := Scalar.addi v210 c0_i32_134
  let v212 : BitVec 32 := Scalar.subi v22 v211
  let c512_i32_135 : BitVec 32 := 512#32
  let v213 : BitVec 32 := Scalar.muli v212 c512_i32_135
  v213
def k0_mult49 (i : grid0.Coords) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c4_i32_17 : BitVec 32 := 4#32
  let v27 : BitVec 32 := Scalar.muli c4_i32_17 arg1
  let c1_i32_18 : BitVec 32 := 1#32
  let v28 : BitVec 32 := Scalar.addi v27 c1_i32_18
  let c0_i32_156 : BitVec 32 := 0#32
  let v243 : BitVec 32 := Scalar.addi v28 c0_i32_156
  let v244 : BitVec 32 := Scalar.subi v22 v243
  let c512_i32_157 : BitVec 32 := 512#32
  let v245 : BitVec 32 := Scalar.muli v244 c512_i32_157
  v245
def k0_mult50 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_167 : BitVec 32 := 1#32
  let v260 : BitVec 32 := Scalar.subi v28 c1_i32_167
  let c0_i32_168 : BitVec 32 := 0#32
  let v261 : BitVec 32 := Scalar.addi v260 c0_i32_168
  let v262 : BitVec 32 := Scalar.subi v25 v261
  let c512_i32_169 : BitVec 32 := 512#32
  let v263 : BitVec 32 := Scalar.muli v262 c512_i32_169
  v263
def k0_mult51 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c4_i32_17 : BitVec 32 := 4#32
  let v27 : BitVec 32 := Scalar.muli c4_i32_17 arg1
  let c1_i32_18 : BitVec 32 := 1#32
  let v28 : BitVec 32 := Scalar.addi v27 c1_i32_18
  let c0_i32_190 : BitVec 32 := 0#32
  let v293 : BitVec 32 := Scalar.addi v28 c0_i32_190
  let v294 : BitVec 32 := Scalar.subi v25 v293
  let c512_i32_191 : BitVec 32 := 512#32
  let v295 : BitVec 32 := Scalar.muli v294 c512_i32_191
  v295
def k0_mult52 (i : grid0.Coords) : BitVec 32 :=
  let c4_i32_11 : BitVec 32 := 4#32
  let arg1 : BitVec 32 := BitVec.ofNat 32 (i 1).val
  let v18 : BitVec 32 := Scalar.muli c4_i32_11 arg1
  let c1_i32 : BitVec 32 := 1#32
  let v19 : BitVec 32 := Scalar.addi v18 c1_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_213 : BitVec 32 := 1#32
  let v333 : BitVec 32 := Scalar.subi v28 c1_i32_213
  let c1_i32_214 : BitVec 32 := 1#32
  let v334 : BitVec 32 := Scalar.addi v333 c1_i32_214
  let v335 : BitVec 32 := Scalar.subi v19 v334
  let c512_i32_215 : BitVec 32 := 512#32
  let v336 : BitVec 32 := Scalar.muli v335 c512_i32_215
  v336
def k0_mult53 (i : grid0.Coords) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_236 : BitVec 32 := 1#32
  let v366 : BitVec 32 := Scalar.subi v28 c1_i32_236
  let c1_i32_237 : BitVec 32 := 1#32
  let v367 : BitVec 32 := Scalar.addi v366 c1_i32_237
  let v368 : BitVec 32 := Scalar.subi v22 v367
  let c512_i32_238 : BitVec 32 := 512#32
  let v369 : BitVec 32 := Scalar.muli v368 c512_i32_238
  v369
def k0_mult54 (i : grid0.Coords) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_259 : BitVec 32 := 1#32
  let v399 : BitVec 32 := Scalar.addi v28 c1_i32_259
  let v400 : BitVec 32 := Scalar.subi v22 v399
  let c512_i32_260 : BitVec 32 := 512#32
  let v401 : BitVec 32 := Scalar.muli v400 c512_i32_260
  v401
def k0_mult55 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_270 : BitVec 32 := 1#32
  let v416 : BitVec 32 := Scalar.subi v28 c1_i32_270
  let c1_i32_271 : BitVec 32 := 1#32
  let v417 : BitVec 32 := Scalar.addi v416 c1_i32_271
  let v418 : BitVec 32 := Scalar.subi v25 v417
  let c512_i32_272 : BitVec 32 := 512#32
  let v419 : BitVec 32 := Scalar.muli v418 c512_i32_272
  v419
def k0_mult56 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_293 : BitVec 32 := 1#32
  let v449 : BitVec 32 := Scalar.addi v28 c1_i32_293
  let v450 : BitVec 32 := Scalar.subi v25 v449
  let c512_i32_294 : BitVec 32 := 512#32
  let v451 : BitVec 32 := Scalar.muli v450 c512_i32_294
  v451
def k0_mult57 (i : grid0.Coords) : BitVec 32 :=
  let c4_i32_13 : BitVec 32 := 4#32
  let arg1 : BitVec 32 := BitVec.ofNat 32 (i 1).val
  let v21 : BitVec 32 := Scalar.muli c4_i32_13 arg1
  let c2_i32 : BitVec 32 := 2#32
  let v22 : BitVec 32 := Scalar.addi v21 c2_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_316 : BitVec 32 := 1#32
  let v489 : BitVec 32 := Scalar.subi v28 c1_i32_316
  let c2_i32_317 : BitVec 32 := 2#32
  let v490 : BitVec 32 := Scalar.addi v489 c2_i32_317
  let v491 : BitVec 32 := Scalar.subi v22 v490
  let c512_i32_318 : BitVec 32 := 512#32
  let v492 : BitVec 32 := Scalar.muli v491 c512_i32_318
  v492
def k0_mult58 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_339 : BitVec 32 := 1#32
  let v522 : BitVec 32 := Scalar.subi v28 c1_i32_339
  let c2_i32_340 : BitVec 32 := 2#32
  let v523 : BitVec 32 := Scalar.addi v522 c2_i32_340
  let v524 : BitVec 32 := Scalar.subi v25 v523
  let c512_i32_341 : BitVec 32 := 512#32
  let v525 : BitVec 32 := Scalar.muli v524 c512_i32_341
  v525
def k0_mult59 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c4_i32_17 : BitVec 32 := 4#32
  let v27 : BitVec 32 := Scalar.muli c4_i32_17 arg1
  let c1_i32_18 : BitVec 32 := 1#32
  let v28 : BitVec 32 := Scalar.addi v27 c1_i32_18
  let c2_i32_362 : BitVec 32 := 2#32
  let v555 : BitVec 32 := Scalar.addi v28 c2_i32_362
  let v556 : BitVec 32 := Scalar.subi v25 v555
  let c512_i32_363 : BitVec 32 := 512#32
  let v557 : BitVec 32 := Scalar.muli v556 c512_i32_363
  v557
def k0_mult60 (i : grid0.Coords) : BitVec 32 :=
  let c4_i32_15 : BitVec 32 := 4#32
  let arg1 : BitVec 32 := BitVec.ofNat 32 (i 1).val
  let v24 : BitVec 32 := Scalar.muli c4_i32_15 arg1
  let c3_i32 : BitVec 32 := 3#32
  let v25 : BitVec 32 := Scalar.addi v24 c3_i32
  let c4_i32_17 : BitVec 32 := 4#32
  let v27 : BitVec 32 := Scalar.muli c4_i32_17 arg1
  let c1_i32_18 : BitVec 32 := 1#32
  let v28 : BitVec 32 := Scalar.addi v27 c1_i32_18
  let c1_i32_385 : BitVec 32 := 1#32
  let v595 : BitVec 32 := Scalar.subi v28 c1_i32_385
  let c3_i32_386 : BitVec 32 := 3#32
  let v596 : BitVec 32 := Scalar.addi v595 c3_i32_386
  let v597 : BitVec 32 := Scalar.subi v25 v596
  let c512_i32_387 : BitVec 32 := 512#32
  let v598 : BitVec 32 := Scalar.muli v597 c512_i32_387
  v598
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2560 : Shape := ⟨2, ![8192, 2560]⟩
abbrev S8192x1280 : Shape := ⟨2, ![8192, 1280]⟩
abbrev S8192x4096 : Shape := ⟨2, ![8192, 4096]⟩
abbrev S1x4096 : Shape := ⟨2, ![1, 4096]⟩
abbrev S8192x10x256 : Shape := ⟨3, ![8192, 10, 256]⟩
abbrev S10x8192x256 : Shape := ⟨3, ![10, 8192, 256]⟩
abbrev S8192x10x128 : Shape := ⟨3, ![8192, 10, 128]⟩
abbrev S10x8192x128 : Shape := ⟨3, ![10, 8192, 128]⟩
abbrev S8192 : Shape := ⟨1, ![8192]⟩
abbrev S10x8192x8192 : Shape := ⟨3, ![10, 8192, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S_ : Shape := ⟨0, ![]⟩
abbrev S10x8192 : Shape := ⟨2, ![10, 8192]⟩
abbrev S10x8192x1 : Shape := ⟨3, ![10, 8192, 1]⟩
abbrev S8192x10 : Shape := ⟨2, ![8192, 10]⟩
abbrev S8192x10x1 : Shape := ⟨3, ![8192, 10, 1]⟩
abbrev S1x1280 : Shape := ⟨2, ![1, 1280]⟩
abbrev S10x128 : Shape := ⟨2, ![10, 128]⟩
abbrev S1x10x128 : Shape := ⟨3, ![1, 10, 128]⟩

abbrev nBuf : Space → Nat
  | .hbm => 63
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x2560, .bf16⟩
  | .hbm, ⟨2, _⟩ => ⟨S8192x1280, .bf16⟩
  | .hbm, ⟨3, _⟩ => ⟨S8192x4096, .f32⟩
  | .hbm, ⟨4, _⟩ => ⟨S1x4096, .f32⟩
  | .hbm, ⟨5, _⟩ => ⟨S8192x2560, .f32⟩
  | .hbm, ⟨6, _⟩ => ⟨S8192x10x256, .f32⟩
  | .hbm, ⟨7, _⟩ => ⟨S10x8192x256, .f32⟩
  | .hbm, ⟨8, _⟩ => ⟨S8192x2560, .f32⟩
  | .hbm, ⟨9, _⟩ => ⟨S8192x10x256, .f32⟩
  | .hbm, ⟨10, _⟩ => ⟨S10x8192x256, .f32⟩
  | .hbm, ⟨11, _⟩ => ⟨S8192x1280, .f32⟩
  | .hbm, ⟨12, _⟩ => ⟨S8192x10x128, .f32⟩
  | .hbm, ⟨13, _⟩ => ⟨S10x8192x128, .f32⟩
  | .hbm, ⟨14, _⟩ => ⟨S8192, .i32⟩
  | .hbm, ⟨15, _⟩ => ⟨S10x8192x8192, .f32⟩
  | .hbm, ⟨16, _⟩ => ⟨S1x1x8192, .i32⟩
  | .hbm, ⟨17, _⟩ => ⟨S1x8192x1, .i32⟩
  | .hbm, ⟨18, _⟩ => ⟨S1x8192x8192, .i32⟩
  | .hbm, ⟨19, _⟩ => ⟨S1x8192x8192, .i32⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S10x8192x8192, .i1⟩
  | .hbm, ⟨24, _⟩ => ⟨S10x8192x8192, .f32⟩
  | .hbm, ⟨25, _⟩ => ⟨S10x8192x8192, .f32⟩
  | .hbm, ⟨26, _⟩ => ⟨S_, .f32⟩
  | .hbm, ⟨27, _⟩ => ⟨S10x8192, .f32⟩
  | .hbm, ⟨28, _⟩ => ⟨S10x8192x1, .f32⟩
  | .hbm, ⟨29, _⟩ => ⟨S10x8192x8192, .f32⟩
  | .hbm, ⟨30, _⟩ => ⟨S10x8192x8192, .f32⟩
  | .hbm, ⟨31, _⟩ => ⟨S_, .f32⟩
  | .hbm, ⟨32, _⟩ => ⟨S10x8192x8192, .f32⟩
  | .hbm, ⟨33, _⟩ => ⟨S10x8192x8192, .f32⟩
  | .hbm, ⟨34, _⟩ => ⟨S_, .f32⟩
  | .hbm, ⟨35, _⟩ => ⟨S10x8192, .f32⟩
  | .hbm, ⟨36, _⟩ => ⟨S10x8192x1, .f32⟩
  | .hbm, ⟨37, _⟩ => ⟨S10x8192x8192, .f32⟩
  | .hbm, ⟨38, _⟩ => ⟨S10x8192x8192, .f32⟩
  | .hbm, ⟨39, _⟩ => ⟨S10x8192x128, .f32⟩
  | .hbm, ⟨40, _⟩ => ⟨S8192x10x128, .f32⟩
  | .hbm, ⟨41, _⟩ => ⟨S8192x10x128, .f32⟩
  | .hbm, ⟨42, _⟩ => ⟨S_, .f32⟩
  | .hbm, ⟨43, _⟩ => ⟨S8192x10, .f32⟩
  | .hbm, ⟨44, _⟩ => ⟨S8192x10x1, .f32⟩
  | .hbm, ⟨45, _⟩ => ⟨S_, .f32⟩
  | .hbm, ⟨46, _⟩ => ⟨S8192x10x1, .f32⟩
  | .hbm, ⟨47, _⟩ => ⟨S8192x10x1, .f32⟩
  | .hbm, ⟨48, _⟩ => ⟨S_, .f32⟩
  | .hbm, ⟨49, _⟩ => ⟨S8192x10x1, .f32⟩
  | .hbm, ⟨50, _⟩ => ⟨S8192x10x1, .f32⟩
  | .hbm, ⟨51, _⟩ => ⟨S8192x10x1, .f32⟩
  | .hbm, ⟨52, _⟩ => ⟨S8192x10x128, .f32⟩
  | .hbm, ⟨53, _⟩ => ⟨S8192x10x128, .f32⟩
  | .hbm, ⟨54, _⟩ => ⟨S1x1280, .f32⟩
  | .hbm, ⟨55, _⟩ => ⟨S10x128, .f32⟩
  | .hbm, ⟨56, _⟩ => ⟨S1x10x128, .f32⟩
  | .hbm, ⟨57, _⟩ => ⟨S8192x10x128, .f32⟩
  | .hbm, ⟨58, _⟩ => ⟨S8192x10x128, .f32⟩
  | .hbm, ⟨59, _⟩ => ⟨S8192x1280, .f32⟩
  | .hbm, ⟨60, _⟩ => ⟨S8192x1280, .f32⟩
  | .hbm, ⟨61, _⟩ => ⟨S8192x1280, .f32⟩
  | .hbm, ⟨62, _⟩ => ⟨S8192x1280, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel2.lean ====
abbrev S8192x4096 : Shape := ⟨2, ![8192, 4096]⟩
abbrev S8192x1536 : Shape := ⟨2, ![8192, 1536]⟩
abbrev S8192x1280 : Shape := ⟨2, ![8192, 1280]⟩
abbrev S2x4096x4096 : Shape := ⟨3, ![2, 4096, 4096]⟩
abbrev S1024x512 : Shape := ⟨2, ![1024, 512]⟩
abbrev S1024x1536 : Shape := ⟨2, ![1024, 1536]⟩
abbrev S1024x1280 : Shape := ⟨2, ![1024, 1280]⟩
abbrev S1x1536x512 : Shape := ⟨3, ![1, 1536, 512]⟩
abbrev S1x1280x512 : Shape := ⟨3, ![1, 1280, 512]⟩
abbrev S1536x512 : Shape := ⟨2, ![1536, 512]⟩
abbrev S1280x512 : Shape := ⟨2, ![1280, 512]⟩

abbrev nBuf : Space → Nat
  | .hbm => 6
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x1536, .bf16⟩
  | .hbm, ⟨2, _⟩ => ⟨S8192x1280, .bf16⟩
  | .hbm, ⟨3, _⟩ => ⟨S8192x1280, .bf16⟩
  | .hbm, ⟨4, _⟩ => ⟨S2x4096x4096, .f32⟩
  | .hbm, ⟨5, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x1536, .bf16⟩
  | .local _ .vmem, ⟨3, _⟩ => ⟨S1024x1536, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .bf16⟩
  | .local _ .vmem, ⟨7, _⟩ => ⟨S1024x1280, .bf16⟩
  | .local _ .vmem, ⟨8, _⟩ => ⟨S1x1536x512, .f32⟩
  | .local _ .vmem, ⟨9, _⟩ => ⟨S1x1536x512, .f32⟩
  | .local _ .vmem, ⟨10, _⟩ => ⟨S1x1280x512, .f32⟩
  | .local _ .vmem, ⟨11, _⟩ => ⟨S1x1280x512, .f32⟩
  | .local _ .vmem, ⟨12, _⟩ => ⟨S1x1280x512, .f32⟩
  | .local _ .vmem, ⟨13, _⟩ => ⟨S1x1280x512, .f32⟩
  | .local _ .vmem, ⟨14, _⟩ => ⟨S1024x512, .f32⟩
  | .local _ .vmem, ⟨15, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let c1536_i32 : BitVec 32 := 1536#32
  let c0_i32_0 : BitVec 32 := 0#32
  ![c0_i32.toNat, c1536_i32.toNat, v0.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let c2816_i32 : BitVec 32 := 2816#32
  let c0_i32_0 : BitVec 32 := 0#32
  ![c0_i32.toNat, c2816_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1280x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1280x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8192x4096 : Shape := ⟨2, ![8192, 4096]⟩
abbrev S8192x1536 : Shape := ⟨2, ![8192, 1536]⟩
abbrev S8192x1280 : Shape := ⟨2, ![8192, 1280]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1536, .bf16⟩
  | .hbm, ⟨2, _⟩ => ⟨S8192x1280, .bf16⟩
  | .hbm, ⟨3, _⟩ => ⟨S8192x1280, .bf16⟩
  | .hbm, ⟨4, _⟩ => ⟨S2x4096x4096, .f32⟩
  | .hbm, ⟨5, _⟩ => ⟨S8192x4096, .bf16⟩
  | .hbm, ⟨6, _⟩ => ⟨S8192x4096, .f32⟩
  | .hbm, ⟨7, _⟩ => ⟨S1x4096x4096, .f32⟩
  | .hbm, ⟨8, _⟩ => ⟨S4096x4096, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel3.lean ====
abbrev S8192x4096 : Shape := ⟨2, ![8192, 4096]⟩
abbrev S2x14720x4096 : Shape := ⟨3, ![2, 14720, 4096]⟩
abbrev S128 : Shape := ⟨1, ![128]⟩
abbrev S_ : Shape := ⟨0, ![]⟩
abbrev S1x128 : Shape := ⟨2, ![1, 128]⟩
abbrev S12x128 : Shape := ⟨2, ![12, 128]⟩
abbrev S1536 : Shape := ⟨1, ![1536]⟩
abbrev S3072 : Shape := ⟨1, ![3072]⟩
abbrev S1x3072 : Shape := ⟨2, ![1, 3072]⟩
abbrev S8192x3072 : Shape := ⟨2, ![8192, 3072]⟩
abbrev S1024x4096 : Shape := ⟨2, ![1024, 4096]⟩
abbrev S1x1024x4096 : Shape := ⟨3, ![1, 1024, 4096]⟩
abbrev S1x1024 : Shape := ⟨2, ![1, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S1x128, .f32⟩
  | .hbm, ⟨8, _⟩ => ⟨S12x128, .f32⟩
  | .hbm, ⟨9, _⟩ => ⟨S1536, .f32⟩
  | .hbm, ⟨10, _⟩ => ⟨S1x128, .f32⟩
  | .hbm, ⟨11, _⟩ => ⟨S12x128, .f32⟩
  | .hbm, ⟨12, _⟩ => ⟨S1536, .f32⟩
  | .hbm, ⟨13, _⟩ => ⟨S3072, .f32⟩
  | .hbm, ⟨14, _⟩ => ⟨S1x3072, .f32⟩
  | .hbm, ⟨15, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S2x14720x4096 : Shape := ⟨3, ![2, 14720, 4096]⟩
abbrev S128 : Shape := ⟨1, ![128]⟩
abbrev S1x3072x4096 : Shape := ⟨3, ![1, 3072, 4096]⟩
abbrev S3072x4096 : Shape := ⟨2, ![3072, 4096]⟩
abbrev S8192x3072 : Shape := ⟨2, ![8192, 3072]⟩
abbrev S8192x2x12x128 : Shape := ⟨4, ![8192, 2, 12, 128]⟩
abbrev S_ : Shape := ⟨0, ![]⟩
abbrev S8192x2x12 : Shape := ⟨3, ![8192, 2, 12]⟩
abbrev S8192x2x12x1 : Shape := ⟨4, ![8192, 2, 12, 1]⟩
abbrev S1x128 : Shape := ⟨2, ![1, 128]⟩
abbrev S2x128 : Shape := ⟨2, ![2, 128]⟩
abbrev S2x1x128 : Shape := ⟨3, ![2, 1, 128]⟩
abbrev S1x2x1x128 : Shape := ⟨4, ![1, 2, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S128, .f32⟩
  | .hbm, ⟨3, _⟩ => ⟨S128, .f32⟩
  | .hbm, ⟨4, _⟩ => ⟨S8192x4096, .f32⟩
  | .hbm, ⟨5, _⟩ => ⟨S1x3072x4096, .bf16⟩
  | .hbm, ⟨6, _⟩ => ⟨S3072x4096, .bf16⟩
  | .hbm, ⟨7, _⟩ => ⟨S3072x4096, .f32⟩
  | .hbm, ⟨8, _⟩ => ⟨S8192x3072, .f32⟩
  | .hbm, ⟨9, _⟩ => ⟨S8192x2x12x128, .f32⟩
  | .hbm, ⟨10, _⟩ => ⟨S8192x2x12x128, .f32⟩
  | .hbm, ⟨11, _⟩ => ⟨S_, .f32⟩
  | .hbm, ⟨12, _⟩ => ⟨S8192x2x12, .f32⟩
  | .hbm, ⟨13, _⟩ => ⟨S8192x2x12x1, .f32⟩
  | .hbm, ⟨14, _⟩ => ⟨S_, .f32⟩
  | .hbm, ⟨15, _⟩ => ⟨S8192x2x12x1, .f32⟩
  | .hbm, ⟨16, _⟩ => ⟨S8192x2x12x1, .f32⟩
  | .hbm, ⟨17, _⟩ => ⟨S_, .f32⟩
  | .hbm, ⟨18, _⟩ => ⟨S8192x2x12x1, .f32⟩
  | .hbm, ⟨19, _⟩ => ⟨S8192x2x12x1, .f32⟩
  | .hbm, ⟨20, _⟩ => ⟨S8192x2x12x1, .f32⟩
  | .hbm, ⟨21, _⟩ => ⟨S8192x2x12x128, .f32⟩
  | .hbm, ⟨22, _⟩ => ⟨S8192x2x12x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S2x128, .f32⟩
  | .hbm, ⟨29, _⟩ => ⟨S2x1x128, .f32⟩
  | .hbm, ⟨30, _⟩ => ⟨S1x2x1x128, .f32⟩
  | .hbm, ⟨31, _⟩ => ⟨S8192x2x12x128, .f32⟩
  | .hbm, ⟨32, _⟩ => ⟨S8192x2x12x128, .f32⟩
  | .hbm, ⟨33, _⟩ => ⟨S8192x3072, .f32⟩
  | .hbm, ⟨34, _⟩ => ⟨S8192x3072, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel4.lean ====
abbrev S8192x4096 : Shape := ⟨2, ![8192, 4096]⟩
abbrev S2x14720x4096 : Shape := ⟨3, ![2, 14720, 4096]⟩
abbrev S8192x1536 : Shape := ⟨2, ![8192, 1536]⟩
abbrev S1024x4096 : Shape := ⟨2, ![1024, 4096]⟩
abbrev S1x768x4096 : Shape := ⟨3, ![1, 768, 4096]⟩
abbrev S1024x768 : Shape := ⟨2, ![1024, 768]⟩
abbrev S768x4096 : Shape := ⟨2, ![768, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S8192x1536, .bf16⟩
  | .local _ .vmem, ⟨0, _⟩ => ⟨S1024x4096, .bf16⟩
  | .local _ .vmem, ⟨1, _⟩ => ⟨S1024x4096, .bf16⟩
  | .local _ .vmem, ⟨2, _⟩ => ⟨S1x768x4096, .bf16⟩
  | .local _ .vmem, ⟨3, _⟩ => ⟨S1x768x4096, .bf16⟩
  | .local _ .vmem, ⟨4, _⟩ => ⟨S1024x768, .bf16⟩
  | .local _ .vmem, ⟨5, _⟩ => ⟨S1024x768, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S2x14720x4096 : Shape := ⟨3, ![2, 14720, 4096]⟩
abbrev S1x1536x4096 : Shape := ⟨3, ![1, 1536, 4096]⟩
abbrev S1536x4096 : Shape := ⟨2, ![1536, 4096]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S1x1536x4096, .bf16⟩
  | .hbm, ⟨3, _⟩ => ⟨S1536x4096, .bf16⟩
  | .hbm, ⟨4, _⟩ => ⟨S1536x4096, .f32⟩
  | .hbm, ⟨5, _⟩ => ⟨S8192x4096, .f32⟩
  | .hbm, ⟨6, _⟩ => ⟨S8192x1536, .f32⟩
  | .hbm, ⟨7, _⟩ => ⟨S8192x1536, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S8192x4096 : Shape := ⟨2, ![8192, 4096]⟩
abbrev S2x14720x4096 : Shape := ⟨3, ![2, 14720, 4096]⟩
abbrev S_ : Shape := ⟨0, ![]⟩
abbrev S1280 : Shape := ⟨1, ![1280]⟩
abbrev S2560 : Shape := ⟨1, ![2560]⟩
abbrev S3840 : Shape := ⟨1, ![3840]⟩
abbrev S1x3840 : Shape := ⟨2, ![1, 3840]⟩
abbrev S8192x3840 : Shape := ⟨2, ![8192, 3840]⟩
abbrev S1024x4096 : Shape := ⟨2, ![1024, 4096]⟩
abbrev S1x1280x4096 : Shape := ⟨3, ![1, 1280, 4096]⟩
abbrev S1x1280 : Shape := ⟨2, ![1, 1280]⟩
abbrev S1024x1280 : Shape := ⟨2, ![1024, 1280]⟩
abbrev S1280x4096 : Shape := ⟨2, ![1280, 4096]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S_, .f32⟩
  | .hbm, ⟨3, _⟩ => ⟨S1280, .f32⟩
  | .hbm, ⟨4, _⟩ => ⟨S_, .f32⟩
  | .hbm, ⟨5, _⟩ => ⟨S2560, .f32⟩
  | .hbm, ⟨6, _⟩ => ⟨S3840, .f32⟩
  | .hbm, ⟨7, _⟩ => ⟨S1x3840, .f32⟩
  | .hbm, ⟨8, _⟩ => ⟨S8192x3840, .bf16⟩
  | .local _ .vmem, ⟨0, _⟩ => ⟨S1024x4096, .bf16⟩
  | .local _ .vmem, ⟨1, _⟩ => ⟨S1024x4096, .bf16⟩
  | .local _ .vmem, ⟨2, _⟩ => ⟨S1x1280x4096, .bf16⟩
  | .local _ .vmem, ⟨3, _⟩ => ⟨S1x1280x4096, .bf16⟩
  | .local _ .vmem, ⟨4, _⟩ => ⟨S1x1280, .f32⟩
  | .local _ .vmem, ⟨5, _⟩ => ⟨S1x1280, .f32⟩
  | .local _ .vmem, ⟨6, _⟩ => ⟨S1024x1280, .bf16⟩
  | .local _ .vmem, ⟨7, _⟩ => ⟨S1024x1280, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S2x14720x4096 : Shape := ⟨3, ![2, 14720, 4096]⟩
abbrev S1x3840x4096 : Shape := ⟨3, ![1, 3840, 4096]⟩
abbrev S3840x4096 : Shape := ⟨2, ![3840, 4096]⟩
abbrev S8192x3840 : Shape := ⟨2, ![8192, 3840]⟩
abbrev S8192x1280 : Shape := ⟨2, ![8192, 1280]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S1x3840x4096, .bf16⟩
  | .hbm, ⟨3, _⟩ => ⟨S3840x4096, .bf16⟩
  | .hbm, ⟨4, _⟩ => ⟨S3840x4096, .f32⟩
  | .hbm, ⟨5, _⟩ => ⟨S8192x4096, .f32⟩
  | .hbm, ⟨6, _⟩ => ⟨S8192x3840, .f32⟩
  | .hbm, ⟨7, _⟩ => ⟨S8192x1280, .f32⟩
  | .hbm, ⟨8, _⟩ => ⟨S8192x1280, .f32⟩
  | .hbm, ⟨9, _⟩ => ⟨S8192x1280, .f32⟩
  | .hbm, ⟨10, _⟩ => ⟨S_, .f32⟩
  | .hbm, ⟨11, _⟩ => ⟨S8192x1280, .f32⟩
  | .hbm, ⟨12, _⟩ => ⟨S8192x1280, .f32⟩
  | .hbm, ⟨13, _⟩ => ⟨S8192x3840, .f32⟩
  | .hbm, ⟨14, _⟩ => ⟨S8192x3840, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel6.lean ====
abbrev S8192x4096 : Shape := ⟨2, ![8192, 4096]⟩
abbrev S2x14720x4096 : Shape := ⟨3, ![2, 14720, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S2x14720x4096 : Shape := ⟨3, ![2, 14720, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S1x4096x4096, .bf16⟩
  | .hbm, ⟨3, _⟩ => ⟨S4096x4096, .bf16⟩
  | .hbm, ⟨4, _⟩ => ⟨S4096x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel7.lean ====
abbrev S8192x4096 : Shape := ⟨2, ![8192, 4096]⟩
abbrev S2x14720x4096 : Shape := ⟨3, ![2, 14720, 4096]⟩
abbrev S1536 : Shape := ⟨1, ![1536]⟩
abbrev S1x1536 : Shape := ⟨2, ![1, 1536]⟩
abbrev S8192x1536 : Shape := ⟨2, ![8192, 1536]⟩
abbrev S512x4096 : Shape := ⟨2, ![512, 4096]⟩
abbrev S1x1536x4096 : Shape := ⟨3, ![1, 1536, 4096]⟩
abbrev S512x1536 : Shape := ⟨2, ![512, 1536]⟩
abbrev S1536x4096 : Shape := ⟨2, ![1536, 4096]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S1536, .f32⟩
  | .hbm, ⟨3, _⟩ => ⟨S1x1536, .f32⟩
  | .hbm, ⟨4, _⟩ => ⟨S8192x1536, .bf16⟩
  | .local _ .vmem, ⟨0, _⟩ => ⟨S512x4096, .bf16⟩
  | .local _ .vmem, ⟨1, _⟩ => ⟨S512x4096, .bf16⟩
  | .local _ .vmem, ⟨2, _⟩ => ⟨S1x1536x4096, .bf16⟩
  | .local _ .vmem, ⟨3, _⟩ => ⟨S1x1536, .f32⟩
  | .local _ .vmem, ⟨4, _⟩ => ⟨S512x1536, .bf16⟩
  | .local _ .vmem, ⟨5, _⟩ => ⟨S512x1536, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1536x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x4096 : Shape := ⟨2, ![8192, 4096]⟩
abbrev S2x14720x4096 : Shape := ⟨3, ![2, 14720, 4096]⟩
abbrev S1536 : Shape := ⟨1, ![1536]⟩
abbrev S1x1536x4096 : Shape := ⟨3, ![1, 1536, 4096]⟩
abbrev S1536x4096 : Shape := ⟨2, ![1536, 4096]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1x1536 : Shape := ⟨2, ![1, 1536]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S1536, .f32⟩
  | .hbm, ⟨3, _⟩ => ⟨S1x1536x4096, .bf16⟩
  | .hbm, ⟨4, _⟩ => ⟨S1536x4096, .bf16⟩
  | .hbm, ⟨5, _⟩ => ⟨S1536x4096, .f32⟩
  | .hbm, ⟨6, _⟩ => ⟨S8192x4096, .f32⟩
  | .hbm, ⟨7, _⟩ => ⟨S8192x1536, .f32⟩
  | .hbm, ⟨8, _⟩ => ⟨S8192x1536, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1536, .f32⟩
  | .hbm, ⟨20, _⟩ => ⟨S8192x1536, .f32⟩
  | .hbm, ⟨21, _⟩ => ⟨S1x1536, .f32⟩
  | .hbm, ⟨22, _⟩ => ⟨S8192x1536, .f32⟩
  | .hbm, ⟨23, _⟩ => ⟨S8192x1536, .f32⟩
  | .hbm, ⟨24, _⟩ => ⟨S8192x1536, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel8.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S8192x4096 : Shape := ⟨2, ![8192, 4096]⟩
abbrev S2x14720x4096 : Shape := ⟨3, ![2, 14720, 4096]⟩
abbrev S512 : Shape := ⟨1, ![512]⟩
abbrev S_ : Shape := ⟨0, ![]⟩
abbrev S32x4096 : Shape := ⟨2, ![32, 4096]⟩
abbrev S1x64x4096 : Shape := ⟨3, ![1, 64, 4096]⟩
abbrev S64x4096 : Shape := ⟨2, ![64, 4096]⟩
abbrev S1x512x4096 : Shape := ⟨3, ![1, 512, 4096]⟩
abbrev S512x4096 : Shape := ⟨2, ![512, 4096]⟩
abbrev S1x12x4096 : Shape := ⟨3, ![1, 12, 4096]⟩
abbrev S12x4096 : Shape := ⟨2, ![12, 4096]⟩
abbrev S116x4096 : Shape := ⟨2, ![116, 4096]⟩
abbrev S768x4096 : Shape := ⟨2, ![768, 4096]⟩
abbrev S1x768x4096 : Shape := ⟨3, ![1, 768, 4096]⟩
abbrev S1x512 : Shape := ⟨2, ![1, 512]⟩
abbrev S8192x512 : Shape := ⟨2, ![8192, 512]⟩
abbrev S8192x256 : Shape := ⟨2, ![8192, 256]⟩
abbrev S512x512 : Shape := ⟨2, ![512, 512]⟩
abbrev S512x256 : Shape := ⟨2, ![512, 256]⟩
abbrev S512x768 : Shape := ⟨2, ![512, 768]⟩
abbrev S512x1 : Shape := ⟨2, ![512, 1]⟩

abbrev nBuf : Space → Nat
  | .hbm => 20
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S512, .f32⟩
  | .hbm, ⟨3, _⟩ => ⟨S_, .bf16⟩
  | .hbm, ⟨4, _⟩ => ⟨S32x4096, .bf16⟩
  | .hbm, ⟨5, _⟩ => ⟨S1x64x4096, .bf16⟩
  | .hbm, ⟨6, _⟩ => ⟨S64x4096, .bf16⟩
  | .hbm, ⟨7, _⟩ => ⟨S1x512x4096, .bf16⟩
  | .hbm, ⟨8, _⟩ => ⟨S512x4096, .bf16⟩
  | .hbm, ⟨9, _⟩ => ⟨S1x12x4096, .bf16⟩
  | .hbm, ⟨10, _⟩ => ⟨S12x4096, .bf16⟩
  | .hbm, ⟨11, _⟩ => ⟨S_, .bf16⟩
  | .hbm, ⟨12, _⟩ => ⟨S116x4096, .bf16⟩
  | .hbm, ⟨13, _⟩ => ⟨S32x4096, .bf16⟩
  | .hbm, ⟨14, _⟩ => ⟨S32x4096, .bf16⟩
  | .hbm, ⟨15, _⟩ => ⟨S768x4096, .bf16⟩
  | .hbm, ⟨16, _⟩ => ⟨S1x768x4096, .bf16⟩
  | .hbm, ⟨17, _⟩ => ⟨S1x512, .f32⟩
  | .hbm, ⟨18, _⟩ => ⟨S8192x512, .bf16⟩
  | .hbm, ⟨19, _⟩ => ⟨S8192x256, .f32⟩
  | .local _ .vmem, ⟨0, _⟩ => ⟨S512x4096, .bf16⟩
  | .local _ .vmem, ⟨1, _⟩ => ⟨S512x4096, .bf16⟩
  | .local _ .vmem, ⟨2, _⟩ => ⟨S1x768x4096, .bf16⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference9Ideal.lean ====
abbrev S8192x4096 : Shape := ⟨2, ![8192, 4096]⟩
abbrev S2x14720x4096 : Shape := ⟨3, ![2, 14720, 4096]⟩
abbrev S512 : Shape := ⟨1, ![512]⟩
abbrev S1x14720x4096 : Shape := ⟨3, ![1, 14720, 4096]⟩
abbrev S14720x4096 : Shape := ⟨2, ![14720, 4096]⟩
abbrev S512x4096 : Shape := ⟨2, ![512, 4096]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S64x4096 : Shape := ⟨2, ![64, 4096]⟩
abbrev S8192x64 : Shape := ⟨2, ![8192, 64]⟩
abbrev S12x4096 : Shape := ⟨2, ![12, 4096]⟩
abbrev S8192x12 : Shape := ⟨2, ![8192, 12]⟩
abbrev S8192x32 : Shape := ⟨2, ![8192, 32]⟩
abbrev S8192x116 : Shape := ⟨2, ![8192, 116]⟩
abbrev S8192x256 : Shape := ⟨2, ![8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x14720x4096, .bf16⟩
  | .hbm, ⟨2, _⟩ => ⟨S512, .f32⟩
  | .hbm, ⟨3, _⟩ => ⟨S1x14720x4096, .bf16⟩
  | .hbm, ⟨4, _⟩ => ⟨S14720x4096, .bf16⟩
  | .hbm, ⟨5, _⟩ => ⟨S14720x4096, .f32⟩
  | .hbm, ⟨6, _⟩ => ⟨S8192x4096, .f32⟩
  | .hbm, ⟨7, _⟩ => ⟨S512x4096, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .bf16⟩
  | .hbm, ⟨26, _⟩ => ⟨S64x4096, .f32⟩
  | .hbm, ⟨27, _⟩ => ⟨S8192x64, .f32⟩
  | .hbm, ⟨28, _⟩ => ⟨S12x4096, .f32⟩
  | .hbm, ⟨29, _⟩ => ⟨S8192x12, .f32⟩
  | .hbm, ⟨30, _⟩ => ⟨S_, .f32⟩
  | .hbm, ⟨31, _⟩ => ⟨S8192x32, .f32⟩
  | .hbm, ⟨32, _⟩ => ⟨S_, .f32⟩
  | .hbm, ⟨33, _⟩ => ⟨S8192x116, .f32⟩
  | .hbm, ⟨34, _⟩ => ⟨S8192x32, .f32⟩
  | .hbm, ⟨35, _⟩ => ⟨S8192x32, .f32⟩
  | .hbm, ⟨36, _⟩ => ⟨S8192x256, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel10.lean ====
abbrev S8192x1536 : Shape := ⟨2, ![8192, 1536]⟩
abbrev S8192x512 : Shape := ⟨2, ![8192, 512]⟩
abbrev S8192x256 : Shape := ⟨2, ![8192, 256]⟩
abbrev S8192 : Shape := ⟨1, ![8192]⟩
abbrev S1536x1920 : Shape := ⟨2, ![1536, 1920]⟩
abbrev S512x2560 : Shape := ⟨2, ![512, 2560]⟩
abbrev S192 : Shape := ⟨1, ![192]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S1536x10x192 : Shape := ⟨3, ![1536, 10, 192]⟩
abbrev S1536x10x128 : Shape := ⟨3, ![1536, 10, 128]⟩
abbrev S1536x10x64 : Shape := ⟨3, ![1536, 10, 64]⟩
abbrev S1536x10x32 : Shape := ⟨3, ![1536, 10, 32]⟩
abbrev S1536x10x256 : Shape := ⟨3, ![1536, 10, 256]⟩
abbrev S10x1536x256 : Shape := ⟨3, ![10, 1536, 256]⟩
abbrev S512x10x256 : Shape := ⟨3, ![512, 10, 256]⟩
abbrev S10x512x256 : Shape := ⟨3, ![10, 512, 256]⟩
abbrev S256 : Shape := ⟨1, ![256]⟩
abbrev S1x256 : Shape := ⟨2, ![1, 256]⟩
abbrev S8192x1 : Shape := ⟨2, ![8192, 1]⟩
abbrev S8192x2560 : Shape := ⟨2, ![8192, 2560]⟩
abbrev S8192x1280 : Shape := ⟨2, ![8192, 1280]⟩
abbrev S256x1536 : Shape := ⟨2, ![256, 1536]⟩
abbrev S256x512 : Shape := ⟨2, ![256, 512]⟩
abbrev S256x128 : Shape := ⟨2, ![256, 128]⟩
abbrev S256x1 : Shape := ⟨2, ![256, 1]⟩
abbrev S256x2560 : Shape := ⟨2, ![256, 2560]⟩
abbrev S256x1280 : Shape := ⟨2, ![256, 1280]⟩
abbrev S1x1536x256 : Shape := ⟨3, ![1, 1536, 256]⟩
abbrev S1536x256 : Shape := ⟨2, ![1536, 256]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 71
  | .vmem => 20
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x256, .f32⟩
  | .hbm, ⟨3, _⟩ => ⟨S8192, .i32⟩
  | .hbm, ⟨4, _⟩ => ⟨S1536x1920, .f32⟩
  | .hbm, ⟨5, _⟩ => ⟨S512x2560, .f32⟩
  | .hbm, ⟨6, _⟩ => ⟨S192, .f32⟩
  | .hbm, ⟨7, _⟩ => ⟨S192, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S64, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S128, .f32⟩
  | .hbm, ⟨34, _⟩ => ⟨S1x128, .f32⟩
  | .hbm, ⟨35, _⟩ => ⟨S1536x10x192, .f32⟩
  | .hbm, ⟨36, _⟩ => ⟨S1536x10x128, .f32⟩
  | .hbm, ⟨37, _⟩ => ⟨S1536x10x64, .f32⟩
  | .hbm, ⟨38, _⟩ => ⟨S_, .f32⟩
  | .hbm, ⟨39, _⟩ => ⟨S1536x10x32, .f32⟩
  | .hbm, ⟨40, _⟩ => ⟨S1536x10x32, .f32⟩
  | .hbm, ⟨41, _⟩ => ⟨S1536x10x32, .f32⟩
  | .hbm, ⟨42, _⟩ => ⟨S1536x10x128, .f32⟩
  | .hbm, ⟨43, _⟩ => ⟨S1536x10x256, .f32⟩
  | .hbm, ⟨44, _⟩ => ⟨S10x1536x256, .f32⟩
  | .hbm, ⟨45, _⟩ => ⟨S10x1536x256, .bf16⟩
  | .hbm, ⟨46, _⟩ => ⟨S512x10x256, .f32⟩
  | .hbm, ⟨47, _⟩ => ⟨S10x512x256, .f32⟩
  | .hbm, ⟨48, _⟩ => ⟨S10x512x256, .bf16⟩
  | .hbm, ⟨49, _⟩ => ⟨S128, .f32⟩
  | .hbm, ⟨50, _⟩ => ⟨S64, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S32, .f32⟩
  | .hbm, ⟨55, _⟩ => ⟨S128, .f32⟩
  | .hbm, ⟨56, _⟩ => ⟨S256, .f32⟩
  | .hbm, ⟨57, _⟩ => ⟨S1x256, .f32⟩
  | .hbm, ⟨58, _⟩ => ⟨S128, .f32⟩
  | .hbm, ⟨59, _⟩ => ⟨S64, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S32, .f32⟩
  | .hbm, ⟨64, _⟩ => ⟨S128, .f32⟩
  | .hbm, ⟨65, _⟩ => ⟨S256, .f32⟩
  | .hbm, ⟨66, _⟩ => ⟨S1x256, .f32⟩
  | .hbm, ⟨67, _⟩ => ⟨S8192x1, .i32⟩
  | .hbm, ⟨68, _⟩ => ⟨S8192x2560, .bf16⟩
  | .hbm, ⟨69, _⟩ => ⟨S8192x2560, .bf16⟩
  | .hbm, ⟨70, _⟩ => ⟨S8192x1280, .bf16⟩
  | .local _ .vmem, ⟨0, _⟩ => ⟨S256x1536, .bf16⟩
  | .local _ .vmem, ⟨1, _⟩ => ⟨S256x1536, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S256x1, .i32⟩
  | .local _ .vmem, ⟨7, _⟩ => ⟨S256x1, .i32⟩
  | .local _ .vmem, ⟨8, _⟩ => ⟨S1x128, .f32⟩
  | .local _ .vmem, ⟨9, _⟩ => ⟨S1x128, .f32⟩
  | .local _ .vmem, ⟨10, _⟩ => ⟨S10x1536x256, .bf16⟩
  | .local _ .vmem, ⟨11, _⟩ => ⟨S10x512x256, .bf16⟩
  | .local _ .vmem, ⟨12, _⟩ => ⟨S1x256, .f32⟩
  | .local _ .vmem, ⟨13, _⟩ => ⟨S1x256, .f32⟩
  | .local _ .vmem, ⟨14, _⟩ => ⟨S256x2560, .bf16⟩
  | .local _ .vmem, ⟨15, _⟩ => ⟨S256x2560, .bf16⟩
  | .local _ .vmem, ⟨16, _⟩ => ⟨S256x2560, .bf16⟩
  | .local _ .vmem, ⟨17, _⟩ => ⟨S256x2560, .bf16⟩
  | .local _ .vmem, ⟨18, _⟩ => ⟨S256x1280, .bf16⟩
  | .local _ .vmem, ⟨19, _⟩ => ⟨S256x1280, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1536x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel10Ideal.lean ====
variable {F : FTy → Type} [FloatOps F] [Named F]
def κ : String → Option EReal := fun
  | "inv" => some ((1 / 192 : ℝ) : EReal)
  | _ => none
-- ==== Reference10Ideal.lean ====
abbrev S8192x1536 : Shape := ⟨2, ![8192, 1536]⟩
abbrev S8192x512 : Shape := ⟨2, ![8192, 512]⟩
abbrev S8192x256 : Shape := ⟨2, ![8192, 256]⟩
abbrev S8192 : Shape := ⟨1, ![8192]⟩
abbrev S1536x1920 : Shape := ⟨2, ![1536, 1920]⟩
abbrev S512x2560 : Shape := ⟨2, ![512, 2560]⟩
abbrev S192 : Shape := ⟨1, ![192]⟩
abbrev S8192x1 : Shape := ⟨2, ![8192, 1]⟩
abbrev S32 : Shape := ⟨1, ![32]⟩
abbrev S_ : Shape := ⟨0, ![]⟩
abbrev S1x32 : Shape := ⟨2, ![1, 32]⟩
abbrev S8192x32 : Shape := ⟨2, ![8192, 32]⟩
abbrev S8192x1x32 : Shape := ⟨3, ![8192, 1, 32]⟩
abbrev S8192x10x32 : Shape := ⟨3, ![8192, 10, 32]⟩
abbrev S8192x1920 : Shape := ⟨2, ![8192, 1920]⟩
abbrev S8192x10x192 : Shape := ⟨3, ![8192, 10, 192]⟩
abbrev S8192x10 : Shape := ⟨2, ![8192, 10]⟩
abbrev S8192x10x1 : Shape := ⟨3, ![8192, 10, 1]⟩
abbrev S1x1x192 : Shape := ⟨3, ![1, 1, 192]⟩
abbrev S8192x10x128 : Shape := ⟨3, ![8192, 10, 128]⟩
abbrev S8192x10x256 : Shape := ⟨3, ![8192, 10, 256]⟩
abbrev S8192x2560 : Shape := ⟨2, ![8192, 2560]⟩
abbrev S8192x128 : Shape := ⟨2, ![8192, 128]⟩
abbrev S8192x1x128 : Shape := ⟨3, ![8192, 1, 128]⟩
abbrev S8192x1x1 : Shape := ⟨3, ![8192, 1, 1]⟩
abbrev S128 : Shape := ⟨1, ![128]⟩
abbrev S1x1x128 : Shape := ⟨3, ![1, 1, 128]⟩
abbrev S1x1x32 : Shape := ⟨3, ![1, 1, 32]⟩
abbrev S8192x1280 : Shape := ⟨2, ![8192, 1280]⟩

abbrev nBuf : Space → Nat
  | .hbm => 127
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x256, .f32⟩
  | .hbm, ⟨3, _⟩ => ⟨S8192, .i32⟩
  | .hbm, ⟨4, _⟩ => ⟨S1536x1920, .f32⟩
  | .hbm, ⟨5, _⟩ => ⟨S512x2560, .f32⟩
  | .hbm, ⟨6, _⟩ => ⟨S192, .f32⟩
  | .hbm, ⟨7, _⟩ => ⟨S192, .f32⟩
  | .hbm, ⟨8, _⟩ => ⟨S8192, .f32⟩
  | .hbm, ⟨9, _⟩ => ⟨S8192x1, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x1x32, .f32⟩
  | .hbm, ⟨24, _⟩ => ⟨S8192x32, .f32⟩
  | .hbm, ⟨25, _⟩ => ⟨S8192x1x32, .f32⟩
  | .hbm, ⟨26, _⟩ => ⟨S_, .f32⟩
  | .hbm, ⟨27, _⟩ => ⟨S8192x10x32, .f32⟩
  | .hbm, ⟨28, _⟩ => ⟨S8192x1536, .f32⟩
  | .hbm, ⟨29, _⟩ => ⟨S8192x1920, .f32⟩
  | .hbm, ⟨30, _⟩ => ⟨S8192x10x192, .f32⟩
  | .hbm, ⟨31, _⟩ => ⟨S8192x10x192, .f32⟩
  | .hbm, ⟨32, _⟩ => ⟨S_, .f32⟩
  | .hbm, ⟨33, _⟩ => ⟨S8192x10, .f32⟩
  | .hbm, ⟨34, _⟩ => ⟨S8192x10x1, .f32⟩
  | .hbm, ⟨35, _⟩ => ⟨S_, .f32⟩
  | .hbm, ⟨36, _⟩ => ⟨S8192x10x1, .f32⟩
  | .hbm, ⟨37, _⟩ => ⟨S8192x10x1, .f32⟩
  | .hbm, ⟨38, _⟩ => ⟨S_, .f32⟩
  | .hbm, ⟨39, _⟩ => ⟨S8192x10x1, .f32⟩
  | .hbm, ⟨40, _⟩ => ⟨S8192x10x1, .f32⟩
  | .hbm, ⟨41, _⟩ => ⟨S8192x10x1, .f32⟩
  | .hbm, ⟨42, _⟩ => ⟨S8192x10x192, .f32⟩
  | .hbm, ⟨43, _⟩ => ⟨S8192x10x192, .f32⟩
  | .hbm, ⟨44, _⟩ => ⟨S1x1x192, .f32⟩
  | .hbm, ⟨45, _⟩ => ⟨S8192x10x192, .f32⟩
  | .hbm, ⟨46, _⟩ => ⟨S8192x10x192, .f32⟩
  | .hbm, ⟨47, _⟩ => ⟨S8192x10x128, .f32⟩
  | .hbm, ⟨48, _⟩ => ⟨S8192x10x32, .f32⟩
  | .hbm, ⟨49, _⟩ => ⟨S8192x10x32, .f32⟩
  | .hbm, ⟨50, _⟩ => ⟨S8192x10x32, .f32⟩
  | .hbm, ⟨51, _⟩ => ⟨S8192x10x32, .f32⟩
  | .hbm, ⟨52, _⟩ => ⟨S8192x10x32, .f32⟩
  | .hbm, ⟨53, _⟩ => ⟨S8192x10x32, .f32⟩
  | .hbm, ⟨54, _⟩ => ⟨S8192x10x32, .f32⟩
  | .hbm, ⟨55, _⟩ => ⟨S8192x10x32, .f32⟩
  | .hbm, ⟨56, _⟩ => ⟨S8192x10x32, .f32⟩
  | .hbm, ⟨57, _⟩ => ⟨S8192x10x32, .f32⟩
  | .hbm, ⟨58, _⟩ => ⟨S8192x10x32, .f32⟩
  | .hbm, ⟨59, _⟩ => ⟨S8192x10x32, .f32⟩
  | .hbm, ⟨60, _⟩ => ⟨S8192x10x256, .f32⟩
  | .hbm, ⟨61, _⟩ => ⟨S_, .f32⟩
  | .hbm, ⟨62, _⟩ => ⟨S8192x10x256, .f32⟩
  | .hbm, ⟨63, _⟩ => ⟨S8192x10x256, .f32⟩
  | .hbm, ⟨64, _⟩ => ⟨S8192x2560, .f32⟩
  | .hbm, ⟨65, _⟩ => ⟨S8192x2560, .bf16⟩
  | .hbm, ⟨66, _⟩ => ⟨S8192x512, .f32⟩
  | .hbm, ⟨67, _⟩ => ⟨S8192x2560, .f32⟩
  | .hbm, ⟨68, _⟩ => ⟨S8192x10x256, .f32⟩
  | .hbm, ⟨69, _⟩ => ⟨S8192x10x128, .f32⟩
  | .hbm, ⟨70, _⟩ => ⟨S8192x10x128, .f32⟩
  | .hbm, ⟨71, _⟩ => ⟨S8192x128, .f32⟩
  | .hbm, ⟨72, _⟩ => ⟨S8192x1x128, .f32⟩
  | .hbm, ⟨73, _⟩ => ⟨S8192x10x128, .f32⟩
  | .hbm, ⟨74, _⟩ => ⟨S_, .f32⟩
  | .hbm, ⟨75, _⟩ => ⟨S8192x10, .f32⟩
  | .hbm, ⟨76, _⟩ => ⟨S8192x10x1, .f32⟩
  | .hbm, ⟨77, _⟩ => ⟨S8192x1x128, .f32⟩
  | .hbm, ⟨78, _⟩ => ⟨S_, .f32⟩
  | .hbm, ⟨79, _⟩ => ⟨S8192x1, .f32⟩
  | .hbm, ⟨80, _⟩ => ⟨S8192x1x1, .f32⟩
  | .hbm, ⟨81, _⟩ => ⟨S8192x10x1, .f32⟩
  | .hbm, ⟨82, _⟩ => ⟨S8192x10x1, .f32⟩
  | .hbm, ⟨83, _⟩ => ⟨S_, .f32⟩
  | .hbm, ⟨84, _⟩ => ⟨S8192x10x1, .f32⟩
  | .hbm, ⟨85, _⟩ => ⟨S8192x10x1, .f32⟩
  | .hbm, ⟨86, _⟩ => ⟨S_, .f32⟩
  | .hbm, ⟨87, _⟩ => ⟨S8192x10x1, .f32⟩
  | .hbm, ⟨88, _⟩ => ⟨S8192x10x1, .f32⟩
  | .hbm, ⟨89, _⟩ => ⟨S8192x10x1, .f32⟩
  | .hbm, ⟨90, _⟩ => ⟨S8192x10x128, .f32⟩
  | .hbm, ⟨91, _⟩ => ⟨S8192x10x128, .f32⟩
  | .hbm, ⟨92, _⟩ => ⟨S128, .f32⟩
  | .hbm, ⟨93, _⟩ => ⟨S1x1x128, .f32⟩
  | .hbm, ⟨94, _⟩ => ⟨S8192x10x128, .f32⟩
  | .hbm, ⟨95, _⟩ => ⟨S8192x10x128, .f32⟩
  | .hbm, ⟨96, _⟩ => ⟨S8192x1x32, .f32⟩
  | .hbm, ⟨97, _⟩ => ⟨S8192x10x32, .f32⟩
  | .hbm, ⟨98, _⟩ => ⟨S8192x10x32, .f32⟩
  | .hbm, ⟨99, _⟩ => ⟨S8192x10x32, .f32⟩
  | .hbm, ⟨100, _⟩ => ⟨S32, .f32⟩
  | .hbm, ⟨101, _⟩ => ⟨S1x1x32, .f32⟩
  | .hbm, ⟨102, _⟩ => ⟨S8192x10x32, .f32⟩
  | .hbm, ⟨103, _⟩ => ⟨S8192x10x32, .f32⟩
  | .hbm, ⟨104, _⟩ => ⟨S8192x1x32, .f32⟩
  | .hbm, ⟨105, _⟩ => ⟨S8192x10x32, .f32⟩
  | .hbm, ⟨106, _⟩ => ⟨S8192x10x32, .f32⟩
  | .hbm, ⟨107, _⟩ => ⟨S8192x10x32, .f32⟩
  | .hbm, ⟨108, _⟩ => ⟨S32, .f32⟩
  | .hbm, ⟨109, _⟩ => ⟨S1x1x32, .f32⟩
  | .hbm, ⟨110, _⟩ => ⟨S8192x10x32, .f32⟩
  | .hbm, ⟨111, _⟩ => ⟨S8192x10x32, .f32⟩
  | .hbm, ⟨112, _⟩ => ⟨S8192x10x32, .f32⟩
  | .hbm, ⟨113, _⟩ => ⟨S8192x10x32, .f32⟩
  | .hbm, ⟨114, _⟩ => ⟨S8192x10x32, .f32⟩
  | .hbm, ⟨115, _⟩ => ⟨S8192x10x32, .f32⟩
  | .hbm, ⟨116, _⟩ => ⟨S8192x10x32, .f32⟩
  | .hbm, ⟨117, _⟩ => ⟨S8192x10x32, .f32⟩
  | .hbm, ⟨118, _⟩ => ⟨S8192x10x32, .f32⟩
  | .hbm, ⟨119, _⟩ => ⟨S8192x10x32, .f32⟩
  | .hbm, ⟨120, _⟩ => ⟨S8192x10x32, .f32⟩
  | .hbm, ⟨121, _⟩ => ⟨S8192x10x32, .f32⟩
  | .hbm, ⟨122, _⟩ => ⟨S8192x10x256, .f32⟩
  | .hbm, ⟨123, _⟩ => ⟨S8192x2560, .f32⟩
  | .hbm, ⟨124, _⟩ => ⟨S8192x2560, .bf16⟩
  | .hbm, ⟨125, _⟩ => ⟨S8192x1280, .f32⟩
  | .hbm, ⟨126, _⟩ => ⟨S8192x1280, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩

abbrev nD : Nat := 1
abbrev τ : Topo := Topo.v7x

variable {F : FTy → Type} [FloatOps F]
-- ==== Kernel11.lean ====
abbrev S8192x256 : Shape := ⟨2, ![8192, 256]⟩
abbrev S12 : Shape := ⟨1, ![12]⟩
abbrev S_ : Shape := ⟨0, ![]⟩
abbrev S116 : Shape := ⟨1, ![116]⟩
abbrev S128 : Shape := ⟨1, ![128]⟩
abbrev S1x128 : Shape := ⟨2, ![1, 128]⟩
abbrev S512x512 : Shape := ⟨2, ![512, 512]⟩
abbrev S12x8192x128 : Shape := ⟨3, ![12, 8192, 128]⟩
abbrev S128x16x1x512 : Shape := ⟨4, ![128, 16, 1, 512]⟩
abbrev S512x128 : Shape := ⟨2, ![512, 128]⟩
abbrev S12x512x128 : Shape := ⟨3, ![12, 512, 128]⟩
abbrev S128x1x1x512 : Shape := ⟨4, ![128, 1, 1, 512]⟩
abbrev S128x512 : Shape := ⟨2, ![128, 512]⟩
abbrev S512x1 : Shape := ⟨2, ![512, 1]⟩
abbrev S1x512x128 : Shape := ⟨3, ![1, 512, 128]⟩

abbrev nBuf : Space → Nat
  | .hbm => 20
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S12, .f32⟩
  | .hbm, ⟨2, _⟩ => ⟨S_, .f32⟩
  | .hbm, ⟨3, _⟩ => ⟨S116, .f32⟩
  | .hbm, ⟨4, _⟩ => ⟨S128, .f32⟩
  | .hbm, ⟨5, _⟩ => ⟨S1x128, .f32⟩
  | .hbm, ⟨6, _⟩ => ⟨S_, .f32⟩
  | .hbm, ⟨7, _⟩ => ⟨S512x512, .f32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .bf16⟩
  | .hbm, ⟨18, _⟩ => ⟨S12x8192x128, .f32⟩
  | .hbm, ⟨19, _⟩ => ⟨S128x16x1x512, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x512, .bf16⟩
  | .local _ .vmem, ⟨4, _⟩ => ⟨S12x512x128, .f32⟩
  | .local _ .vmem, ⟨5, _⟩ => ⟨S12x512x128, .f32⟩
  | .local _ .vmem, ⟨6, _⟩ => ⟨S128x1x1x512, .f32⟩
  | .local _ .vmem, ⟨7, _⟩ => ⟨S128x1x1x512, .f32⟩
  | .local _ .vmem, ⟨8, _⟩ => ⟨S1x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x256 : Shape := ⟨2, ![8192, 256]⟩
abbrev S12 : Shape := ⟨1, ![12]⟩
abbrev S8192x128 : Shape := ⟨2, ![8192, 128]⟩
abbrev S_ : Shape := ⟨0, ![]⟩
abbrev S116 : Shape := ⟨1, ![116]⟩
abbrev S128 : Shape := ⟨1, ![128]⟩
abbrev S1x128 : Shape := ⟨2, ![1, 128]⟩
abbrev S8192x12 : Shape := ⟨2, ![8192, 12]⟩
abbrev S12x8192 : Shape := ⟨2, ![12, 8192]⟩
abbrev S12x8192x1 : Shape := ⟨3, ![12, 8192, 1]⟩
abbrev S12x8192x128 : Shape := ⟨3, ![12, 8192, 128]⟩
abbrev S128x8192 : Shape := ⟨2, ![128, 8192]⟩
abbrev S128x16x1x512 : Shape := ⟨4, ![128, 16, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S12, .f32⟩
  | .hbm, ⟨2, _⟩ => ⟨S8192x128, .f32⟩
  | .hbm, ⟨3, _⟩ => ⟨S_, .f32⟩
  | .hbm, ⟨4, _⟩ => ⟨S116, .f32⟩
  | .hbm, ⟨5, _⟩ => ⟨S128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .i1⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S_, .f32⟩
  | .hbm, ⟨27, _⟩ => ⟨S8192x128, .f32⟩
  | .hbm, ⟨28, _⟩ => ⟨S_, .f32⟩
  | .hbm, ⟨29, _⟩ => ⟨S8192x128, .f32⟩
  | .hbm, ⟨30, _⟩ => ⟨S8192x128, .f32⟩
  | .hbm, ⟨31, _⟩ => ⟨S8192x12, .f32⟩
  | .hbm, ⟨32, _⟩ => ⟨S12x8192, .f32⟩
  | .hbm, ⟨33, _⟩ => ⟨S12x8192x1, .f32⟩
  | .hbm, ⟨34, _⟩ => ⟨S12x8192x128, .f32⟩
  | .hbm, ⟨35, _⟩ => ⟨S128x8192, .f32⟩
  | .hbm, ⟨36, _⟩ => ⟨S128x16x1x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v6 : Ref sig .tc := ⟨.hbm, 24, rfl⟩
abbrev main_call1_call0_cst : Ref sig .tc := ⟨.hbm, 25, rfl⟩
abbrev main_call1_call0_v0 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Proof.Steps.lean ====
/- What one step of the attention does to one row side, and how a slab of a scratch array is read. -/
module

public import proofs.«01_k».proof.Proof.Gen.KernelIdeal.Value
public import Idealize.ShloMosaic.Lib.VecWindow
public import Idealize.ShloMosaic.Lib.WritesUnit

@[expose] public section

set_option maxRecDepth 16384

noncomputable section

namespace Cert.Mla

open Idealize.ShloMosaic Idealize.ShloMosaic.TcCoe Cert.KernelIdeal Cert.KernelIdeal.Gen

/-! ## Slabs -/

section Slab

variable {sig : RefSig} {κ : Kind} {sp : Space} {S : Shape} {e : EltTy} {Val : EltTy → Type}

/-- A box just stored reads what was stored. -/
theorem slab_hit (v : View sig κ sp S e) (f : v.ty.Contents Val) {off size : Fin S.rank → ℕ}
    (inb inb' : ∀ a, off a + size a ≤ S.size a) (w : (Rect.unit off size inb').shape.Idx → Val e)
    (L : List (View.Piece Val S e)) :
    v.readAt Val (Rect.unit off size inb).toLoadRect (v.writes Val f (⟨Rect.unit off size inb', w⟩ :: L)) = w := by
  funext x
  exact View.read_writes_cons_unit_of_mem (v := v) (f := f) inb' w L _ x rfl
    (fun a => by show off a + 1 * (x a).val = _; rw [Nat.one_mul])

/-- A store to a box apart from the one read is passed over. -/
theorem slab_miss (v : View sig κ sp S e) (f : v.ty.Contents Val) {off size off' size' : Fin S.rank → ℕ}
    (inb : ∀ a, off a + size a ≤ S.size a) (inb' : ∀ a, off' a + size' a ≤ S.size a)
    (w : (Rect.unit off' size' inb').shape.Idx → Val e) (L : List (View.Piece Val S e))
    (h : ∃ c, off c + size c ≤ off' c ∨ off' c + size' c ≤ off c) :
    v.readAt Val (Rect.unit off size inb).toLoadRect (v.writes Val f (⟨Rect.unit off' size' inb', w⟩ :: L))
      = v.readAt Val (Rect.unit off size inb).toLoadRect (v.writes Val f L) := by
  obtain ⟨c, hc⟩ := h
  funext x
  refine View.read_writes_cons_unit_of_not_mem (v := v) (f := f) inb' w L _ rfl c ?_
  have hx : (x c).val < size c := (x c).isLt
  show off c + 1 * (x c).val < off' c ∨ off' c + size' c ≤ off c + 1 * (x c).val
  omega

end Slab

variable {F : FTy → Type} [FloatOps F] [Named F]

/-! ## Blocks laid side by side -/

/-- One block of 128 columns laid four times side by side. -/
def cat4 {α : Type} (x : S512x128.Idx → α) : S512x512.Idx → α :=
  concatenate S512x512 1 [⟨S512x128, x⟩, ⟨S512x128, x⟩, ⟨S512x128, x⟩, ⟨S512x128, x⟩] concatenates_S512x128_S512x128_S512x128_S512x128_S512x512_d1

/-- Two blocks of 128 columns laid side by side. -/
def cat2 {α : Type} (x y : S512x128.Idx → α) : S512x256.Idx → α :=
  concatenate S512x256 1 [⟨S512x128, x⟩, ⟨S512x128, y⟩] concatenates_S512x128_S512x128_S512x256_d1

theorem cat4_fold {α : Type} (x : S512x128.Idx → α) h :
    concatenate S512x512 1 [⟨S512x128, x⟩, ⟨S512x128, x⟩, ⟨S512x128, x⟩, ⟨S512x128, x⟩] h = cat4 x := rfl
theorem cat2_fold {α : Type} (x y : S512x128.Idx → α) h :
    concatenate S512x256 1 [⟨S512x128, x⟩, ⟨S512x128, y⟩] h = cat2 x y := rfl

/-! ## The state of one side -/

theorem val0 : ((0 : Fin 4) : ℕ) = 0 := rfl
theorem val1 : ((1 : Fin 4) : ℕ) = 1 := rfl
theorem val2 : ((2 : Fin 4) : ℕ) = 2 := rfl
theorem val3 : ((3 : Fin 4) : ℕ) = 3 := rfl

/-- What the scratch arrays hold for one side: the running maximum, the running sums, the scores of the next
    block and their row maximum. -/
@[ext] structure St (F : FTy → Type) where
  m : Vec F S1x512x128 .f32
  acc : Vec F S1x512x256 .f32
  s : Vec F S1x512x512 .f32
  mc : Vec F S1x512x128 .f32

/-- Taking the stored scores into the running sums, with the block `V` of values. -/
def eat (ones : FVec F S512x128 .bf16) (V : Vec F S512x128 .bf16) (t : St F) : St F :=
  ⟨k0_pay5 t.m t.mc, k0_pay4 ones V t.m t.mc t.s t.acc, t.s, t.mc⟩

/-- Storing the scores of the rows `q` against the block `K` of keys. -/
def score (q K : Vec F S512x256 .bf16) (t : St F) : St F :=
  ⟨t.m, t.acc, k0_pay7 q K, k0_pay8 q K⟩

theorem inb128 (d : Fin 4) : ∀ a, (![d.val, 0, 0] : Fin 3 → ℕ) a + S1x512x128.size a ≤ S4x512x128.size a := by
  revert d; decide
theorem inb256 (d : Fin 4) : ∀ a, (![d.val, 0, 0] : Fin 3 → ℕ) a + S1x512x256.size a ≤ S4x512x256.size a := by
  revert d; decide
theorem inb512 (d : Fin 4) : ∀ a, (![d.val, 0, 0] : Fin 3 → ℕ) a + S1x512x512.size a ≤ S4x512x512.size a := by
  revert d; decide

/-- The state of side `d` as the scratch arrays hold it. -/
def rd (a8 : Memref sig .tc .vmem S4x512x128 .f32) (a9 : Memref sig .tc .vmem S4x512x256 .f32)
    (a10 : Memref sig .tc .vmem S4x512x512 .f32) (a11 : Memref sig .tc .vmem S4x512x128 .f32)
    (f8 : BufTy.Contents (Elt F) a8.view.ty) (f9 : BufTy.Contents (Elt F) a9.view.ty)
    (f10 : BufTy.Contents (Elt F) a10.view.ty) (f11 : BufTy.Contents (Elt F) a11.view.ty) (d : Fin 4) : St F :=
  ⟨a8.view.readAt (Elt F) (Rect.unit (s := S4x512x128) ![d.val, 0, 0] S1x512x128.size (inb128 d)).toLoadRect f8,
   a9.view.readAt (Elt F) (Rect.unit (s := S4x512x256) ![d.val, 0, 0] S1x512x256.size (inb256 d)).toLoadRect f9,
   a10.view.readAt (Elt F) (Rect.unit (s := S4x512x512) ![d.val, 0, 0] S1x512x512.size (inb512 d)).toLoadRect f10,
   a11.view.readAt (Elt F) (Rect.unit (s := S4x512x128) ![d.val, 0, 0] S1x512x128.size (inb128 d)).toLoadRect f11⟩

theorem inbK (j : ℕ) : ∀ a, (![512 * (j % 16), 0] : Fin 2 → ℕ) a + S512x256.size a ≤ S8192x256.size a := by
  intro a; fin_cases a
  · show 512 * (j % 16) + 512 ≤ 8192; omega
  · exact le_refl _
theorem inbV (j : ℕ) : ∀ a, (![512 * (j % 16), 0] : Fin 2 → ℕ) a + S512x128.size a ≤ S8192x128.size a := by
  intro a; fin_cases a
  · show 512 * (j % 16) + 512 ≤ 8192; omega
  · exact le_refl _

/-- The `j`-th block of 512 keys of the memref's contents. -/
def kBlk (a : Memref sig .tc .vmem S8192x256 .bf16) (X : BufTy.Contents (Elt F) a.view.ty) (j : ℕ) : Vec F S512x256 .bf16 :=
  a.view.readAt (Elt F) (Rect.unit (s := S8192x256) ![512 * (j % 16), 0] S512x256.size (inbK j)).toLoadRect X

/-- The `j`-th block of 512 values of the memref's contents. -/
def vBlk (a : Memref sig .tc .vmem S8192x128 .bf16) (X : BufTy.Contents (Elt F) a.view.ty) (j : ℕ) : Vec F S512x128 .bf16 :=
  a.view.readAt (Elt F) (Rect.unit (s := S8192x128) ![512 * (j % 16), 0] S512x128.size (inbV j)).toLoadRect X

/-- The `j`-th block of 512 queries of the memref's contents. -/
def qBlk (a : Memref sig .tc .vmem S2048x256 .bf16) (X : BufTy.Contents (Elt F) a.view.ty) (d : Fin 4) :
    Vec F S512x256 .bf16 :=
  a.view.readAt (Elt F) (Rect.unit (s := S2048x256) ![512 * d.val, 0] S512x256.size (by revert d; decide)).toLoadRect X

/-- A load at an offset equal to a block's is that block. -/
theorem kBlk_of (a : Memref sig .tc .vmem S8192x256 .bf16) (X : BufTy.Contents (Elt F) a.view.ty) (j : ℕ) {off : Fin 2 → ℕ}
    (inb : ∀ c, off c + S512x256.size c ≤ S8192x256.size c) (h : off = ![512 * (j % 16), 0]) :
    a.view.readAt (Elt F) (Rect.unit (s := S8192x256) off S512x256.size inb).toLoadRect X = kBlk a X j := by
  subst h; rfl
theorem vBlk_of (a : Memref sig .tc .vmem S8192x128 .bf16) (X : BufTy.Contents (Elt F) a.view.ty) (j : ℕ) {off : Fin 2 → ℕ}
    (inb : ∀ c, off c + S512x128.size c ≤ S8192x128.size c) (h : off = ![512 * (j % 16), 0]) :
    a.view.readAt (Elt F) (Rect.unit (s := S8192x128) off S512x128.size inb).toLoadRect X = vBlk a X j := by
  subst h; rfl

/-- The state after `t` steps of a row side whose diagonal block is `n`. -/
def walk (ones : FVec F S512x128 .bf16) (q : Vec F S512x256 .bf16) (K : ℕ → Vec F S512x256 .bf16)
    (V : ℕ → Vec F S512x128 .bf16) (n : ℕ) (t0 : St F) : ℕ → St F
  | 0 => t0
  | t + 1 => score q (K (n - t - 1)) (eat ones (V (n - t)) (walk ones q K V n t0 t))

end Cert.Mla

end
-- ==== Proof.Trip.lean ====
/- One trip of the loop over the blocks below the diagonal: two steps of each side. -/
module

public import proofs.«01_k».proof.Proof.Gen.KernelIdeal.Value
public import Idealize.ShloMosaic.Lib.VecWindow
public import Idealize.ShloMosaic.Lib.WritesUnit
public import proofs.«01_k».proof.Proof.Steps

@[expose] public section

set_option maxRecDepth 16384

noncomputable section

namespace Cert.Mla

open Idealize.ShloMosaic Idealize.ShloMosaic.TcCoe Cert.KernelIdeal Cert.KernelIdeal.Gen

variable {F : FTy → Type} [FloatOps F] [Named F]

theorem off2_eq : ∀ (i : grid0.Coords) (k : Fin (k0_t1_loop i).trips) (d : Fin 4) (e : Fin 2),
    k0_off2 i k (BitVec.ofNat 32 d.val) (BitVec.ofNat 32 e.val)
      = ![512 * ((4 * (i 1).val + d.val - (2 * k.val + e.val)) % 16), 0] := by decide +kernel
theorem off3_eq : ∀ (i : grid0.Coords) (k : Fin (k0_t1_loop i).trips) (d : Fin 4) (e : Fin 2),
    k0_off3 i k (BitVec.ofNat 32 d.val) (BitVec.ofNat 32 e.val)
      = ![512 * ((4 * (i 1).val + d.val - (2 * k.val + e.val) - 1) % 16), 0] := by decide +kernel
theorem trips1 : ∀ i : grid0.Coords, (k0_t1_loop i).trips = 2 * (i 1).val := by decide +kernel
theorem trips2 : ∀ i : grid0.Coords, (k0_t2_loop i).trips = 0 := by decide +kernel

set_option maxHeartbeats 4000000 in
/-- A trip at side `d`, its blocks where the program puts them. -/
theorem trip_raw (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (v14 : FVec F S512x128 .bf16) (v16 : BitVec 32) (v17 : Vec F S512x256 .bf16) (v19 : BitVec 32) (v20 : Vec F S512x256 .bf16) (v22 : BitVec 32) (v23 : Vec F S512x256 .bf16) (v25 : BitVec 32) (v26 : Vec F S512x256 .bf16) (v28 : BitVec 32) (v97 : FVec F S512x512 .f32) (v100 : IVec S512x512 1) (X_arg3 : BufTy.Contents (Elt F) arg3.view.ty) (X_arg4 : BufTy.Contents (Elt F) arg4.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (d : Fin 4) :
    rd arg8 arg9 arg10 arg11 (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 k f_arg8 f_arg9 f_arg10 f_arg11).1) (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 k f_arg8 f_arg9 f_arg10 f_arg11).2.1)
      (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 k f_arg8 f_arg9 f_arg10 f_arg11).2.2.1) (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 k f_arg8 f_arg9 f_arg10 f_arg11).2.2.2) d
     = score (![v17, v20, v23, v26] d) (arg3.view.readAt (Elt F) (Rect.unit (s := S8192x256) (k0_off3 i k (BitVec.ofNat 32 d.val) 1#32) S512x256.size (k0_off3_inb i k d 1)).toLoadRect X_arg3)
        (eat v14 (arg4.view.readAt (Elt F) (Rect.unit (s := S8192x128) (k0_off2 i k (BitVec.ofNat 32 d.val) 1#32) S512x128.size (k0_off2_inb i k d 1)).toLoadRect X_arg4)
        (score (![v17, v20, v23, v26] d) (arg3.view.readAt (Elt F) (Rect.unit (s := S8192x256) (k0_off3 i k (BitVec.ofNat 32 d.val) 0#32) S512x256.size (k0_off3_inb i k d 0)).toLoadRect X_arg3)
        (eat v14 (arg4.view.readAt (Elt F) (Rect.unit (s := S8192x128) (k0_off2 i k (BitVec.ofNat 32 d.val) 0#32) S512x128.size (k0_off2_inb i k d 0)).toLoadRect X_arg4)
          (rd arg8 arg9 arg10 arg11 f_arg8 f_arg9 f_arg10 f_arg11 d)))) := by
  unfold tripL_k0_t1 trip_k0_t1
  dsimp only
  obtain rfl | rfl | rfl | rfl : d = 0 ∨ d = 1 ∨ d = 2 ∨ d = 3 := by revert d; decide
  all_goals
    simp only [rd, score, eat, St.mk.injEq]
    dsimp only [val0, val1, val2, val3]
    refine ⟨?_, ?_, ?_, ?_⟩ <;>
    · sl_unfold_words
      simp (disch := decide) only [↓View.readCov, ↓slab_hit, ↓slab_miss, ↓View.writes_nil, ↓cat4_fold, ↓cat2_fold]
      rfl

/-- A trip takes every side two steps on. -/
theorem trip_walk (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (v14 : FVec F S512x128 .bf16) (v16 : BitVec 32) (v17 : Vec F S512x256 .bf16) (v19 : BitVec 32) (v20 : Vec F S512x256 .bf16) (v22 : BitVec 32) (v23 : Vec F S512x256 .bf16) (v25 : BitVec 32) (v26 : Vec F S512x256 .bf16) (v28 : BitVec 32) (v97 : FVec F S512x512 .f32) (v100 : IVec S512x512 1) (X_arg3 : BufTy.Contents (Elt F) arg3.view.ty) (X_arg4 : BufTy.Contents (Elt F) arg4.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (d : Fin 4) (t0 : St F)
    (h : rd arg8 arg9 arg10 arg11 f_arg8 f_arg9 f_arg10 f_arg11 d
      = walk v14 (![v17, v20, v23, v26] d) (kBlk arg3 X_arg3) (vBlk arg4 X_arg4) (4 * (i 1).val + d.val) t0 (2 * k.val)) :
    rd arg8 arg9 arg10 arg11 (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 k f_arg8 f_arg9 f_arg10 f_arg11).1) (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 k f_arg8 f_arg9 f_arg10 f_arg11).2.1)
      (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 k f_arg8 f_arg9 f_arg10 f_arg11).2.2.1) (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 k f_arg8 f_arg9 f_arg10 f_arg11).2.2.2) d
     = walk v14 (![v17, v20, v23, v26] d) (kBlk arg3 X_arg3) (vBlk arg4 X_arg4) (4 * (i 1).val + d.val) t0 (2 * (k.val + 1)) := by
  rw [trip_raw, h,
    kBlk_of arg3 X_arg3 _ (off := k0_off3 i k (BitVec.ofNat 32 d.val) 1#32) (k0_off3_inb i k d 1) (off3_eq i k d 1),
    kBlk_of arg3 X_arg3 _ (off := k0_off3 i k (BitVec.ofNat 32 d.val) 0#32) (k0_off3_inb i k d 0) (off3_eq i k d 0),
    vBlk_of arg4 X_arg4 _ (off := k0_off2 i k (BitVec.ofNat 32 d.val) 1#32) (k0_off2_inb i k d 1) (off2_eq i k d 1),
    vBlk_of arg4 X_arg4 _ (off := k0_off2 i k (BitVec.ofNat 32 d.val) 0#32) (k0_off2_inb i k d 0) (off2_eq i k d 0)]
  rfl

end Cert.Mla

end
-- ==== Proof.Loop.lean ====
/- The loop over the blocks below the diagonal: its trips are steps of each side. -/
module

public import proofs.«01_k».proof.Proof.Trip

@[expose] public section

set_option maxRecDepth 16384

noncomputable section

namespace Cert.Mla

open Idealize.ShloMosaic Idealize.ShloMosaic.TcCoe Cert.KernelIdeal Cert.KernelIdeal.Gen

variable {F : FTy → Type} [FloatOps F] [Named F]

/-- Before trip `n` every side has gone `2 n` steps. -/
theorem loop_walk (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (v14 : FVec F S512x128 .bf16) (v16 : BitVec 32) (v17 : Vec F S512x256 .bf16) (v19 : BitVec 32) (v20 : Vec F S512x256 .bf16) (v22 : BitVec 32) (v23 : Vec F S512x256 .bf16) (v25 : BitVec 32) (v26 : Vec F S512x256 .bf16) (v28 : BitVec 32) (v97 : FVec F S512x512 .f32) (v100 : IVec S512x512 1) (X_arg3 : BufTy.Contents (Elt F) arg3.view.ty) (X_arg4 : BufTy.Contents (Elt F) arg4.view.ty) (G8 : BufTy.Contents (Elt F) arg8.view.ty) (G9 : BufTy.Contents (Elt F) arg9.view.ty) (G10 : BufTy.Contents (Elt F) arg10.view.ty) (G11 : BufTy.Contents (Elt F) arg11.view.ty) (d : Fin 4) :
    ∀ n : ℕ, n ≤ (k0_t1_loop i).trips →
    rd arg8 arg9 arg10 arg11 (arg8.view.writes (Elt F) G8 (pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 G8 G9 G10 G11 n).1) (arg9.view.writes (Elt F) G9 (pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 G8 G9 G10 G11 n).2.1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 G8 G9 G10 G11 n).2.2.1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 G8 G9 G10 G11 n).2.2.2) d
     = walk v14 (![v17, v20, v23, v26] d) (kBlk arg3 X_arg3) (vBlk arg4 X_arg4) (4 * (i 1).val + d.val) (rd arg8 arg9 arg10 arg11 G8 G9 G10 G11 d) (2 * n)
  | 0, _ => rfl
  | n + 1, hn => by
    have ih := loop_walk 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 G8 G9 G10 G11 d n (by omega)
    have hs := pb_k0_t1_succ (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 G8 G9 G10 G11 ⟨n, hn⟩
    have ht := trip_walk 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 ⟨n, hn⟩ _ _ _ _ d _ ih
    rw [hs]
    simp only [View.writes_append]
    exact ht

/-- After both loops every side has gone through all the blocks but its last ones. -/
theorem loops_walk (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (v14 : FVec F S512x128 .bf16) (v16 : BitVec 32) (v17 : Vec F S512x256 .bf16) (v19 : BitVec 32) (v20 : Vec F S512x256 .bf16) (v22 : BitVec 32) (v23 : Vec F S512x256 .bf16) (v25 : BitVec 32) (v26 : Vec F S512x256 .bf16) (v28 : BitVec 32) (v97 : FVec F S512x512 .f32) (v100 : IVec S512x512 1) (X_arg3 : BufTy.Contents (Elt F) arg3.view.ty) (X_arg4 : BufTy.Contents (Elt F) arg4.view.ty) (v120 : BitVec 32) (L8 : List (View.Piece (Elt F) S4x512x128 .f32)) (L9 : List (View.Piece (Elt F) S4x512x256 .f32)) (L10 : List (View.Piece (Elt F) S4x512x512 .f32)) (L11 : List (View.Piece (Elt F) S4x512x128 .f32)) (H8 : BufTy.Contents (Elt F) arg8.view.ty) (H9 : BufTy.Contents (Elt F) arg9.view.ty) (H10 : BufTy.Contents (Elt F) arg10.view.ty) (H11 : BufTy.Contents (Elt F) arg11.view.ty) (d : Fin 4) :
    rd arg8 arg9 arg10 arg11 (arg8.view.writes (Elt F) arg8.view.junk ((pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)).1 ++ ((pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) (Scf.trips (k0_t1_loop i).lb (k0_t1_loop i).ub (k0_t1_loop i).st)).1 ++ L8))) (arg9.view.writes (Elt F) arg9.view.junk ((pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)).2.1 ++ ((pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) (Scf.trips (k0_t1_loop i).lb (k0_t1_loop i).ub (k0_t1_loop i).st)).2.1 ++ L9))) (arg10.view.writes (Elt F) arg10.view.junk ((pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)).2.2.1 ++ ((pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) (Scf.trips (k0_t1_loop i).lb (k0_t1_loop i).ub (k0_t1_loop i).st)).2.2.1 ++ L10))) (arg11.view.writes (Elt F) arg11.view.junk ((pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)).2.2.2 ++ ((pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) (Scf.trips (k0_t1_loop i).lb (k0_t1_loop i).ub (k0_t1_loop i).st)).2.2.2 ++ L11))) d
     = walk v14 (![v17, v20, v23, v26] d) (kBlk arg3 X_arg3) (vBlk arg4 X_arg4) (4 * (i 1).val + d.val) (rd arg8 arg9 arg10 arg11 (arg8.view.writes (Elt F) arg8.view.junk L8) (arg9.view.writes (Elt F) arg9.view.junk L9) (arg10.view.writes (Elt F) arg10.view.junk L10) (arg11.view.writes (Elt F) arg11.view.junk L11) d) (4 * (i 1).val) := by
  have h2 : (pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)) = ([], [], [], []) := by
    have : (Scf.trips (k0_t2_loop i).lb (k0_t2_loop i).ub (k0_t2_loop i).st) = 0 := trips2 i
    rw [this]; rfl
  have h1 := loop_walk 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) d _ (le_refl _)
  rw [trips1 i, show 2 * (2 * (i 1).val) = 4 * (i 1).val by omega] at h1
  rw [h2]
  simp only [List.nil_append, View.writes_append]
  rw [show (Scf.trips (k0_t1_loop i).lb (k0_t1_loop i).ub (k0_t1_loop i).st) = 2 * (i 1).val from trips1 i]
  exact h1

end Cert.Mla

end
-- ==== Proof.Body.lean ====
/- What one grid point stores: each of its four row sides, as a walk over the blocks of keys. -/
module

public import proofs.«01_k».proof.Proof.Loop

@[expose] public section

set_option maxRecDepth 16384

noncomputable section

namespace Cert.Mla

open Idealize.ShloMosaic Idealize.ShloMosaic.TcCoe Cert.KernelIdeal Cert.KernelIdeal.Gen

variable {F : FTy → Type} [FloatOps F] [Named F]

theorem loops_m (d : Fin 4) (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (v14 : FVec F S512x128 .bf16) (v16 : BitVec 32) (v17 : Vec F S512x256 .bf16) (v19 : BitVec 32) (v20 : Vec F S512x256 .bf16) (v22 : BitVec 32) (v23 : Vec F S512x256 .bf16) (v25 : BitVec 32) (v26 : Vec F S512x256 .bf16) (v28 : BitVec 32) (v97 : FVec F S512x512 .f32) (v100 : IVec S512x512 1) (X_arg3 : BufTy.Contents (Elt F) arg3.view.ty) (X_arg4 : BufTy.Contents (Elt F) arg4.view.ty) (v120 : BitVec 32) (L8 : List (View.Piece (Elt F) S4x512x128 .f32)) (L9 : List (View.Piece (Elt F) S4x512x256 .f32)) (L10 : List (View.Piece (Elt F) S4x512x512 .f32)) (L11 : List (View.Piece (Elt F) S4x512x128 .f32)) (H8 : BufTy.Contents (Elt F) arg8.view.ty) (H9 : BufTy.Contents (Elt F) arg9.view.ty) (H10 : BufTy.Contents (Elt F) arg10.view.ty) (H11 : BufTy.Contents (Elt F) arg11.view.ty) :
    arg8.view.readAt (Elt F) (Rect.unit (s := S4x512x128) ![d.val, 0, 0] ![1, 512, 128] (inb128 d)).toLoadRect (arg8.view.writes (Elt F) arg8.view.junk ((pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)).1 ++ ((pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) (Scf.trips (k0_t1_loop i).lb (k0_t1_loop i).ub (k0_t1_loop i).st)).1 ++ L8)))
     = (walk v14 (![v17, v20, v23, v26] d) (kBlk arg3 X_arg3) (vBlk arg4 X_arg4) (4 * (i 1).val + d.val) (rd arg8 arg9 arg10 arg11 (arg8.view.writes (Elt F) arg8.view.junk L8) (arg9.view.writes (Elt F) arg9.view.junk L9) (arg10.view.writes (Elt F) arg10.view.junk L10) (arg11.view.writes (Elt F) arg11.view.junk L11) d) (4 * (i 1).val)).m :=
  congrArg St.m (loops_walk 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 v120 L8 L9 L10 L11 H8 H9 H10 H11 d)

theorem loops_acc (d : Fin 4) (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (v14 : FVec F S512x128 .bf16) (v16 : BitVec 32) (v17 : Vec F S512x256 .bf16) (v19 : BitVec 32) (v20 : Vec F S512x256 .bf16) (v22 : BitVec 32) (v23 : Vec F S512x256 .bf16) (v25 : BitVec 32) (v26 : Vec F S512x256 .bf16) (v28 : BitVec 32) (v97 : FVec F S512x512 .f32) (v100 : IVec S512x512 1) (X_arg3 : BufTy.Contents (Elt F) arg3.view.ty) (X_arg4 : BufTy.Contents (Elt F) arg4.view.ty) (v120 : BitVec 32) (L8 : List (View.Piece (Elt F) S4x512x128 .f32)) (L9 : List (View.Piece (Elt F) S4x512x256 .f32)) (L10 : List (View.Piece (Elt F) S4x512x512 .f32)) (L11 : List (View.Piece (Elt F) S4x512x128 .f32)) (H8 : BufTy.Contents (Elt F) arg8.view.ty) (H9 : BufTy.Contents (Elt F) arg9.view.ty) (H10 : BufTy.Contents (Elt F) arg10.view.ty) (H11 : BufTy.Contents (Elt F) arg11.view.ty) :
    arg9.view.readAt (Elt F) (Rect.unit (s := S4x512x256) ![d.val, 0, 0] ![1, 512, 256] (inb256 d)).toLoadRect (arg9.view.writes (Elt F) arg9.view.junk ((pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)).2.1 ++ ((pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) (Scf.trips (k0_t1_loop i).lb (k0_t1_loop i).ub (k0_t1_loop i).st)).2.1 ++ L9)))
     = (walk v14 (![v17, v20, v23, v26] d) (kBlk arg3 X_arg3) (vBlk arg4 X_arg4) (4 * (i 1).val + d.val) (rd arg8 arg9 arg10 arg11 (arg8.view.writes (Elt F) arg8.view.junk L8) (arg9.view.writes (Elt F) arg9.view.junk L9) (arg10.view.writes (Elt F) arg10.view.junk L10) (arg11.view.writes (Elt F) arg11.view.junk L11) d) (4 * (i 1).val)).acc :=
  congrArg St.acc (loops_walk 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 v120 L8 L9 L10 L11 H8 H9 H10 H11 d)

theorem loops_s (d : Fin 4) (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (v14 : FVec F S512x128 .bf16) (v16 : BitVec 32) (v17 : Vec F S512x256 .bf16) (v19 : BitVec 32) (v20 : Vec F S512x256 .bf16) (v22 : BitVec 32) (v23 : Vec F S512x256 .bf16) (v25 : BitVec 32) (v26 : Vec F S512x256 .bf16) (v28 : BitVec 32) (v97 : FVec F S512x512 .f32) (v100 : IVec S512x512 1) (X_arg3 : BufTy.Contents (Elt F) arg3.view.ty) (X_arg4 : BufTy.Contents (Elt F) arg4.view.ty) (v120 : BitVec 32) (L8 : List (View.Piece (Elt F) S4x512x128 .f32)) (L9 : List (View.Piece (Elt F) S4x512x256 .f32)) (L10 : List (View.Piece (Elt F) S4x512x512 .f32)) (L11 : List (View.Piece (Elt F) S4x512x128 .f32)) (H8 : BufTy.Contents (Elt F) arg8.view.ty) (H9 : BufTy.Contents (Elt F) arg9.view.ty) (H10 : BufTy.Contents (Elt F) arg10.view.ty) (H11 : BufTy.Contents (Elt F) arg11.view.ty) :
    arg10.view.readAt (Elt F) (Rect.unit (s := S4x512x512) ![d.val, 0, 0] ![1, 512, 512] (inb512 d)).toLoadRect (arg10.view.writes (Elt F) arg10.view.junk ((pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)).2.2.1 ++ ((pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) (Scf.trips (k0_t1_loop i).lb (k0_t1_loop i).ub (k0_t1_loop i).st)).2.2.1 ++ L10)))
     = (walk v14 (![v17, v20, v23, v26] d) (kBlk arg3 X_arg3) (vBlk arg4 X_arg4) (4 * (i 1).val + d.val) (rd arg8 arg9 arg10 arg11 (arg8.view.writes (Elt F) arg8.view.junk L8) (arg9.view.writes (Elt F) arg9.view.junk L9) (arg10.view.writes (Elt F) arg10.view.junk L10) (arg11.view.writes (Elt F) arg11.view.junk L11) d) (4 * (i 1).val)).s :=
  congrArg St.s (loops_walk 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 v120 L8 L9 L10 L11 H8 H9 H10 H11 d)

theorem loops_mc (d : Fin 4) (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (v14 : FVec F S512x128 .bf16) (v16 : BitVec 32) (v17 : Vec F S512x256 .bf16) (v19 : BitVec 32) (v20 : Vec F S512x256 .bf16) (v22 : BitVec 32) (v23 : Vec F S512x256 .bf16) (v25 : BitVec 32) (v26 : Vec F S512x256 .bf16) (v28 : BitVec 32) (v97 : FVec F S512x512 .f32) (v100 : IVec S512x512 1) (X_arg3 : BufTy.Contents (Elt F) arg3.view.ty) (X_arg4 : BufTy.Contents (Elt F) arg4.view.ty) (v120 : BitVec 32) (L8 : List (View.Piece (Elt F) S4x512x128 .f32)) (L9 : List (View.Piece (Elt F) S4x512x256 .f32)) (L10 : List (View.Piece (Elt F) S4x512x512 .f32)) (L11 : List (View.Piece (Elt F) S4x512x128 .f32)) (H8 : BufTy.Contents (Elt F) arg8.view.ty) (H9 : BufTy.Contents (Elt F) arg9.view.ty) (H10 : BufTy.Contents (Elt F) arg10.view.ty) (H11 : BufTy.Contents (Elt F) arg11.view.ty) :
    arg11.view.readAt (Elt F) (Rect.unit (s := S4x512x128) ![d.val, 0, 0] ![1, 512, 128] (inb128 d)).toLoadRect (arg11.view.writes (Elt F) arg11.view.junk ((pb_k0_t2 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 v120 X_arg3 X_arg4 H8 H9 H10 H11 (Scf.trips (k0_t2_loop i).lb (k0_t2_loop i).ub (k0_t2_loop i).st)).2.2.2 ++ ((pb_k0_t1 (F := F) 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 (arg8.view.writes (Elt F) arg8.view.junk L8) (arg9.view.writes (Elt F) arg9.view.junk L9) (arg10.view.writes (Elt F) arg10.view.junk L10) (arg11.view.writes (Elt F) arg11.view.junk L11) (Scf.trips (k0_t1_loop i).lb (k0_t1_loop i).ub (k0_t1_loop i).st)).2.2.2 ++ L11)))
     = (walk v14 (![v17, v20, v23, v26] d) (kBlk arg3 X_arg3) (vBlk arg4 X_arg4) (4 * (i 1).val + d.val) (rd arg8 arg9 arg10 arg11 (arg8.view.writes (Elt F) arg8.view.junk L8) (arg9.view.writes (Elt F) arg9.view.junk L9) (arg10.view.writes (Elt F) arg10.view.junk L10) (arg11.view.writes (Elt F) arg11.view.junk L11) d) (4 * (i 1).val)).mc :=
  congrArg St.mc (loops_walk 𝒱 c bd i arg2 harg2 arg3 harg3 arg4 harg4 arg5 harg5 arg6 harg6 arg7 harg7 arg8 harg8 arg9 harg9 arg10 harg10 arg11 harg11 v14 v16 v17 v19 v20 v22 v23 v25 v26 v28 v97 v100 X_arg3 X_arg4 v120 L8 L9 L10 L11 H8 H9 H10 H11 d)

/-- The last steps of side `d`, over the blocks `d, …, 0`. -/
def finish (ones : FVec F S512x128 .bf16) (q : Vec F S512x256 .bf16) (K : ℕ → Vec F S512x256 .bf16)
    (V : ℕ → Vec F S512x128 .bf16) : ℕ → St F → St F
  | 0, t => eat ones (V 0) t
  | d + 1, t => finish ones q K V d (score q (K d) (eat ones (V (d + 1)) t))

/-- What a side starts from: nothing yet summed, the scores of the diagonal block. -/
def start (q K : Vec F S512x256 .bf16) : St F :=
  ⟨fun _ => Named.named κ "mask" 0xF149F2CA#32, fun _ => Scalar.ofBits .f32 0x00000000#32, k0_pay162 q K, k0_pay163 q K⟩

/-- A scratch array filled with one value reads that value everywhere. -/
theorem slab_const {sig : RefSig} {κ : Kind} {sp : Space} {S : Shape} {e : EltTy} {Val : EltTy → Type}
    (v : View sig κ sp S e) (f : v.ty.Contents Val) {off size off' size' : Fin S.rank → ℕ}
    (inb : ∀ a, off a + size a ≤ S.size a) (inb' : ∀ a, off' a + size' a ≤ S.size a) (a : Val e)
    (h0 : ∀ c, off' c = 0) (h1 : ∀ c, size' c = S.size c) :
    v.readAt Val (Rect.unit off size inb).toLoadRect (v.writes Val f [⟨Rect.unit off' size' inb', fun _ => a⟩])
      = fun _ => a := by
  funext x
  have hlt : ∀ c, off c + (x c).val < size' c := fun c => by
    have h2 : (x c).val < size c := (x c).isLt
    have := inb c; rw [h1 c]; omega
  exact View.read_writes_cons_unit_of_mem (v := v) (f := f) inb' (fun _ => a) [] _ (fun c => ⟨off c + (x c).val, hlt c⟩) rfl
    (fun c => by show off c + 1 * (x c).val = off' c + (off c + (x c).val); rw [h0 c]; omega)

theorem slab158 {sg : RefSig} {kd : Kind} {sp : Space} (v : View sg kd sp S4x512x128 .f32) (f : v.ty.Contents (Elt F)) {off size : Fin 3 → ℕ}
    (inb : ∀ a, off a + size a ≤ S4x512x128.size a) (inb' : ∀ a, (![0, 0, 0] : Fin 3 → ℕ) a + (![4, 512, 128] : Fin 3 → ℕ) a ≤ S4x512x128.size a) :
    v.readAt (Elt F) (Rect.unit (s := S4x512x128) off size inb).toLoadRect (v.writes (Elt F) f [⟨Rect.unit (s := S4x512x128) ![0, 0, 0] ![4, 512, 128] inb', k0_pay158 (F := F)⟩])
      = fun _ => Named.named κ "mask" 0xF149F2CA#32 :=
  slab_const (S := S4x512x128) (off' := ![0, 0, 0]) (size' := ![4, 512, 128]) v f inb inb' _ (by decide) (by decide)

theorem slab159 {sg : RefSig} {kd : Kind} {sp : Space} (v : View sg kd sp S4x512x256 .f32) (f : v.ty.Contents (Elt F)) {off size : Fin 3 → ℕ}
    (inb : ∀ a, off a + size a ≤ S4x512x256.size a) (inb' : ∀ a, (![0, 0, 0] : Fin 3 → ℕ) a + (![4, 512, 256] : Fin 3 → ℕ) a ≤ S4x512x256.size a) :
    v.readAt (Elt F) (Rect.unit (s := S4x512x256) off size inb).toLoadRect (v.writes (Elt F) f [⟨Rect.unit (s := S4x512x256) ![0, 0, 0] ![4, 512, 256] inb', k0_pay159 (F := F)⟩])
      = fun _ => Scalar.ofBits .f32 0x00000000#32 :=
  slab_const (S := S4x512x256) (off' := ![0, 0, 0]) (size' := ![4, 512, 256]) v f inb inb' _ (by decide) (by decide)

theorem off8_eq : ∀ (i : grid0.Coords) (d e : Fin 4), e ≤ d →
    k0_off8 i (BitVec.ofNat 32 d.val) (BitVec.ofNat 32 e.val) = ![512 * ((d.val - e.val) % 16), 0] := by decide +kernel
theorem off9_eq : ∀ (i : grid0.Coords) (d e : Fin 4), e < d →
    k0_off9 i (BitVec.ofNat 32 d.val) (BitVec.ofNat 32 e.val) = ![512 * ((d.val - e.val - 1) % 16), 0] := by decide +kernel
theorem off1_eq : ∀ (i : grid0.Coords) (d : Fin 4),
    k0_off1 i (BitVec.ofNat 32 d.val) = ![512 * ((4 * (i 1).val + d.val) % 16), 0] := by decide +kernel

theorem qBlk_of (a : Memref sig .tc .vmem S2048x256 .bf16) (X : BufTy.Contents (Elt F) a.view.ty) (d : Fin 4) {off : Fin 2 → ℕ}
    (inb : ∀ c, off c + S512x256.size c ≤ S2048x256.size c) (h : off = ![512 * d.val, 0]) :
    a.view.readAt (Elt F) (Rect.unit (s := S2048x256) off S512x256.size inb).toLoadRect X = qBlk a X d := by
  subst h; rfl

theorem vec0 {α : Type} (a b c d : α) : (![a, b, c, d] : Fin 4 → α) 0 = a := rfl
theorem vec1 {α : Type} (a b c d : α) : (![a, b, c, d] : Fin 4 → α) 1 = b := rfl
theorem vec2 {α : Type} (a b c d : α) : (![a, b, c, d] : Fin 4 → α) 2 = c := rfl
theorem vec3 {α : Type} (a b c d : α) : (![a, b, c, d] : Fin 4 → α) 3 = d := rfl

theorem off8_inb (i : grid0.Coords) (d e : Fin 4) (h : e ≤ d) : ∀ a,
    k0_off8 i (BitVec.ofNat 32 d.val) (BitVec.ofNat 32 e.val) a + S512x128.size a ≤ S8192x128.size a := by
  rw [off8_eq i d e h]; exact inbV _
theorem off9_inb (i : grid0.Coords) (d e : Fin 4) (h : e < d) : ∀ a,
    k0_off9 i (BitVec.ofNat 32 d.val) (BitVec.ofNat 32 e.val) a + S512x256.size a ≤ S8192x256.size a := by
  rw [off9_eq i d e h]; exact inbK _

set_option maxHeartbeats 4000000 in
/-- The running sums side 0 ends with. -/
theorem side0 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (x0 : Vec F S2048x256 .bf16) (x1 : Vec F S8192x256 .bf16) (x2 : Vec F S8192x128 .bf16) :
    kernelRun0_A.sl.v310 (F := F) c i arg2 harg2 arg3 harg3 arg4 harg4 arg5 harg5 arg6 harg6 arg7 harg7 arg8 harg8 arg9 harg9 arg10 harg10 arg11 harg11 x0 x1 x2
      = (finish k0_pay160 (qBlk arg2 (harg2.unread x0) 0) (kBlk arg3 (harg3.unread x1)) (vBlk arg4 (harg4.unread x2)) 0
          (walk k0_pay160 (qBlk arg2 (harg2.unread x0) 0) (kBlk arg3 (harg3.unread x1)) (vBlk arg4 (harg4.unread x2)) (4 * (i 1).val + 0)
            (start (qBlk arg2 (harg2.unread x0) 0) (kBlk arg3 (harg3.unread x1) (4 * (i 1).val + 0))) (4 * (i 1).val))).acc := by
  have hm := loops_m (F := F) 0
  have hacc := loops_acc (F := F) 0
  have hs := loops_s (F := F) 0
  have hmc := loops_mc (F := F) 0
  dsimp only [val0, vec0] at hm hacc hs hmc
  simp only [finish, eat, score, start]
  rw [← vBlk_of arg4 (harg4.unread x2) 0 (off := k0_off8 i 0#32 0#32) (off8_inb i 0 0 (by decide)) (off8_eq i 0 0 (by decide))]
  rw [← qBlk_of arg2 (harg2.unread x0) 0 (off := ![0, 0]) inb_S2048x256_S512x256_0_0 (by decide)]
  rw [← kBlk_of arg3 (harg3.unread x1) (4 * (i 1).val + 0) (off := k0_off1 i 0#32) (k0_off1_inb i 0) (off1_eq i 0)]
  sl_unfold_words
  simp (disch := decide) only [↓View.readCov, ↓hm, ↓hacc, ↓hs, ↓hmc, ↓slab_hit, ↓slab_miss, ↓cat4_fold, ↓cat2_fold, ↓rd]
  dsimp only [val0]
  simp (disch := decide) only [↓slab_hit, ↓slab_miss, ↓slab158, ↓slab159]
  rfl

set_option maxHeartbeats 4000000 in
/-- The running sums side 1 ends with. -/
theorem side1 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (x0 : Vec F S2048x256 .bf16) (x1 : Vec F S8192x256 .bf16) (x2 : Vec F S8192x128 .bf16) :
    kernelRun0_A.sl.v466 (F := F) c i arg2 harg2 arg3 harg3 arg4 harg4 arg5 harg5 arg6 harg6 arg7 harg7 arg8 harg8 arg9 harg9 arg10 harg10 arg11 harg11 x0 x1 x2
      = (finish k0_pay160 (qBlk arg2 (harg2.unread x0) 1) (kBlk arg3 (harg3.unread x1)) (vBlk arg4 (harg4.unread x2)) 1
          (walk k0_pay160 (qBlk arg2 (harg2.unread x0) 1) (kBlk arg3 (harg3.unread x1)) (vBlk arg4 (harg4.unread x2)) (4 * (i 1).val + 1)
            (start (qBlk arg2 (harg2.unread x0) 1) (kBlk arg3 (harg3.unread x1) (4 * (i 1).val + 1))) (4 * (i 1).val))).acc := by
  have hm := loops_m (F := F) 1
  have hacc := loops_acc (F := F) 1
  have hs := loops_s (F := F) 1
  have hmc := loops_mc (F := F) 1
  dsimp only [val1, vec1] at hm hacc hs hmc
  simp only [finish, eat, score, start]
  rw [← vBlk_of arg4 (harg4.unread x2) 1 (off := k0_off8 i 1#32 0#32) (off8_inb i 1 0 (by decide)) (off8_eq i 1 0 (by decide)),
    ← vBlk_of arg4 (harg4.unread x2) 0 (off := k0_off8 i 1#32 1#32) (off8_inb i 1 1 (by decide)) (off8_eq i 1 1 (by decide)),
    ← kBlk_of arg3 (harg3.unread x1) 0 (off := k0_off9 i 1#32 0#32) (off9_inb i 1 0 (by decide)) (off9_eq i 1 0 (by decide))]
  rw [← qBlk_of arg2 (harg2.unread x0) 1 (off := ![512, 0]) inb_S2048x256_S512x256_512_0 (by decide)]
  rw [← kBlk_of arg3 (harg3.unread x1) (4 * (i 1).val + 1) (off := k0_off1 i 1#32) (k0_off1_inb i 1) (off1_eq i 1)]
  sl_unfold_words
  simp (disch := decide) only [↓View.readCov, ↓hm, ↓hacc, ↓hs, ↓hmc, ↓slab_hit, ↓slab_miss, ↓cat4_fold, ↓cat2_fold, ↓rd]
  dsimp only [val1]
  simp (disch := decide) only [↓slab_hit, ↓slab_miss, ↓slab158, ↓slab159]
  rfl

set_option maxHeartbeats 4000000 in
/-- The running sums side 2 ends with. -/
theorem side2 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (x0 : Vec F S2048x256 .bf16) (x1 : Vec F S8192x256 .bf16) (x2 : Vec F S8192x128 .bf16) :
    kernelRun0_A.sl.v572 (F := F) c i arg2 harg2 arg3 harg3 arg4 harg4 arg5 harg5 arg6 harg6 arg7 harg7 arg8 harg8 arg9 harg9 arg10 harg10 arg11 harg11 x0 x1 x2
      = (finish k0_pay160 (qBlk arg2 (harg2.unread x0) 2) (kBlk arg3 (harg3.unread x1)) (vBlk arg4 (harg4.unread x2)) 2
          (walk k0_pay160 (qBlk arg2 (harg2.unread x0) 2) (kBlk arg3 (harg3.unread x1)) (vBlk arg4 (harg4.unread x2)) (4 * (i 1).val + 2)
            (start (qBlk arg2 (harg2.unread x0) 2) (kBlk arg3 (harg3.unread x1) (4 * (i 1).val + 2))) (4 * (i 1).val))).acc := by
  have hm := loops_m (F := F) 2
  have hacc := loops_acc (F := F) 2
  have hs := loops_s (F := F) 2
  have hmc := loops_mc (F := F) 2
  dsimp only [val2, vec2] at hm hacc hs hmc
  simp only [finish, eat, score, start]
  rw [← vBlk_of arg4 (harg4.unread x2) 2 (off := k0_off8 i 2#32 0#32) (off8_inb i 2 0 (by decide)) (off8_eq i 2 0 (by decide)),
    ← vBlk_of arg4 (harg4.unread x2) 1 (off := k0_off8 i 2#32 1#32) (off8_inb i 2 1 (by decide)) (off8_eq i 2 1 (by decide)),
    ← vBlk_of arg4 (harg4.unread x2) 0 (off := k0_off8 i 2#32 2#32) (off8_inb i 2 2 (by decide)) (off8_eq i 2 2 (by decide)),
    ← kBlk_of arg3 (harg3.unread x1) 1 (off := k0_off9 i 2#32 0#32) (off9_inb i 2 0 (by decide)) (off9_eq i 2 0 (by decide)),
    ← kBlk_of arg3 (harg3.unread x1) 0 (off := k0_off9 i 2#32 1#32) (off9_inb i 2 1 (by decide)) (off9_eq i 2 1 (by decide))]
  rw [← qBlk_of arg2 (harg2.unread x0) 2 (off := ![1024, 0]) inb_S2048x256_S512x256_1024_0 (by decide)]
  rw [← kBlk_of arg3 (harg3.unread x1) (4 * (i 1).val + 2) (off := k0_off1 i 2#32) (k0_off1_inb i 2) (off1_eq i 2)]
  sl_unfold_words
  simp (disch := decide) only [↓View.readCov, ↓hm, ↓hacc, ↓hs, ↓hmc, ↓slab_hit, ↓slab_miss, ↓cat4_fold, ↓cat2_fold, ↓rd]
  dsimp only [val2]
  simp (disch := decide) only [↓slab_hit, ↓slab_miss, ↓slab158, ↓slab159]
  rfl

set_option maxHeartbeats 4000000 in
/-- The running sums side 3 ends with. -/
theorem side3 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (x0 : Vec F S2048x256 .bf16) (x1 : Vec F S8192x256 .bf16) (x2 : Vec F S8192x128 .bf16) :
    kernelRun0_A.sl.v628 (F := F) c i arg2 harg2 arg3 harg3 arg4 harg4 arg5 harg5 arg6 harg6 arg7 harg7 arg8 harg8 arg9 harg9 arg10 harg10 arg11 harg11 x0 x1 x2
      = (finish k0_pay160 (qBlk arg2 (harg2.unread x0) 3) (kBlk arg3 (harg3.unread x1)) (vBlk arg4 (harg4.unread x2)) 3
          (walk k0_pay160 (qBlk arg2 (harg2.unread x0) 3) (kBlk arg3 (harg3.unread x1)) (vBlk arg4 (harg4.unread x2)) (4 * (i 1).val + 3)
            (start (qBlk arg2 (harg2.unread x0) 3) (kBlk arg3 (harg3.unread x1) (4 * (i 1).val + 3))) (4 * (i 1).val))).acc := by
  have hm := loops_m (F := F) 3
  have hacc := loops_acc (F := F) 3
  have hs := loops_s (F := F) 3
  have hmc := loops_mc (F := F) 3
  dsimp only [val3, vec3] at hm hacc hs hmc
  simp only [finish, eat, score, start]
  rw [← vBlk_of arg4 (harg4.unread x2) 3 (off := k0_off8 i 3#32 0#32) (off8_inb i 3 0 (by decide)) (off8_eq i 3 0 (by decide)),
    ← vBlk_of arg4 (harg4.unread x2) 2 (off := k0_off8 i 3#32 1#32) (off8_inb i 3 1 (by decide)) (off8_eq i 3 1 (by decide)),
    ← vBlk_of arg4 (harg4.unread x2) 1 (off := k0_off8 i 3#32 2#32) (off8_inb i 3 2 (by decide)) (off8_eq i 3 2 (by decide)),
    ← vBlk_of arg4 (harg4.unread x2) 0 (off := k0_off8 i 3#32 3#32) (off8_inb i 3 3 (by decide)) (off8_eq i 3 3 (by decide)),
    ← kBlk_of arg3 (harg3.unread x1) 2 (off := k0_off9 i 3#32 0#32) (off9_inb i 3 0 (by decide)) (off9_eq i 3 0 (by decide)),
    ← kBlk_of arg3 (harg3.unread x1) 1 (off := k0_off9 i 3#32 1#32) (off9_inb i 3 1 (by decide)) (off9_eq i 3 1 (by decide)),
    ← kBlk_of arg3 (harg3.unread x1) 0 (off := k0_off9 i 3#32 2#32) (off9_inb i 3 2 (by decide)) (off9_eq i 3 2 (by decide))]
  rw [← qBlk_of arg2 (harg2.unread x0) 3 (off := ![1536, 0]) inb_S2048x256_S512x256_1536_0 (by decide)]
  rw [← kBlk_of arg3 (harg3.unread x1) (4 * (i 1).val + 3) (off := k0_off1 i 3#32) (k0_off1_inb i 3) (off1_eq i 3)]
  sl_unfold_words
  simp (disch := decide) only [↓View.readCov, ↓hm, ↓hacc, ↓hs, ↓hmc, ↓slab_hit, ↓slab_miss, ↓cat4_fold, ↓cat2_fold, ↓rd]
  dsimp only [val3]
  simp (disch := decide) only [↓slab_hit, ↓slab_miss, ↓slab158, ↓slab159]
  rfl

end Cert.Mla

end
-- ==== Proof.Block.lean ====
/- The block that a point of the attention kernel stores, read at an index. -/
module

public import proofs.«01_k».proof.Proof.Body
public import Idealize.ShloMosaic.Lib.Pipeline.ValueKit
public import Idealize.ShloMosaic.Lib.Pointwise

@[expose] public section

set_option maxRecDepth 16384

noncomputable section

namespace Cert.Mla

open Idealize.ShloMosaic Idealize.ShloMosaic.TcCoe Cert.KernelIdeal Cert.KernelIdeal.Gen

variable {F : FTy → Type} [FloatOps F] [Named F]

/-- The sums that side `d` of a point ends with. -/
def sums (i : grid0.Coords) (q : Vec F S512x256 .bf16) (K : ℕ → Vec F S512x256 .bf16) (V : ℕ → Vec F S512x128 .bf16) (d : Fin 4) :
    Vec F S1x512x256 .f32 :=
  (finish k0_pay160 q K V d.val (walk k0_pay160 q K V (4 * (i 1).val + d.val) (start q (K (4 * (i 1).val + d.val))) (4 * (i 1).val))).acc

/-- Rows of the gate's block. -/
def gBlk (x3 : Vec F S2048x128 .f32) (d : Fin 4) : Vec F S512x128 .f32 :=
  fun x => x3 (ix2 ⟨512 * d.val + (x 0).val, by have h : (x 0).val < 512 := (x 0).isLt; have := d.isLt; omega⟩ (x 1))

theorem gBlk_of (a : Memref sig .tc .vmem S2048x128 .f32) (ha : a.IsWhole) (x3 : Vec F S2048x128 .f32) (d : Fin 4) {off : Fin 2 → ℕ}
    (inb : ∀ c, off c + S512x128.size c ≤ S2048x128.size c) (h : off = ![512 * d.val, 0]) :
    a.view.readAt (Elt F) (Rect.unit (s := S2048x128) off S512x128.size inb).toLoadRect (ha.unread x3) = gBlk x3 d := by
  subst h
  rw [View.readAt_eq_ld, Memref.IsWhole.read_unread]
  funext x
  refine View.ld_unit_apply_of _ _ _ _ _ _ fun c => ?_
  fin_cases c
  · rfl
  · exact (Nat.zero_add _).symm

theorem gn_of (a : Memref sig .tc .vmem S1x128 .f32) (ha : a.IsWhole) (x4 : Vec F S1x128 .f32)
    (inb : ∀ c, (![0, 0] : Fin 2 → ℕ) c + S1x128.size c ≤ S1x128.size c) :
    a.view.readAt (Elt F) (Rect.unit (s := S1x128) ![0, 0] S1x128.size inb).toLoadRect (ha.unread x4) = x4 := by
  rw [View.readAt_eq_ld, Memref.IsWhole.read_unread]
  funext x
  refine View.ld_unit_apply_of _ _ _ _ _ _ fun c => ?_
  fin_cases c
  · exact (Nat.zero_add _).symm
  · exact (Nat.zero_add _).symm

set_option maxHeartbeats 1000000 in
/-- What side 0 stores. -/
theorem store0 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (x0 : Vec F S2048x256 .bf16) (x1 : Vec F S8192x256 .bf16) (x2 : Vec F S8192x128 .bf16) (x3 : Vec F S2048x128 .f32) (x4 : Vec F S1x128 .f32) :
    kernelRun0_A.sl.v331 (F := F) c i arg2 harg2 arg3 harg3 arg4 harg4 arg5 harg5 arg6 harg6 arg7 harg7 arg8 harg8 arg9 harg9 arg10 harg10 arg11 harg11 x0 x1 x2 x3 x4
      = k0_pay208 (kernelRun0_A.sl.v310 (F := F) c i arg2 harg2 arg3 harg3 arg4 harg4 arg5 harg5 arg6 harg6 arg7 harg7 arg8 harg8 arg9 harg9 arg10 harg10 arg11 harg11 x0 x1 x2) x4 (gBlk x3 0) := by
  exact congrArg₂ (k0_pay208 (kernelRun0_A.sl.v310 (F := F) c i arg2 harg2 arg3 harg3 arg4 harg4 arg5 harg5 arg6 harg6 arg7 harg7 arg8 harg8 arg9 harg9 arg10 harg10 arg11 harg11 x0 x1 x2)) (gn_of arg6 harg6 x4 inb_S1x128_S1x128_0_0) (gBlk_of arg5 harg5 x3 0 (off := ![0, 0]) inb_S2048x128_S512x128_0_0 (by decide))

set_option maxHeartbeats 1000000 in
/-- What side 1 stores. -/
theorem store1 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (x0 : Vec F S2048x256 .bf16) (x1 : Vec F S8192x256 .bf16) (x2 : Vec F S8192x128 .bf16) (x3 : Vec F S2048x128 .f32) (x4 : Vec F S1x128 .f32) :
    kernelRun0_A.sl.v487 (F := F) c i arg2 harg2 arg3 harg3 arg4 harg4 arg5 harg5 arg6 harg6 arg7 harg7 arg8 harg8 arg9 harg9 arg10 harg10 arg11 harg11 x0 x1 x2 x3 x4
      = k0_pay208 (kernelRun0_A.sl.v466 (F := F) c i arg2 harg2 arg3 harg3 arg4 harg4 arg5 harg5 arg6 harg6 arg7 harg7 arg8 harg8 arg9 harg9 arg10 harg10 arg11 harg11 x0 x1 x2) x4 (gBlk x3 1) := by
  exact congrArg₂ (k0_pay208 (kernelRun0_A.sl.v466 (F := F) c i arg2 harg2 arg3 harg3 arg4 harg4 arg5 harg5 arg6 harg6 arg7 harg7 arg8 harg8 arg9 harg9 arg10 harg10 arg11 harg11 x0 x1 x2)) (gn_of arg6 harg6 x4 inb_S1x128_S1x128_0_0) (gBlk_of arg5 harg5 x3 1 (off := ![512, 0]) inb_S2048x128_S512x128_512_0 (by decide))

set_option maxHeartbeats 1000000 in
/-- What side 2 stores. -/
theorem store2 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (x0 : Vec F S2048x256 .bf16) (x1 : Vec F S8192x256 .bf16) (x2 : Vec F S8192x128 .bf16) (x3 : Vec F S2048x128 .f32) (x4 : Vec F S1x128 .f32) :
    kernelRun0_A.sl.v593 (F := F) c i arg2 harg2 arg3 harg3 arg4 harg4 arg5 harg5 arg6 harg6 arg7 harg7 arg8 harg8 arg9 harg9 arg10 harg10 arg11 harg11 x0 x1 x2 x3 x4
      = k0_pay208 (kernelRun0_A.sl.v572 (F := F) c i arg2 harg2 arg3 harg3 arg4 harg4 arg5 harg5 arg6 harg6 arg7 harg7 arg8 harg8 arg9 harg9 arg10 harg10 arg11 harg11 x0 x1 x2) x4 (gBlk x3 2) := by
  exact congrArg₂ (k0_pay208 (kernelRun0_A.sl.v572 (F := F) c i arg2 harg2 arg3 harg3 arg4 harg4 arg5 harg5 arg6 harg6 arg7 harg7 arg8 harg8 arg9 harg9 arg10 harg10 arg11 harg11 x0 x1 x2)) (gn_of arg6 harg6 x4 inb_S1x128_S1x128_0_0) (gBlk_of arg5 harg5 x3 2 (off := ![1024, 0]) inb_S2048x128_S512x128_1024_0 (by decide))

set_option maxHeartbeats 4000000 in
/-- What side 3 stores. -/
theorem store3 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (x0 : Vec F S2048x256 .bf16) (x1 : Vec F S8192x256 .bf16) (x2 : Vec F S8192x128 .bf16) (x3 : Vec F S2048x128 .f32) (x4 : Vec F S1x128 .f32) :
    k0_pay1 (kernelRun0_A.sl.r_8 (F := F) c i arg2 harg2 arg3 harg3 arg4 harg4 arg5 harg5 arg6 harg6 arg7 harg7 arg8 harg8 arg9 harg9 arg10 harg10 arg11 harg11 x0 x1 x2)
        (arg6.view.readAt (Elt F) (Rect.unit (s := S1x128) ![0, 0] ![1, 128] inb_S1x128_S1x128_0_0).toLoadRect (harg6.unread x4))
        (arg5.view.readAt (Elt F) (Rect.unit (s := S2048x128) ![1536, 0] ![512, 128] inb_S2048x128_S512x128_1536_0).toLoadRect (harg5.unread x3))
      = k0_pay208 (kernelRun0_A.sl.v628 (F := F) c i arg2 harg2 arg3 harg3 arg4 harg4 arg5 harg5 arg6 harg6 arg7 harg7 arg8 harg8 arg9 harg9 arg10 harg10 arg11 harg11 x0 x1 x2) x4 (gBlk x3 3) := by
  exact congrArg₂ (k0_pay208 (kernelRun0_A.sl.v628 (F := F) c i arg2 harg2 arg3 harg3 arg4 harg4 arg5 harg5 arg6 harg6 arg7 harg7 arg8 harg8 arg9 harg9 arg10 harg10 arg11 harg11 x0 x1 x2)) (gn_of arg6 harg6 x4 inb_S1x128_S1x128_0_0) (gBlk_of arg5 harg5 x3 3 (off := ![1536, 0]) inb_S2048x128_S512x128_1536_0 (by decide))

theorem miss (v : View sig .tc .vmem S2048x128 .bf16) (f : v.ty.Contents (Elt F)) (o : ℕ) (inb : ∀ a, (![o, 0] : Fin 2 → ℕ) a + S512x128.size a ≤ S2048x128.size a)
    (w : (Rect.unit (s := S2048x128) ![o, 0] S512x128.size inb).shape.Idx → Elt F .bf16) (L : List (View.Piece (Elt F) S2048x128 .bf16)) (y : S2048x128.Idx)
    (h : (y 0).val < o) :
    v.read (Elt F) (v.writes (Elt F) f (⟨Rect.unit (s := S2048x128) ![o, 0] S512x128.size inb, w⟩ :: L)) y = v.read (Elt F) (v.writes (Elt F) f L) y :=
  View.read_writes_cons_unit_of_not_mem (v := v) (f := f) inb w L y rfl 0 (.inl h)

theorem hit (v : View sig .tc .vmem S2048x128 .bf16) (f : v.ty.Contents (Elt F)) (o : ℕ) (inb : ∀ a, (![o, 0] : Fin 2 → ℕ) a + S512x128.size a ≤ S2048x128.size a)
    (w : S512x128.Idx → Elt F .bf16) (L : List (View.Piece (Elt F) S2048x128 .bf16)) (y : S2048x128.Idx) (x : S512x128.Idx)
    (h0 : (y 0).val = o + (x 0).val) (h1 : (y 1).val = (x 1).val) :
    v.read (Elt F) (v.writes (Elt F) f (⟨Rect.unit (s := S2048x128) ![o, 0] S512x128.size inb, w⟩ :: L)) y = w x :=
  View.read_writes_cons_unit_of_mem (v := v) (f := f) inb w L y x rfl
    (Fin.forall_fin_two.mpr ⟨h0, h1.trans (Nat.zero_add _).symm⟩)

set_option maxHeartbeats 4000000 in
/-- The four stores of a point, one for each side. -/
theorem pieces (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (hc0 : ¬cond0_0 i) (x0 : Vec F S2048x256 .bf16) (x1 : Vec F S8192x256 .bf16) (x2 : Vec F S8192x128 .bf16) (x3 : Vec F S2048x128 .f32) (x4 : Vec F S1x128 .f32) :
    (kernelRun0_A (F := F) c i arg2 harg2 arg3 harg3 arg4 harg4 arg5 harg5 arg6 harg6 arg7 harg7 arg8 harg8 arg9 harg9 arg10 harg10 arg11 harg11 hc0 x0 x1 x2 x3 x4).1 = [
      ⟨Rect.unit (s := S2048x128) ![1536, 0] S512x128.size inb_S2048x128_S512x128_1536_0, k0_pay208 (sums i (qBlk arg2 (harg2.unread x0) 3) (kBlk arg3 (harg3.unread x1)) (vBlk arg4 (harg4.unread x2)) 3) x4 (gBlk x3 3)⟩,
      ⟨Rect.unit (s := S2048x128) ![1024, 0] S512x128.size inb_S2048x128_S512x128_1024_0, k0_pay208 (sums i (qBlk arg2 (harg2.unread x0) 2) (kBlk arg3 (harg3.unread x1)) (vBlk arg4 (harg4.unread x2)) 2) x4 (gBlk x3 2)⟩,
      ⟨Rect.unit (s := S2048x128) ![512, 0] S512x128.size inb_S2048x128_S512x128_512_0, k0_pay208 (sums i (qBlk arg2 (harg2.unread x0) 1) (kBlk arg3 (harg3.unread x1)) (vBlk arg4 (harg4.unread x2)) 1) x4 (gBlk x3 1)⟩,
      ⟨Rect.unit (s := S2048x128) ![0, 0] S512x128.size inb_S2048x128_S512x128_0_0, k0_pay208 (sums i (qBlk arg2 (harg2.unread x0) 0) (kBlk arg3 (harg3.unread x1)) (vBlk arg4 (harg4.unread x2)) 0) x4 (gBlk x3 0)⟩] := by
  have h3 := (store3 (F := F) c i arg2 harg2 arg3 harg3 arg4 harg4 arg5 harg5 arg6 harg6 arg7 harg7 arg8 harg8 arg9 harg9 arg10 harg10 arg11 harg11 x0 x1 x2 x3 x4).trans (congrArg (k0_pay208 · x4 (gBlk x3 3)) (side3 (F := F) c i arg2 harg2 arg3 harg3 arg4 harg4 arg5 harg5 arg6 harg6 arg7 harg7 arg8 harg8 arg9 harg9 arg10 harg10 arg11 harg11 x0 x1 x2))
  have h2 := (store2 (F := F) c i arg2 harg2 arg3 harg3 arg4 harg4 arg5 harg5 arg6 harg6 arg7 harg7 arg8 harg8 arg9 harg9 arg10 harg10 arg11 harg11 x0 x1 x2 x3 x4).trans (congrArg (k0_pay208 · x4 (gBlk x3 2)) (side2 (F := F) c i arg2 harg2 arg3 harg3 arg4 harg4 arg5 harg5 arg6 harg6 arg7 harg7 arg8 harg8 arg9 harg9 arg10 harg10 arg11 harg11 x0 x1 x2))
  have h1 := (store1 (F := F) c i arg2 harg2 arg3 harg3 arg4 harg4 arg5 harg5 arg6 harg6 arg7 harg7 arg8 harg8 arg9 harg9 arg10 harg10 arg11 harg11 x0 x1 x2 x3 x4).trans (congrArg (k0_pay208 · x4 (gBlk x3 1)) (side1 (F := F) c i arg2 harg2 arg3 harg3 arg4 harg4 arg5 harg5 arg6 harg6 arg7 harg7 arg8 harg8 arg9 harg9 arg10 harg10 arg11 harg11 x0 x1 x2))
  have h0 := (store0 (F := F) c i arg2 harg2 arg3 harg3 arg4 harg4 arg5 harg5 arg6 harg6 arg7 harg7 arg8 harg8 arg9 harg9 arg10 harg10 arg11 harg11 x0 x1 x2 x3 x4).trans (congrArg (k0_pay208 · x4 (gBlk x3 0)) (side0 (F := F) c i arg2 harg2 arg3 harg3 arg4 harg4 arg5 harg5 arg6 harg6 arg7 harg7 arg8 harg8 arg9 harg9 arg10 harg10 arg11 harg11 x0 x1 x2))
  unfold kernelRun0_A
  dsimp only
  congr 1
  · exact congrArg (Sigma.mk _) h3
  congr 1
  · exact congrArg (Sigma.mk _) h2
  congr 1
  · exact congrArg (Sigma.mk _) h1
  congr 1
  · exact congrArg (Sigma.mk _) h0

/-- The block a point stores, at row `512 * d + a`. -/
theorem out_at (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S4x512x128 .f32) (harg8 : arg8.IsWhole) (arg9 : Memref sig .tc .vmem S4x512x256 .f32) (harg9 : arg9.IsWhole) (arg10 : Memref sig .tc .vmem S4x512x512 .f32) (harg10 : arg10.IsWhole) (arg11 : Memref sig .tc .vmem S4x512x128 .f32) (harg11 : arg11.IsWhole) (hc0 : ¬cond0_0 i) (x0 : Vec F S2048x256 .bf16) (x1 : Vec F S8192x256 .bf16) (x2 : Vec F S8192x128 .bf16) (x3 : Vec F S2048x128 .f32) (x4 : Vec F S1x128 .f32)
    (y : S2048x128.Idx) (d : Fin 4) (a : Fin 512) (l : Fin 128) (h0 : (y 0).val = 512 * d.val + a.val) (h1 : (y 1).val = l.val) :
    out0_A_5 (F := F) c i arg2 harg2 arg3 harg3 arg4 harg4 arg5 harg5 arg6 harg6 arg7 harg7 arg8 harg8 arg9 harg9 arg10 harg10 arg11 harg11 hc0 x0 x1 x2 x3 x4 y
      = k0_pay208 (sums i (qBlk arg2 (harg2.unread x0) d) (kBlk arg3 (harg3.unread x1)) (vBlk arg4 (harg4.unread x2)) d) x4 (gBlk x3 d) (ix2 a l) := by
  have ha := a.isLt
  unfold out0_A_5
  rw [pieces]
  fin_cases d
  · rw [miss _ _ _ _ _ _ _ (by simp only [] at h0; omega), miss _ _ _ _ _ _ _ (by simp only [] at h0; omega), miss _ _ _ _ _ _ _ (by simp only [] at h0; omega)]
    exact hit _ _ _ _ _ _ _ _ h0 h1
  · rw [miss _ _ _ _ _ _ _ (by simp only [] at h0; omega), miss _ _ _ _ _ _ _ (by simp only [] at h0; omega)]
    exact hit _ _ _ _ _ _ _ _ h0 h1
  · rw [miss _ _ _ _ _ _ _ (by simp only [] at h0; omega)]
    exact hit _ _ _ _ _ _ _ _ h0 h1
  · exact hit _ _ _ _ _ _ _ _ h0 h1

end Cert.Mla

end
-- ==== Proof.Pays.lean ====
/- The payloads of the attention kernel read at an index, over the ideal numbers. -/
module

public import proofs.«01_k».proof.Proof.Steps
public import Idealize.ShloMosaic.Lib.Pointwise
public import Idealize.ShloMosaic.Lib.WordCmp

@[expose] public section

set_option maxRecDepth 16384

noncomputable section

namespace Cert.Mla

open Idealize.ShloMosaic Idealize.ShloMosaic.TcCoe Cert.KernelIdeal Cert.KernelIdeal.Gen

theorem pay5_apply (m mc : Vec Ideal S1x512x128 .f32) (a : Fin 512) (l : Fin 128) :
    k0_pay5 m mc (ix3 0 a l) = max (m (ix3 0 a l)) (mc (ix3 0 a l)) := by
  pointwise [k0_pay5, k0_pay3, k0_pay2]

theorem pay7_apply (q K : Vec Ideal S512x256 .bf16) (a b : Fin 512) :
    k0_pay7 q K (ix3 0 a b) = ∑ e : Fin 256, q (ix2 a e) * K (ix2 b e) := by
  pointwise [k0_pay7, k0_pay6]

/-- A column of the block of values with the block of ones beside it. -/
def vo (ones V : Vec Ideal S512x128 .bf16) (b : Fin 512) (c : Fin 256) : EReal :=
  if h : c.val < 128 then V (ix2 b ⟨c.val, h⟩) else ones (ix2 b ⟨c.val - 128, by omega⟩)

theorem pay4_apply (ones : FVec Ideal S512x128 .bf16) (V : Vec Ideal S512x128 .bf16) (m mc : Vec Ideal S1x512x128 .f32)
    (s : Vec Ideal S1x512x512 .f32) (acc : Vec Ideal S1x512x256 .f32) (a : Fin 512) (c : Fin 256) (μ ν : EReal)
    (hm : ∀ l, m (ix3 0 a l) = μ) (hmc : ∀ l, mc (ix3 0 a l) = ν) :
    k0_pay4 ones V m mc s acc (ix3 0 a c)
      = Ideal.exp2 (μ - max μ ν) * acc (ix3 0 a c)
        + ∑ b : Fin 512, Ideal.exp2 (s (ix3 0 a b) - max μ ν) * vo ones V b c := by
  pointwise [k0_pay4, k0_pay3, k0_pay2]
  simp only [hm, hmc, dite_eq_ite, ite_self]
  rfl

theorem pay8_apply (q K : Vec Ideal S512x256 .bf16) (a : Fin 512) (l : Fin 128) :
    k0_pay8 q K (ix3 0 a l) = Finset.univ.sup fun b : Fin 512 => ∑ e : Fin 256, q (ix2 a e) * K (ix2 b e) := by
  pointwise [k0_pay8, k0_pay6]
  rw [show Ideal.ofBits FTy.f32 4286578688#32 = ⊥ by simp [Ideal.ofBits, Ideal.ieee]]
  rfl

/-- The scores of the diagonal block, the later columns left out. -/
def diag (q K : Vec Ideal S512x256 .bf16) (a b : Fin 512) : EReal :=
  if b.val ≤ a.val then ∑ e : Fin 256, q (ix2 a e) * K (ix2 b e) else ⊥

theorem pay161_apply (q K : Vec Ideal S512x256 .bf16) (a b : Fin 512) :
    k0_pay161 q K (ix2 a b) = diag q K a b := by
  pointwise [k0_pay161]
  rw [IdealRules.named_const.ideal_named_scalar _ _ _ _ rfl, WordCmp.cmpi_sle_ofNat (by omega) (by omega), WordCmp.select_ofBool]
  simp [diag]

theorem pay162_apply (q K : Vec Ideal S512x256 .bf16) (a b : Fin 512) :
    k0_pay162 q K (ix3 0 a b) = diag q K a b := by
  rw [← pay161_apply]
  pointwise [k0_pay162]

theorem pay163_apply (q K : Vec Ideal S512x256 .bf16) (a : Fin 512) (l : Fin 128) :
    k0_pay163 q K (ix3 0 a l) = Finset.univ.sup fun b : Fin 512 => diag q K a b := by
  simp only [← pay161_apply]
  pointwise [k0_pay163]
  rw [show Ideal.ofBits FTy.f32 4286578688#32 = ⊥ by simp [Ideal.ofBits, Ideal.ieee]]
  rfl

theorem pay160_apply (a : Fin 512) (l : Fin 128) : k0_pay160 (F := Ideal) (ix2 a l) = if l.val = 0 then 1 else 0 := by
  pointwise [k0_pay160]
  rw [show (0#32) = BitVec.ofNat 32 0 from rfl, WordCmp.cmpi_eq_ofNat (by omega) (by omega), WordCmp.select_ofBool]
  simp

/-- A row's average divided out, as the kernel does it. -/
def fin (acc : Vec Ideal S1x512x256 .f32) (a : Fin 512) (l : Fin 128) : EReal :=
  Ideal.div (acc (ix3 0 a ⟨l.val, by omega⟩)) (acc (ix3 0 a 128))

theorem pay208_apply (acc : Vec Ideal S1x512x256 .f32) (gn : Vec Ideal S1x128 .f32) (gate : Vec Ideal S512x128 .f32) (a : Fin 512) (l : Fin 128) :
    k0_pay208 acc gn gate (ix2 a l)
      = fin acc a l * Ideal.rsqrt (Ideal.div (∑ x : Fin 128, fin acc a x * fin acc a x) (Ideal.ofBits .f32 0x43000000#32)
          + Ideal.ofBits .f32 0x358637BD#32) * gn (ix2 0 l) * gate (ix2 a l) := by
  pointwise [k0_pay208]
  rfl

end Cert.Mla

end
-- ==== Proof.Soft.lean ====
/- The running softmax over the ideal numbers: taking one block after another into a maximum and a rescaled sum
   gives the sum over all of them. -/
module

public import proofs.«01_k».proof.Proof.Pays

@[expose] public section

set_option maxRecDepth 16384

noncomputable section

namespace Cert.Mla

open Idealize.ShloMosaic

theorem exp2_nonneg (x : EReal) : 0 ≤ Ideal.exp2 x := by
  induction x using EReal.rec with
  | bot => simp
  | top => simp
  | coe r => rw [Ideal.exp2_coe]; exact_mod_cast Real.rpow_nonneg (by norm_num) r

theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

theorem sub_real_ne_top {m : EReal} (hm : m ≠ ⊤) (r : ℝ) : m - (r : EReal) ≠ ⊤ := by
  induction m using EReal.rec with
  | bot => simp
  | top => exact absurd rfl hm
  | coe x => rw [← EReal.coe_sub]; exact EReal.coe_ne_top _

/-- Rescaling a weight from one maximum to the next. -/
theorem exp2_rescale {s m : EReal} (r : ℝ) (hm : m ≠ ⊤) (hs : s ≤ m) :
    Ideal.exp2 (m - r) * Ideal.exp2 (s - m) = Ideal.exp2 (s - r) := by
  induction s using EReal.rec with
  | bot => simp [EReal.bot_sub]
  | top => exact absurd (top_le_iff.mp hs) hm
  | coe x =>
    induction m using EReal.rec with
    | bot => exact absurd (le_bot_iff.mp hs) (EReal.coe_ne_bot _)
    | top => exact absurd rfl hm
    | coe y =>
      rw [← EReal.coe_sub, ← EReal.coe_sub, ← EReal.coe_sub, Ideal.exp2_coe, Ideal.exp2_coe, Ideal.exp2_coe, ← EReal.coe_mul]
      congr 1
      have := Real.rpow_add (show (0 : ℝ) < 2 by norm_num) (y - r) (x - y)
      calc _ = (2 : ℝ) ^ (y - r + (x - y)) := this.symm
        _ = _ := by congr 1; ring

theorem mul_sum_of_nonneg {ι : Type} (S : Finset ι) (f : ι → EReal) {x : EReal} (h0 : 0 ≤ x) (h1 : x ≠ ⊤) :
    x * ∑ j ∈ S, f j = ∑ j ∈ S, x * f j := by
  classical
  induction S using Finset.induction_on with
  | empty => simp
  | insert a S ha ih => rw [Finset.sum_insert ha, Finset.sum_insert ha, EReal.left_distrib_of_nonneg_of_ne_top h0 h1, ih]

/-- Against an infinite maximum no weight is left. -/
theorem exp2_infinite {s M : EReal} (hs : s ≤ M) (hM : M = ⊤ ∨ M = ⊥) : Ideal.exp2 (s - M) = 0 := by
  rcases hM with rfl | rfl
  · rw [EReal.sub_top]; simp
  · rw [le_bot_iff.mp hs, EReal.bot_sub]; simp

theorem real_or_infinite (M : EReal) : (∃ r : ℝ, M = (r : EReal)) ∨ (M = ⊤ ∨ M = ⊥) := by
  induction M using EReal.rec with
  | bot => exact .inr (.inr rfl)
  | top => exact .inr (.inl rfl)
  | coe r => exact .inl ⟨r, rfl⟩

theorem ne_top_of_le_real {s : EReal} {r : ℝ} (h : s ≤ (r : EReal)) : s ≠ ⊤ :=
  ne_of_lt (lt_of_le_of_lt h (EReal.coe_lt_top r))

/-- The weighted sum over the places of `S`, the weights against the greatest score. -/
def soft (z v : ℕ → EReal) (S : Finset ℕ) : EReal := ∑ j ∈ S, Ideal.exp2 (z j - S.sup z) * v j

/-- Nothing is summed against an infinite greatest score. -/
theorem soft_infinite (z v : ℕ → EReal) (S : Finset ℕ) (hM : S.sup z = ⊤ ∨ S.sup z = ⊥) : soft z v S = 0 :=
  Finset.sum_eq_zero fun j hj => by rw [exp2_infinite (Finset.le_sup hj) hM, zero_mul]

theorem soft_union (z v : ℕ → EReal) (S T : Finset ℕ) (hST : Disjoint S T) :
    Ideal.exp2 (S.sup z - max (S.sup z) (T.sup z)) * soft z v S
      + ∑ j ∈ T, Ideal.exp2 (z j - max (S.sup z) (T.sup z)) * v j = soft z v (S ∪ T) := by
  have hU : (S ∪ T).sup z = max (S.sup z) (T.sup z) := Finset.sup_union
  rcases real_or_infinite (max (S.sup z) (T.sup z)) with ⟨r, hr⟩ | hM
  · have hS : S.sup z ≠ ⊤ := ne_top_of_le_real (hr ▸ le_max_left (S.sup z) (T.sup z))
    unfold soft
    rw [hU, hr, Finset.sum_union hST, mul_sum_of_nonneg S _ (exp2_nonneg _) (exp2_ne_top (sub_real_ne_top hS r))]
    congr 1
    refine Finset.sum_congr rfl fun j hj => ?_
    rw [← mul_assoc, exp2_rescale r hS (Finset.le_sup hj)]
  · rw [soft_infinite z v (S ∪ T) (by rw [hU]; exact hM), exp2_infinite (le_max_left _ _) hM, zero_mul, zero_add]
    exact Finset.sum_eq_zero fun j hj => by
      rw [exp2_infinite ((Finset.le_sup hj).trans (le_max_right (S.sup z) (T.sup z))) hM, zero_mul]

/-! ## Blocks of 512 places -/

theorem ico_image (k : ℕ) : Finset.Ico (512 * k) (512 * (k + 1)) = Finset.univ.image fun b : Fin 512 => 512 * k + b.val := by
  ext j
  simp only [Finset.mem_Ico, Finset.mem_image, Finset.mem_univ, true_and]
  constructor
  · intro h; exact ⟨⟨j - 512 * k, by omega⟩, by simp only []; omega⟩
  · rintro ⟨b, rfl⟩; omega

theorem sum_block (k : ℕ) (f : Fin 512 → EReal) (g : ℕ → EReal) (h : ∀ b : Fin 512, g (512 * k + b.val) = f b) :
    ∑ b, f b = ∑ j ∈ Finset.Ico (512 * k) (512 * (k + 1)), g j := by
  rw [ico_image, Finset.sum_image (fun a _ b _ hab => Fin.ext (by simpa using hab))]
  exact Finset.sum_congr rfl fun b _ => (h b).symm

theorem sup_block (k : ℕ) (f : Fin 512 → EReal) (g : ℕ → EReal) (h : ∀ b : Fin 512, g (512 * k + b.val) = f b) :
    Finset.univ.sup f = (Finset.Ico (512 * k) (512 * (k + 1))).sup g := by
  rw [ico_image, Finset.sup_image]
  exact Finset.sup_congr rfl fun b _ => (h b).symm

end Cert.Mla

end
-- ==== Proof.Flash.lean ====
/- The walk over the key blocks of one row side computes the softmax sum over all places up to the diagonal. -/
module

public import proofs.«01_k».proof.Proof.Body
public import proofs.«01_k».proof.Proof.Soft

@[expose] public section

set_option maxRecDepth 16384

noncomputable section

namespace Cert.Mla

open Idealize.ShloMosaic Idealize.ShloMosaic.TcCoe Cert.KernelIdeal Cert.KernelIdeal.Gen

/-- The score of row `a` of the diagonal block `n` against place `j`, nothing beyond the diagonal. -/
def zs (q : Vec Ideal S512x256 .bf16) (K : ℕ → Vec Ideal S512x256 .bf16) (n : ℕ) (a : Fin 512) (j : ℕ) : EReal :=
  if j ≤ 512 * n + a.val then
    ∑ e : Fin 256, q (ix2 a e) * K (j / 512) (ix2 ⟨j % 512, Nat.mod_lt _ (by norm_num)⟩ e) else ⊥

/-- Column `c` of the values and the ones beside them, at place `j`. -/
def vs (ones : FVec Ideal S512x128 .bf16) (V : ℕ → Vec Ideal S512x128 .bf16) (c : Fin 256) (j : ℕ) : EReal :=
  vo ones (V (j / 512)) ⟨j % 512, Nat.mod_lt _ (by norm_num)⟩ c

variable (ones : FVec Ideal S512x128 .bf16) (q : Vec Ideal S512x256 .bf16) (K : ℕ → Vec Ideal S512x256 .bf16)
  (V : ℕ → Vec Ideal S512x128 .bf16) (n : ℕ) (a : Fin 512)

theorem place_div (k : ℕ) (b : Fin 512) : (512 * k + b.val) / 512 = k := by omega
theorem place_mod (k : ℕ) (b : Fin 512) : (⟨(512 * k + b.val) % 512, Nat.mod_lt _ (by norm_num)⟩ : Fin 512) = b :=
  Fin.ext (by show (512 * k + b.val) % 512 = b.val; omega)

theorem vs_block (c : Fin 256) (k : ℕ) (b : Fin 512) : vs ones V c (512 * k + b.val) = vo ones (V k) b c := by
  unfold vs; rw [place_div, place_mod]

theorem zs_diag (b : Fin 512) : zs q K n a (512 * n + b.val) = diag q (K n) a b := by
  unfold zs diag; rw [place_div, place_mod]
  simp only [Nat.add_le_add_iff_left]

theorem zs_below (k : ℕ) (hk : k < n) (b : Fin 512) :
    zs q K n a (512 * k + b.val) = ∑ e : Fin 256, q (ix2 a e) * K k (ix2 b e) := by
  unfold zs; rw [place_div, place_mod, if_pos (by omega)]

/-- What a row of the state holds when the places from `512 * lo` on are summed and block `k` is scored. -/
structure Holds (z : ℕ → EReal) (v : Fin 256 → ℕ → EReal) (lo hi k : ℕ) (W : St Ideal) : Prop where
  m : ∀ l, W.m (ix3 0 a l) = (Finset.Ico (512 * lo) (512 * hi)).sup z
  acc : ∀ c, W.acc (ix3 0 a c) = soft z (v c) (Finset.Ico (512 * lo) (512 * hi))
  s : ∀ b : Fin 512, W.s (ix3 0 a b) = z (512 * k + b.val)
  mc : ∀ l, W.mc (ix3 0 a l) = (Finset.Ico (512 * k) (512 * (k + 1))).sup z

variable {a}

/-- Taking a scored block in moves the sum down by that block. -/
theorem Holds.eat {z : ℕ → EReal} {lo hi : ℕ} {W : St Ideal} (h : Holds a z (vs ones V) (lo + 1) hi lo W) (hlo : lo < hi) :
    Holds a z (vs ones V) lo hi lo (eat ones (V lo) W) := by
  have hU : Finset.Ico (512 * (lo + 1)) (512 * hi) ∪ Finset.Ico (512 * lo) (512 * (lo + 1)) = Finset.Ico (512 * lo) (512 * hi) := by
    rw [Finset.union_comm]; exact Finset.Ico_union_Ico_eq_Ico (by omega) (by omega)
  have hD : Disjoint (Finset.Ico (512 * (lo + 1)) (512 * hi)) (Finset.Ico (512 * lo) (512 * (lo + 1))) :=
    (Finset.Ico_disjoint_Ico_consecutive _ _ _).symm
  refine ⟨fun l => ?_, fun c => ?_, h.s, h.mc⟩
  · show k0_pay5 _ _ _ = _
    rw [pay5_apply, h.m, h.mc, ← hU, Finset.sup_union]
  · show k0_pay4 _ _ _ _ _ _ _ = _
    rw [pay4_apply ones (V lo) W.m W.mc W.s W.acc a c _ _ h.m h.mc, h.acc, ← hU, ← soft_union z (vs ones V c) _ _ hD]
    congr 1
    refine sum_block lo _ (fun j => Ideal.exp2 (z j - _) * vs ones V c j) fun b => ?_
    show Ideal.exp2 (z (512 * lo + b.val) - _) * vs ones V c (512 * lo + b.val) = _
    rw [vs_block, h.s]

theorem score_mc (q K : Vec Ideal S512x256 .bf16) (t : St Ideal) : (score q K t).mc = k0_pay8 q K := by simp only [score]
theorem start_mc (q K : Vec Ideal S512x256 .bf16) : (start q K).mc = k0_pay163 q K := by simp only [start]

/-- Scoring the block below the diagonal. -/
theorem Holds.score {lo hi : ℕ} {k k' : ℕ} {W : St Ideal} (h : Holds a (zs q K n a) (vs ones V) lo hi k W) (hk : k' < n) :
    Holds a (zs q K n a) (vs ones V) lo hi k' (score q (K k') W) := by
  refine ⟨h.m, h.acc, fun b => ?_, fun l => ?_⟩
  · show k0_pay7 _ _ _ = _
    rw [pay7_apply, zs_below q K n a k' hk]
  · rw [score_mc, pay8_apply]
    exact sup_block k' (fun b => ∑ e : Fin 256, q (ix2 a e) * K k' (ix2 b e)) (zs q K n a) fun b => zs_below q K n a k' hk b

/-- The start: nothing summed, the diagonal block scored. -/
theorem Holds.start : Holds a (zs q K n a) (vs ones V) (n + 1) (n + 1) n (start q (K n)) := by
  refine ⟨fun l => ?_, fun c => ?_, fun b => ?_, fun l => ?_⟩
  · show (Named.named κ "mask" (φ := .f32) 0xF149F2CA#32 : Ideal .f32) = _
    rw [IdealRules.named_const.ideal_named_scalar _ _ _ _ rfl]; simp
  · show Ideal.ofBits .f32 0x00000000#32 = _
    simp [soft, Ideal.ofBits, Ideal.ieee]
  · show k0_pay162 _ _ _ = _
    rw [pay162_apply, zs_diag]
  · rw [start_mc, pay163_apply]
    exact sup_block n (fun b => diag q (K n) a b) (zs q K n a) fun b => zs_diag q K n a b

/-- The state after `t` steps. -/
theorem Holds.walk : ∀ t, t ≤ n →
    Holds a (zs q K n a) (vs ones V) (n - t + 1) (n + 1) (n - t) (walk ones q K V n (Mla.start q (K n)) t) := by
  intro t
  induction t with
  | zero => intro _; exact Holds.start ones q K V n
  | succ t ih =>
    intro ht
    have h1 := (ih (by omega)).eat ones V (by omega)
    have h2 := h1.score ones q K V n (k' := n - t - 1) (by omega)
    have e1 : n - (t + 1) + 1 = n - t := by omega
    have e2 : n - (t + 1) = n - t - 1 := by omega
    rw [e1, e2]
    exact h2

/-- The last blocks are the end of the same walk. -/
theorem finish_walk (t0 : St Ideal) : ∀ d t, n = t + d →
    finish ones q K V d (walk ones q K V n t0 t) = eat ones (V 0) (walk ones q K V n t0 n) := by
  intro d
  induction d with
  | zero => intro t h; rw [show t = n by omega]; rfl
  | succ d ih =>
    intro t h
    have := ih (t + 1) (by omega)
    rw [← this]
    show finish ones q K V d (Mla.score q (K d) (Mla.eat ones (V (d + 1)) _)) = finish ones q K V d (Mla.score q (K (n - t - 1)) (Mla.eat ones (V (n - t)) _))
    rw [show n - t = d + 1 by omega]; rfl

/-- What a side's sums hold at the end. -/
theorem final_acc (d t : ℕ) (hn : n = t + d) (c : Fin 256) :
    (finish ones q K V d (walk ones q K V n (start q (K n)) t)).acc (ix3 0 a c)
      = soft (zs q K n a) (vs ones V c) (Finset.range (512 * (n + 1))) := by
  rw [finish_walk ones q K V n _ d t hn]
  have h1 := Holds.walk (a := a) ones q K V n n (le_refl _)
  rw [Nat.sub_self] at h1
  have := (h1.eat ones V (by omega)).acc c
  rw [this, Finset.range_eq_Ico]

end Cert.Mla

end
-- ==== Proof.Target.lean ====
/- The attention as a closed form over the argument arrays. -/
module

public import proofs.«01_k».proof.Proof.Soft

@[expose] public section

set_option maxRecDepth 16384

noncomputable section

namespace Cert.Mla

open Idealize.ShloMosaic Idealize.ShloMosaic.TcCoe Cert.KernelIdeal Cert.KernelIdeal.Gen

variable (mq mk : Vec Ideal S8192x2560 .bf16) (mv : Vec Ideal S8192x1280 .bf16) (gate : Vec Ideal S8192x4096 .f32)
  (gn : Vec Ideal S1x4096 .f32)

/-- The score of query row `r` against key row `j` in head `h`. -/
def dotqk (h : Fin 10) (r : Fin 8192) (j : ℕ) : EReal :=
  ∑ e : Fin 256, mq (ix2 r ⟨256 * h.val + e.val, by omega⟩) * mk (ix2 ⟨j % 8192, Nat.mod_lt _ (by norm_num)⟩ ⟨256 * h.val + e.val, by omega⟩)

/-- The scores of a row, nothing after the row's own place. -/
def zf (h : Fin 10) (r : Fin 8192) (j : ℕ) : EReal := if j ≤ r.val then dotqk mq mk h r j else ⊥

/-- A column of the values of head `h`. -/
def uf (h : Fin 10) (l : Fin 128) (j : ℕ) : EReal := mv (ix2 ⟨j % 8192, Nat.mod_lt _ (by norm_num)⟩ ⟨128 * h.val + l.val, by omega⟩)

/-- The average of the values, weighted by the softmax of the scores. -/
def avg (h : Fin 10) (r : Fin 8192) (l : Fin 128) : EReal :=
  Ideal.div (soft (zf mq mk h r) (uf mv h l) (Finset.range 8192)) (soft (zf mq mk h r) (fun _ => 1) (Finset.range 8192))

/-- A row normalised over its head. -/
def norm (o : Fin 128 → EReal) (l : Fin 128) : EReal :=
  o l * Ideal.rsqrt (Ideal.div (∑ x : Fin 128, o x * o x) (Ideal.ofBits .f32 0x43000000#32) + Ideal.ofBits .f32 0x358637BD#32)

/-- The average normalised over its head, scaled and gated. -/
def out (h : Fin 10) (r : Fin 8192) (l : Fin 128) : EReal :=
  norm (avg mq mk mv h r) l * gn (ix2 0 ⟨2816 + (128 * h.val + l.val), by omega⟩) * gate (ix2 r ⟨2816 + (128 * h.val + l.val), by omega⟩)

/-- The whole result. -/
def G : Vec Ideal S8192x1280 .bf16 := fun i =>
  out mq mk mv gate gn ⟨(i 1).val / 128, by have h : (i 1).val < 1280 := (i 1).isLt; omega⟩ (i 0) ⟨(i 1).val % 128, Nat.mod_lt _ (by norm_num)⟩

theorem sum_real {ι : Type} (S : Finset ι) (f : ι → EReal) (h : ∀ i ∈ S, ∃ x : ℝ, f i = (x : EReal)) : ∃ x : ℝ, ∑ i ∈ S, f i = (x : EReal) := by
  classical
  induction S using Finset.induction_on with
  | empty => exact ⟨0, by simp⟩
  | insert a S ha ih =>
    obtain ⟨x, hx⟩ := h a (Finset.mem_insert_self a S)
    obtain ⟨y, hy⟩ := ih fun i hi => h i (Finset.mem_insert_of_mem hi)
    exact ⟨x + y, by rw [Finset.sum_insert ha, hx, hy, EReal.coe_add]⟩

/-! ## Sums that leave out what has no score -/

theorem sup_extend (z : ℕ → EReal) {S T : Finset ℕ} (hST : S ⊆ T) (h : ∀ j ∈ T, j ∉ S → z j = ⊥) : T.sup z = S.sup z := by
  refine le_antisymm (Finset.sup_le fun j hj => ?_) (Finset.sup_mono hST)
  by_cases hS : j ∈ S
  · exact Finset.le_sup hS
  · rw [h j hj hS]; exact bot_le

theorem soft_extend (z v : ℕ → EReal) {S T : Finset ℕ} (hST : S ⊆ T) (h : ∀ j ∈ T, j ∉ S → z j = ⊥) : soft z v T = soft z v S := by
  unfold soft
  rw [sup_extend z hST h]
  refine (Finset.sum_subset hST fun j hj hS => ?_).symm
  rw [h j hj hS, EReal.bot_sub]; simp

theorem soft_congr {z z' v v' : ℕ → EReal} {S : Finset ℕ} (hz : ∀ j ∈ S, z j = z' j) (hv : ∀ j ∈ S, v j = v' j) : soft z v S = soft z' v' S := by
  unfold soft
  rw [Finset.sup_congr rfl hz]
  exact Finset.sum_congr rfl fun j hj => by rw [hz j hj, hv j hj]

/-- The weights' sum is a real number, and at least one. -/
theorem soft_one_real (z : ℕ → EReal) (S : Finset ℕ) (r : ℝ) (hr : S.sup z = (r : EReal)) :
    ∃ x : ℝ, 1 ≤ x ∧ soft z (fun _ => 1) S = (x : EReal) := by
  have hne : S.Nonempty := by
    rcases S.eq_empty_or_nonempty with rfl | h
    · exact absurd hr.symm (by simp)
    · exact h
  obtain ⟨j0, hj0, hj⟩ := Finset.exists_mem_eq_sup S hne z
  have hw : ∀ j ∈ S, ∃ x : ℝ, Ideal.exp2 (z j - (r : EReal)) * 1 = (x : EReal) := fun j hj => by
    refine ⟨_, (EReal.coe_toReal (x := Ideal.exp2 (z j - (r : EReal)) * 1) ?_ ?_).symm⟩
    · rw [mul_one]; exact exp2_ne_top (sub_real_ne_top (ne_top_of_le_real (hr ▸ Finset.le_sup hj)) r)
    · rw [mul_one]; exact ne_of_gt (lt_of_lt_of_le EReal.bot_lt_zero (exp2_nonneg _))
  unfold soft
  rw [hr]
  obtain ⟨x, hx⟩ := sum_real S _ hw
  refine ⟨x, ?_, hx⟩
  have h1 : Ideal.exp2 (z j0 - (r : EReal)) * 1 = 1 := by
    rw [← hj, hr, ← EReal.coe_sub, sub_self, Ideal.exp2_coe, mul_one]; norm_num
  have h2 : Ideal.exp2 (z j0 - (r : EReal)) * 1 ≤ ∑ j ∈ S, Ideal.exp2 (z j - (r : EReal)) * 1 :=
    Finset.single_le_sum (f := fun j => Ideal.exp2 (z j - (r : EReal)) * 1) (fun j _ => by rw [mul_one]; exact exp2_nonneg _) hj0
  rw [h1, hx] at h2
  exact_mod_cast h2

/-- Dividing every weight is dividing the sum. -/
theorem soft_div (z v : ℕ → EReal) (S : Finset ℕ) {x : ℝ} (hx : 1 ≤ x) :
    ∑ j ∈ S, Ideal.div (Ideal.exp2 (z j - S.sup z)) (x : EReal) * v j = Ideal.div (soft z v S) (x : EReal) := by
  have h0 : x ≠ 0 := by linarith
  have hp : (0 : EReal) ≤ ((1 / x : ℝ) : EReal) := by
    have : (0 : ℝ) ≤ 1 / x := by positivity
    exact_mod_cast this
  unfold soft
  rw [Ideal.div_coe h0, mul_comm _ ((1 / x : ℝ) : EReal), mul_sum_of_nonneg S _ hp (EReal.coe_ne_top _)]
  refine Finset.sum_congr rfl fun j _ => ?_
  rw [Ideal.div_coe h0, mul_comm (Ideal.exp2 _), mul_assoc]

/-! ## Rows whose greatest score is infinite -/

/-- Zero or infinite. -/
def Wild (x : EReal) : Prop := x = 0 ∨ x = ⊤ ∨ x = ⊥

theorem wild_bot_mul (x : EReal) : Wild (⊥ * x) := by
  induction x using EReal.rec with
  | bot => exact .inr (.inl EReal.bot_mul_bot)
  | top => exact .inr (.inr EReal.bot_mul_top)
  | coe x =>
    rcases lt_trichotomy x 0 with h | h | h
    · exact .inr (.inl (EReal.bot_mul_coe_of_neg h))
    · exact .inl (by rw [h]; simp)
    · exact .inr (.inr (EReal.bot_mul_coe_of_pos h))

theorem wild_add {x y : EReal} (hx : Wild x) (hy : Wild y) : Wild (x + y) := by
  rcases hx with rfl | rfl | rfl <;> rcases hy with rfl | rfl | rfl <;> simp [Wild]

theorem wild_sum {ι : Type} (S : Finset ι) (f : ι → EReal) (h : ∀ j, Wild (f j)) : Wild (∑ j ∈ S, f j) := by
  classical
  induction S using Finset.induction_on with
  | empty => exact .inl (by simp)
  | insert a S ha ih => rw [Finset.sum_insert ha]; exact wild_add (h a) ih

theorem b128 : Ideal.ofBits FTy.f32 0x43000000#32 = ((128 : ℝ) : EReal) := by
  simp [Ideal.ofBits, Ideal.ieee, -EReal.coe_mul]
  norm_num

theorem beps : ∃ x : ℝ, Ideal.ofBits FTy.f32 0x358637BD#32 = (x : EReal) := by
  simp [Ideal.ofBits, Ideal.ieee, -EReal.coe_mul]

/-- A row of zeros and infinities is normalised to zero. -/
theorem norm_wild (o : Fin 128 → EReal) (ho : ∀ x, Wild (o x)) (l : Fin 128) : norm o l = 0 := by
  unfold norm
  rcases eq_or_ne (o l) 0 with h0 | h0
  · rw [h0, zero_mul]
  have hl : o l * o l = ⊤ := by
    rcases ho l with h | h | h
    · exact absurd h h0
    · rw [h, EReal.top_mul_top]
    · rw [h, EReal.bot_mul_bot]
  have hs : ∑ x : Fin 128, o x * o x = ⊤ := by
    refine top_le_iff.mp ?_
    rw [← hl]
    refine Finset.single_le_sum (f := fun x => o x * o x) (fun x _ => ?_) (Finset.mem_univ l)
    rcases ho x with h | h | h <;> simp [h]
  obtain ⟨e, he⟩ := beps
  rw [hs, b128, he, Ideal.div_coe (by norm_num), EReal.top_mul_coe_of_pos (by norm_num), EReal.top_add_coe, Ideal.rsqrt_top, mul_zero]

/-- The average with every weight divided first. -/
def avg' (h : Fin 10) (r : Fin 8192) (l : Fin 128) : EReal :=
  ∑ j ∈ Finset.range 8192, Ideal.div (Ideal.exp2 (zf mq mk h r j - (Finset.range 8192).sup (zf mq mk h r)))
    (soft (zf mq mk h r) (fun _ => 1) (Finset.range 8192)) * uf mv h l j

/-- The two averages agree once normalised. -/
theorem norm_avg (h : Fin 10) (r : Fin 8192) (l : Fin 128) : norm (avg' mq mk mv h r) l = norm (avg mq mk mv h r) l := by
  rcases real_or_infinite ((Finset.range 8192).sup (zf mq mk h r)) with ⟨M, hM⟩ | hM
  · obtain ⟨x, hx, hs⟩ := soft_one_real (zf mq mk h r) (Finset.range 8192) M hM
    congr 1
    funext l
    unfold avg' avg
    rw [hs]
    exact soft_div _ _ _ hx
  · have hz : Ideal.div 0 0 = ⊥ := by simp [Ideal.div]
    rw [norm_wild, norm_wild]
    · intro l
      unfold avg
      rw [soft_infinite _ _ _ hM, soft_infinite _ _ _ hM, hz]
      exact .inr (.inr rfl)
    · intro l
      have e : avg' mq mk mv h r l = ∑ j ∈ Finset.range 8192, ⊥ * uf mv h l j := by
        unfold avg'
        refine Finset.sum_congr rfl fun j hj => ?_
        rw [soft_infinite _ _ _ hM, exp2_infinite (Finset.le_sup hj) hM, hz]
      rw [e]
      exact wild_sum _ _ fun j => wild_bot_mul _

end Cert.Mla

end
-- ==== Proof.Join.lean ====
/- A side's sums over its blocks are the attention's closed form. -/
module

public import proofs.«01_k».proof.Proof.Flash
public import proofs.«01_k».proof.Proof.Block
public import proofs.«01_k».proof.Proof.Target

@[expose] public section

set_option maxRecDepth 16384

noncomputable section

namespace Cert.Mla

open Idealize.ShloMosaic Idealize.ShloMosaic.TcCoe Cert.KernelIdeal Cert.KernelIdeal.Gen

variable {mq mk : Vec Ideal S8192x2560 .bf16} {mv : Vec Ideal S8192x1280 .bf16}
  {q : Vec Ideal S512x256 .bf16} {K : ℕ → Vec Ideal S512x256 .bf16} {V : ℕ → Vec Ideal S512x128 .bf16} {n : ℕ} {a : Fin 512}
  {h : Fin 10} {r : Fin 8192}

/-- The blocks are those of head `h`, and row `a` of the queries is the array's row `r`. -/
structure Blocks (mq mk : Vec Ideal S8192x2560 .bf16) (mv : Vec Ideal S8192x1280 .bf16) (q : Vec Ideal S512x256 .bf16)
    (K : ℕ → Vec Ideal S512x256 .bf16) (V : ℕ → Vec Ideal S512x128 .bf16) (n : ℕ) (a : Fin 512) (h : Fin 10) (r : Fin 8192) : Prop where
  row : r.val = 512 * n + a.val
  q : ∀ e : Fin 256, q (ix2 a e) = mq (ix2 r ⟨256 * h.val + e.val, by omega⟩)
  k : ∀ j (hj : j < 8192) (e : Fin 256), K (j / 512) (ix2 ⟨j % 512, Nat.mod_lt _ (by norm_num)⟩ e) = mk (ix2 ⟨j, hj⟩ ⟨256 * h.val + e.val, by omega⟩)
  v : ∀ j (hj : j < 8192) (l : Fin 128), V (j / 512) (ix2 ⟨j % 512, Nat.mod_lt _ (by norm_num)⟩ l) = mv (ix2 ⟨j, hj⟩ ⟨128 * h.val + l.val, by omega⟩)

theorem Blocks.dot (b : Blocks mq mk mv q K V n a h r) (j : ℕ) (hj : j < 8192) :
    ∑ e : Fin 256, q (ix2 a e) * K (j / 512) (ix2 ⟨j % 512, Nat.mod_lt _ (by norm_num)⟩ e) = dotqk mq mk h r j := by
  unfold dotqk
  refine Finset.sum_congr rfl fun e _ => ?_
  rw [b.q, b.k j hj]
  have : (⟨j % 8192, Nat.mod_lt _ (by norm_num)⟩ : Fin 8192) = ⟨j, hj⟩ := Fin.ext (Nat.mod_eq_of_lt hj)
  rw [this]

theorem Blocks.zs_eq (b : Blocks mq mk mv q K V n a h r) (j : ℕ) (hj : j < 8192) : zs q K n a j = zf mq mk h r j := by
  unfold zs zf
  rw [b.dot j hj, b.row]

theorem Blocks.soft_eq (b : Blocks mq mk mv q K V n a h r) (c : Fin 256) (u : ℕ → EReal)
    (hu : ∀ j, j < 8192 → vs k0_pay160 V c j = u j) :
    soft (zs q K n a) (vs k0_pay160 V c) (Finset.range (512 * (n + 1))) = soft (zf mq mk h r) u (Finset.range 8192) := by
  have h1 := b.row; have h2 := r.isLt; have h3 := a.isLt
  have hsub : Finset.range (512 * (n + 1)) ⊆ Finset.range 8192 := Finset.range_mono (by omega)
  rw [soft_extend (zf mq mk h r) u hsub fun j _ hj => if_neg (by simp only [Finset.mem_range] at hj; omega)]
  exact soft_congr (fun j hj => b.zs_eq j (Finset.mem_range.1 (hsub hj))) (fun j hj => hu j (Finset.mem_range.1 (hsub hj)))

/-- A row's average. -/
theorem Blocks.fin_eq (b : Blocks mq mk mv q K V n a h r) (i : grid0.Coords) (d : Fin 4)
    (hn : n = 4 * (i 1).val + d.val) (l : Fin 128) : fin (sums i q K V d) a l = avg mq mk mv h r l := by
  have hl : vs k0_pay160 V ⟨l.val, by omega⟩ = fun j => V (j / 512) (ix2 ⟨j % 512, Nat.mod_lt _ (by norm_num)⟩ l) := by
    funext j
    unfold vs vo
    rw [dif_pos l.isLt]
  have ho : ∀ j, vs k0_pay160 V 128 j = 1 := fun j => by
    unfold vs vo
    rw [dif_neg (show ¬(128 : Fin 256).val < 128 by decide), pay160_apply]
    exact if_pos rfl
  unfold fin avg sums
  subst hn
  rw [final_acc k0_pay160 q K V _ d.val (4 * (i 1).val) rfl, final_acc k0_pay160 q K V _ d.val (4 * (i 1).val) rfl,
    b.soft_eq ⟨l.val, by omega⟩ (uf mv h l) fun j hj => by
      rw [hl]
      show V (j / 512) _ = _
      rw [b.v j hj]
      unfold uf
      have : (⟨j % 8192, Nat.mod_lt _ (by norm_num)⟩ : Fin 8192) = ⟨j, hj⟩ := Fin.ext (Nat.mod_eq_of_lt hj)
      rw [this],
    b.soft_eq 128 (fun _ => 1) fun j _ => ho j]

/-- A row of what a point stores. -/
theorem Blocks.row_eq {gate : Vec Ideal S8192x4096 .f32} {gn : Vec Ideal S1x4096 .f32} (b : Blocks mq mk mv q K V n a h r) (i : grid0.Coords) (d : Fin 4)
    (hn : n = 4 * (i 1).val + d.val) (l : Fin 128) (x4 : Vec Ideal S1x128 .f32) (x3 : Vec Ideal S512x128 .f32)
    (h4 : x4 (ix2 0 l) = gn (ix2 0 ⟨2816 + (128 * h.val + l.val), by omega⟩))
    (h3 : x3 (ix2 a l) = gate (ix2 r ⟨2816 + (128 * h.val + l.val), by omega⟩)) :
    k0_pay208 (sums i q K V d) x4 x3 (ix2 a l) = out mq mk mv gate gn h r l := by
  rw [pay208_apply, h4, h3]
  simp only [b.fin_eq i d hn]
  rfl

end Cert.Mla

end
-- ==== Proof.Array.lean ====
/- The kernel's result array. -/
module

public import proofs.«01_k».proof.Proof.Block
public import proofs.«01_k».proof.Proof.Join

@[expose] public section

set_option maxRecDepth 16384

noncomputable section

namespace Cert.Mla

open Idealize.ShloMosaic Idealize.ShloMosaic.TcCoe Cert.KernelIdeal Cert.KernelIdeal.Gen

theorem idx0 : ∀ t : Fin cfg0.N, win0_0.index t = ![(grid0.coords t 1).val, (grid0.coords t 0).val] := by decide +kernel
theorem idx1 : ∀ t : Fin cfg0.N, win0_1.index t = ![0, (grid0.coords t 0).val] := by decide +kernel
theorem idx2 : ∀ t : Fin cfg0.N, win0_2.index t = ![0, (grid0.coords t 0).val] := by decide +kernel
theorem idx3 : ∀ t : Fin cfg0.N, win0_3.index t = ![(grid0.coords t 1).val, 22 + (grid0.coords t 0).val] := by decide +kernel
theorem idx4 : ∀ t : Fin cfg0.N, win0_4.index t = ![0, 22 + (grid0.coords t 0).val] := by decide +kernel
theorem idx5 : ∀ t : Fin cfg0.N, win0_5.index t = ![(grid0.coords t 1).val, (grid0.coords t 0).val] := by decide +kernel

variable (m : (ℓ : Loc nD τ sig) → Buf (Elt Ideal) ℓ) (c : Dev nD) (t : Fin cfg0.N)

theorem blk0 (x : S2048x256.Idx) (i : S8192x2560.Idx) (h0 : (i 0).val = 2048 * (grid0.coords t 1).val + (x 0).val)
    (h1 : (i 1).val = 256 * (grid0.coords t 0).val + (x 1).val) : iblk m c 0 t x = m ((c.tc : Thread nD τ).loc main_arg0) i := by
  have e := idx0 t
  blk_ext [iblk, V_main_arg0, e]

theorem blk1 (x : S8192x256.Idx) (i : S8192x2560.Idx) (h0 : (i 0).val = (x 0).val)
    (h1 : (i 1).val = 256 * (grid0.coords t 0).val + (x 1).val) : iblk m c 1 t x = m ((c.tc : Thread nD τ).loc main_arg1) i := by
  have e := idx1 t
  blk_ext [iblk, V_main_arg1, e]

theorem blk2 (x : S8192x128.Idx) (i : S8192x1280.Idx) (h0 : (i 0).val = (x 0).val)
    (h1 : (i 1).val = 128 * (grid0.coords t 0).val + (x 1).val) : iblk m c 2 t x = m ((c.tc : Thread nD τ).loc main_arg2) i := by
  have e := idx2 t
  blk_ext [iblk, V_main_arg2, e]

theorem blk3 (x : S2048x128.Idx) (i : S8192x4096.Idx) (h0 : (i 0).val = 2048 * (grid0.coords t 1).val + (x 0).val)
    (h1 : (i 1).val = 2816 + 128 * (grid0.coords t 0).val + (x 1).val) : iblk m c 3 t x = m ((c.tc : Thread nD τ).loc main_arg3) i := by
  have e := idx3 t
  blk_ext [iblk, V_main_arg3, e]

theorem blk4 (x : S1x128.Idx) (i : S1x4096.Idx)
    (h1 : (i 1).val = 2816 + 128 * (grid0.coords t 0).val + (x 1).val) : iblk m c 4 t x = m ((c.tc : Thread nD τ).loc main_arg4) i := by
  have e := idx4 t
  blk_ext [iblk, V_main_arg4, e]

theorem qBlk_at {a : Memref sig .tc .vmem S2048x256 .bf16} (ha : a.IsWhole) (x0 : Vec Ideal S2048x256 .bf16) (d : Fin 4) (x : S512x256.Idx)
    (i : S2048x256.Idx) (h0 : (i 0).val = 512 * d.val + (x 0).val) (h1 : (i 1).val = (x 1).val) : qBlk a (ha.unread x0) d x = x0 i := by
  unfold qBlk
  rw [View.readAt_eq_ld, Memref.IsWhole.read_unread]
  exact View.ld_unit_apply_of _ _ _ _ _ _ (Fin.forall_fin_two.mpr ⟨h0, h1.trans (Nat.zero_add _).symm⟩)

theorem kBlk_at {a : Memref sig .tc .vmem S8192x256 .bf16} (ha : a.IsWhole) (x1 : Vec Ideal S8192x256 .bf16) (j : ℕ) (hj : j < 16) (x : S512x256.Idx)
    (i : S8192x256.Idx) (h0 : (i 0).val = 512 * j + (x 0).val) (h1 : (i 1).val = (x 1).val) : kBlk a (ha.unread x1) j x = x1 i := by
  unfold kBlk
  rw [View.readAt_eq_ld, Memref.IsWhole.read_unread]
  refine View.ld_unit_apply_of _ _ _ _ _ _ (Fin.forall_fin_two.mpr ⟨?_, h1.trans (Nat.zero_add _).symm⟩)
  rw [h0]
  show 512 * j + (x 0).val = 512 * (j % 16) + (x 0).val
  rw [Nat.mod_eq_of_lt hj]

theorem vBlk_at {a : Memref sig .tc .vmem S8192x128 .bf16} (ha : a.IsWhole) (x2 : Vec Ideal S8192x128 .bf16) (j : ℕ) (hj : j < 16) (x : S512x128.Idx)
    (i : S8192x128.Idx) (h0 : (i 0).val = 512 * j + (x 0).val) (h1 : (i 1).val = (x 1).val) : vBlk a (ha.unread x2) j x = x2 i := by
  unfold vBlk
  rw [View.readAt_eq_ld, Memref.IsWhole.read_unread]
  refine View.ld_unit_apply_of _ _ _ _ _ _ (Fin.forall_fin_two.mpr ⟨?_, h1.trans (Nat.zero_add _).symm⟩)
  rw [h0]
  show 512 * j + (x 0).val = 512 * (j % 16) + (x 0).val
  rw [Nat.mod_eq_of_lt hj]

theorem coord0 : (grid0.coords t 0).val < 10 := (grid0.coords t 0).isLt
theorem coord1 : (grid0.coords t 1).val < 4 := (grid0.coords t 1).isLt

/-- What point `t` stores at row `2048 * i1 + 512 * d + a`, column `l` of its head. -/
theorem point (y : S2048x128.Idx) (d : Fin 4) (a : Fin 512) (l : Fin 128) (h0 : (y 0).val = 512 * d.val + a.val) (h1 : (y 1).val = l.val)
    (h : Fin 10) (hh : h.val = (grid0.coords t 0).val) (r : Fin 8192) (hrow : r.val = 2048 * (grid0.coords t 1).val + 512 * d.val + a.val) :
    outsAt0 m c t y = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) h r l := by
  have hd := d.isLt; have ha := a.isLt; have hl := l.isLt; have hh' := h.isLt
  unfold outsAt0
  rw [out_at (F := Ideal) (y := y) (d := d) (a := a) (l := l) (h0 := h0) (h1 := h1)]
  refine Blocks.row_eq (n := 4 * (grid0.coords t 1).val + d.val) ⟨?_, fun e => ?_, fun j hj e => ?_, fun j hj e => ?_⟩ _ d rfl l _ _ ?_ ?_
  · omega
  · refine (qBlk_at (hs0_0 t) _ d _ (ix2 ⟨512 * d.val + a.val, by omega⟩ e) rfl rfl).trans (blk0 m c t _ _ ?_ ?_)
    · show r.val = 2048 * (grid0.coords t 1).val + (512 * d.val + a.val); omega
    · show 256 * h.val + e.val = 256 * (grid0.coords t 0).val + e.val; omega
  · refine (kBlk_at (hs0_1 t) _ (j / 512) (by omega) _ (ix2 ⟨j, hj⟩ e) ?_ rfl).trans (blk1 m c t _ _ rfl ?_)
    · show j = 512 * (j / 512) + j % 512; omega
    · show 256 * h.val + e.val = 256 * (grid0.coords t 0).val + e.val; omega
  · refine (vBlk_at (hs0_2 t) _ (j / 512) (by omega) _ (ix2 ⟨j, hj⟩ e) ?_ rfl).trans (blk2 m c t _ _ rfl ?_)
    · show j = 512 * (j / 512) + j % 512; omega
    · show 128 * h.val + e.val = 128 * (grid0.coords t 0).val + e.val; omega
  · refine blk4 m c t _ _ ?_
    show 2816 + (128 * h.val + l.val) = 2816 + 128 * (grid0.coords t 0).val + l.val; omega
  · refine blk3 m c t _ _ ?_ ?_
    · show r.val = 2048 * (grid0.coords t 1).val + (512 * d.val + a.val); omega
    · show 2816 + (128 * h.val + l.val) = 2816 + 128 * (grid0.coords t 0).val + l.val; omega

/-- The kernel's result array is the closed form. -/
theorem result :
    (dats m 0 c).arrAt 5 cfg0.N = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t hf y => ?_
  rw [after0_5]
  have e := idx5 t
  have hy0 : (y 0).val < 2048 := (y 0).isLt
  have hy1 : (y 1).val < 128 := (y 1).isLt
  have c0 := coord0 t; have c1 := coord1 t
  have hG : ∀ i : S8192x1280.Idx, (i 0).val = 2048 * (grid0.coords t 1).val + (y 0).val → (i 1).val = 128 * (grid0.coords t 0).val + (y 1).val →
      outsAt0 m c t y = G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) i := fun i hi0 hi1 => by
    have hq : (i 1).val / 128 = (grid0.coords t 0).val := by omega
    have hl : (i 1).val % 128 = (y 1).val := by omega
    refine point m c t y ⟨(y 0).val / 512, by omega⟩ ⟨(y 0).val % 512, Nat.mod_lt _ (by norm_num)⟩ _ ?_ ?_ _ ?_ _ ?_
    · show (y 0).val = 512 * ((y 0).val / 512) + (y 0).val % 512; omega
    · exact hl.symm
    · exact hq
    · show (i 0).val = 2048 * (grid0.coords t 1).val + 512 * ((y 0).val / 512) + (y 0).val % 512; omega
  refine hG _ ?_ ?_
  · blk_simp [e]; omega
  · blk_simp [e]; omega

end Cert.Mla

end
-- ==== Proof.Ref.lean ====
/- The reference read at an index, over the ideal numbers. -/
module

public import proofs.«01_k».proof.Proof.Target
public import proofs.«01_k».proof.Proof.Gen.ReferenceIdeal.Read
public import Idealize.ShloMosaic.Lib.Pointwise
public import Idealize.ShloMosaic.Lib.WordCmp

@[expose] public section

set_option maxRecDepth 16384

noncomputable section

namespace Cert.Mla

open Idealize.ShloMosaic Cert.ReferenceIdeal.Read

variable (mq mk : (⟨Cert.ReferenceIdeal.S8192x2560, .bf16⟩ : BufTy).Contents (Elt Ideal)) (mv : (⟨Cert.ReferenceIdeal.S8192x1280, .bf16⟩ : BufTy).Contents (Elt Ideal))
  (gate : (⟨Cert.ReferenceIdeal.S8192x4096, .f32⟩ : BufTy).Contents (Elt Ideal)) (gn : (⟨Cert.ReferenceIdeal.S1x4096, .f32⟩ : BufTy).Contents (Elt Ideal))

theorem ref_scores (h : Fin 10) (r j : Fin 8192) : val_main_v10 (F := Ideal) mq mk (ix3 h r j) = dotqk mq mk h r j.val := by
  rw [val_main_v10_apply]
  unfold dotqk
  refine Finset.sum_congr rfl fun e _ => ?_
  rw [val_main_v2_apply, val_main_v1_apply, val_main_v5_apply, val_main_v4_apply]
  have hh := h.isLt; have hr := r.isLt; have hj := j.isLt; have he := e.isLt
  refine congrArg₂ (· * ·) (congrArg mq ?_) (congrArg mk ?_)
  · funext a; refine Fin.ext ?_
    match a with
    | ⟨0, _⟩ => show ((r.val * 10 + h.val) * 256 + e.val) / 2560 = r.val; omega
    | ⟨1, _⟩ => show ((r.val * 10 + h.val) * 256 + e.val) % 2560 = 256 * h.val + e.val; omega
  · funext a; refine Fin.ext ?_
    match a with
    | ⟨0, _⟩ => show ((j.val * 10 + h.val) * 256 + e.val) / 2560 = j.val % 8192; omega
    | ⟨1, _⟩ => show ((j.val * 10 + h.val) * 256 + e.val) % 2560 = 256 * h.val + e.val; omega

theorem ref_mask (h : Fin 10) (r j : Fin 8192) :
    val_main_call0_v1 (F := Ideal) (ix3 h r j) = BitVec.ofBool (decide (j.val ≤ r.val)) := by
  rw [val_main_call0_v1_apply, val_main_v15_apply, val_main_v13_apply, val_main_v14_apply, val_main_v11_apply, val_main_v12_apply,
    val_main_v9_apply, val_main_v9_apply]
  show IntOp.cmpi .sle (BitVec.ofNat 32 j.val) (BitVec.ofNat 32 r.val) = _
  exact WordCmp.cmpi_sle_ofNat (by omega) (by omega)

theorem ref_z (h : Fin 10) (r j : Fin 8192) : val_main_v16 (F := Ideal) mq mk (ix3 h r j) = zf mq mk h r j.val := by
  rw [val_main_v16_apply, ref_mask, WordCmp.select_ofBool, ref_scores, val_main_call0_v2_apply, val_main_call0_v0_apply, val_main_cst_apply]
  show (if decide (j.val ≤ r.val) = true then _ else Ideal.ofBits .f32 0xFF800000#32) = _
  rw [show Ideal.ofBits FTy.f32 0xFF800000#32 = ⊥ by simp [Ideal.ofBits, Ideal.ieee]]
  simp [zf]

theorem sum_range (f : ℕ → EReal) : ∑ j : Fin 8192, f j.val = ∑ j ∈ Finset.range 8192, f j := Fin.sum_univ_eq_sum_range f 8192

theorem sup_range (f : ℕ → EReal) : (Finset.univ.sup fun j : Fin 8192 => f j.val) = (Finset.range 8192).sup f := by
  refine le_antisymm (Finset.sup_le fun j _ => Finset.le_sup (f := f) (Finset.mem_range.2 j.isLt)) (Finset.sup_le fun j hj => ?_)
  exact Finset.le_sup (f := fun j : Fin 8192 => f j.val) (Finset.mem_univ (⟨j, Finset.mem_range.1 hj⟩ : Fin 8192))

theorem ref_max (h : Fin 10) (r : Fin 8192) : val_main_v17 (F := Ideal) mq mk (ix2 h r) = (Finset.range 8192).sup (zf mq mk h r) := by
  rw [← sup_range]
  simp only [← ref_z]
  unfold val_main_v17
  generalize val_main_v16 (F := Ideal) mq mk = y
  pointwise [val_main_cst_0]
  rw [show Ideal.ofBits FTy.f32 0xFF800000#32 = ⊥ by simp [Ideal.ofBits, Ideal.ieee]]
  rfl

theorem two_bits : Ideal.ofBits FTy.f32 0x40000000#32 = ((2 : ℝ) : EReal) := by
  simp [Ideal.ofBits, Ideal.ieee, -EReal.coe_mul]
  norm_num

theorem pow_two (x : EReal) : Ideal.pow (Ideal.ofBits .f32 0x40000000#32) x = Ideal.exp2 x := by
  rw [two_bits]
  induction x using EReal.rec with
  | bot => simp
  | top => simp
  | coe x => rw [Ideal.pow_coe_coe, Ideal.exp2_coe]

theorem row_of (h : Fin 10) (r j : Fin 8192) : idx_main_v18 (idx_main_v19 (ix3 h r j)) = ix2 h r := by
  funext a
  match a with
  | ⟨0, _⟩ => rfl
  | ⟨1, _⟩ => rfl

theorem row_of' (h : Fin 10) (r j : Fin 8192) : idx_main_v24 (idx_main_v25 (ix3 h r j)) = ix2 h r := by
  funext a
  match a with
  | ⟨0, _⟩ => rfl
  | ⟨1, _⟩ => rfl

theorem place_of (h : Fin 10) (r j : Fin 8192) : idx_main_v23 (ix2 h r) j = ix3 h r j := by
  funext a
  match a with
  | ⟨0, _⟩ => rfl
  | ⟨1, _⟩ => rfl
  | ⟨2, _⟩ => rfl

theorem lplace_of (h : Fin 10) (r j : Fin 8192) (l : Fin 128) : lidx_main_v27 (ix3 h r l) j = ix3 h r j := by
  funext a
  match a with
  | ⟨0, _⟩ => rfl
  | ⟨1, _⟩ => rfl
  | ⟨2, _⟩ => rfl

theorem ms_row_of (r : Fin 8192) (h : Fin 10) (l : Fin 128) : idx_main_v31 (idx_main_v37 (ix3 r h l)) = ix2 r h := by
  funext a
  match a with
  | ⟨0, _⟩ => rfl
  | ⟨1, _⟩ => rfl

theorem ms_place_of (r : Fin 8192) (h : Fin 10) (x : Fin 128) : idx_main_v30 (ix2 r h) x = ix3 r h x := by
  funext a
  match a with
  | ⟨0, _⟩ => rfl
  | ⟨1, _⟩ => rfl
  | ⟨2, _⟩ => rfl

theorem swap_of (r : Fin 8192) (h : Fin 10) (x : Fin 128) : idx_main_v28 (ix3 r h x) = ix3 h r x := by
  funext a
  match a with
  | ⟨0, _⟩ => rfl
  | ⟨1, _⟩ => rfl
  | ⟨2, _⟩ => rfl

theorem zero_bits : (FloatOps.ofBits FTy.f32 0#32 : Ideal .f32) = (0 : EReal) := by
  show Ideal.ofBits .f32 0#32 = 0
  simp [Ideal.ofBits, Ideal.ieee]

theorem ref_weight (h : Fin 10) (r j : Fin 8192) :
    val_main_v22 (F := Ideal) mq mk (ix3 h r j) = Ideal.exp2 (zf mq mk h r j.val - (Finset.range 8192).sup (zf mq mk h r)) := by
  rw [val_main_v22_apply, val_main_v21_apply, val_main_cst_1_apply, val_main_v20_apply, ref_z, val_main_v19_apply, val_main_v18_apply, row_of, ref_max, Ideal.hostPowf_def]
  exact pow_two _

theorem ref_sum (h : Fin 10) (r : Fin 8192) :
    val_main_v23 (F := Ideal) mq mk (ix2 h r) = soft (zf mq mk h r) (fun _ => 1) (Finset.range 8192) := by
  rw [val_main_v23_apply, val_main_cst_2_apply]
  rw [zero_bits]
  refine (zero_add _).trans ?_
  unfold soft
  rw [← sum_range fun j => Ideal.exp2 (zf mq mk h r j - (Finset.range 8192).sup (zf mq mk h r)) * 1]
  refine Finset.sum_congr rfl fun j _ => ?_
  rw [place_of, ref_weight, mul_one]

theorem ref_avg (h : Fin 10) (r : Fin 8192) (l : Fin 128) :
    val_main_v27 (F := Ideal) mq mk mv (ix3 h r l) = avg' mq mk mv h r l := by
  rw [val_main_v27_apply]
  unfold avg'
  rw [← sum_range fun j => Ideal.div (Ideal.exp2 (zf mq mk h r j - (Finset.range 8192).sup (zf mq mk h r)))
    (soft (zf mq mk h r) (fun _ => 1) (Finset.range 8192)) * uf mv h l j]
  refine Finset.sum_congr rfl fun j _ => ?_
  have e1 : val_main_v26 (F := Ideal) mq mk (lidx_main_v27 (ix3 h r l) j) = Ideal.div (Ideal.exp2 (zf mq mk h r j.val - (Finset.range 8192).sup (zf mq mk h r)))
      (soft (zf mq mk h r) (fun _ => 1) (Finset.range 8192)) := by
    rw [lplace_of, val_main_v26_apply, val_main_v25_apply, val_main_v24_apply, row_of', ref_sum, ref_weight]
    rfl
  have e2 : val_main_v8 (F := Ideal) mv (ridx_main_v27 (ix3 h r l) j) = uf mv h l j.val := by
    rw [val_main_v8_apply, val_main_v7_apply]
    refine congrArg mv ?_
    have hh := h.isLt; have hj := j.isLt; have hl := l.isLt
    funext a; refine Fin.ext ?_
    match a with
    | ⟨0, _⟩ => show ((j.val * 10 + h.val) * 128 + l.val) / 1280 = j.val % 8192; omega
    | ⟨1, _⟩ => show ((j.val * 10 + h.val) * 128 + l.val) % 1280 = 128 * h.val + l.val; omega
  rw [e1, e2]

theorem ref_norm (r : Fin 8192) (h : Fin 10) (l : Fin 128) :
    val_main_v38 (F := Ideal) mq mk mv (ix3 r h l) = norm (avg mq mk mv h r) l := by
  rw [← norm_avg]
  have hv : ∀ x : Fin 128, val_main_v28 (F := Ideal) mq mk mv (ix3 r h x) = avg' mq mk mv h r x := fun x => by
    rw [val_main_v28_apply, swap_of, ref_avg]
  have hs : val_main_v30 (F := Ideal) mq mk mv (ix2 r h) = ∑ x : Fin 128, avg' mq mk mv h r x * avg' mq mk mv h r x := by
    rw [val_main_v30_apply, val_main_cst_3_apply]
    rw [zero_bits]
    refine (zero_add _).trans (Finset.sum_congr rfl fun x _ => ?_)
    rw [ms_place_of, val_main_v29_apply, hv x]
    rfl
  rw [val_main_v38_apply, val_main_v37_apply, val_main_v36_apply, val_main_v35_apply, val_main_v34_apply, val_main_cst_5_apply,
    val_main_v33_apply, val_main_v32_apply, val_main_cst_4_apply, val_main_v31_apply, ms_row_of, hv, hs]
  rfl

/-- The reference's result. -/
theorem ref_result : val_main_v47 (F := Ideal) mq mk mv gate gn = G mq mk mv gate gn := by
  funext i
  rw [val_main_v47_apply, val_main_v46_apply, val_main_v45_apply, val_main_v44_apply, val_main_v43_apply, val_main_v42_apply,
    val_main_v41_apply, val_main_v40_apply, val_main_v39_apply]
  have h0 : (i 0).val < 8192 := (i 0).isLt
  have h1 : (i 1).val < 1280 := (i 1).isLt
  have e1 : idx_main_v44 i = ix3 (i 0) ⟨(i 1).val / 128, by omega⟩ ⟨(i 1).val % 128, Nat.mod_lt _ (by norm_num)⟩ := by
    funext a; refine Fin.ext ?_
    match a with
    | ⟨0, _⟩ => show ((i 0).val * 1280 + (i 1).val) / 1280 = (i 0).val; omega
    | ⟨1, _⟩ => show ((i 0).val * 1280 + (i 1).val) / 128 % 10 = (i 1).val / 128; omega
    | ⟨2, _⟩ => show ((i 0).val * 1280 + (i 1).val) % 128 = (i 1).val % 128; omega
  rw [e1]
  refine Eq.trans (congrArg (fun t => FloatOps.truncf .bf16 Cert.ReferenceIdeal.Gen.bitsLt_bf16_f32 (FloatOps.mulf (FloatOps.mulf t _) _)) (ref_norm mq mk mv (i 0) ⟨(i 1).val / 128, by omega⟩ ⟨(i 1).val % 128, Nat.mod_lt _ (by norm_num)⟩)) ?_
  unfold G out
  refine congrArg₂ (· * ·) (congrArg₂ (· * ·) rfl (congrArg gn ?_)) (congrArg gate ?_)
  · funext a; refine Fin.ext ?_
    match a with
    | ⟨0, _⟩ => rfl
    | ⟨1, _⟩ => show 2816 + ((i 1).val / 128 * 128 + (i 1).val % 128) % 1280 = 2816 + (128 * ((i 1).val / 128) + (i 1).val % 128); omega
  · funext a; refine Fin.ext ?_
    match a with
    | ⟨0, _⟩ => rfl
    | ⟨1, _⟩ => show 2816 + (i 1).val = 2816 + (128 * ((i 1).val / 128) + (i 1).val % 128); omega

end Cert.Mla

end
-- ==== Proof.Out.lean ====
/- The output projection with the residual: the kernel's result array is the reference's. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

set_option maxRecDepth 16384

noncomputable section

namespace Cert.Out

open Idealize.ShloMosaic Idealize.ShloMosaic.TcCoe Cert.Kernel2Ideal Cert.Kernel2Ideal.Gen

theorem idx : ∀ t : Fin cfg0.N, win0_0.index t = ![(grid0.coords t 1).val, (grid0.coords t 0).val] ∧ win0_1.index t = ![(grid0.coords t 1).val, 0]
    ∧ win0_2.index t = ![(grid0.coords t 1).val, 0] ∧ win0_3.index t = ![(grid0.coords t 1).val, 0]
    ∧ win0_4.index t = ![0, 0, 512 * (grid0.coords t 0).val] ∧ win0_5.index t = ![0, 1536, 512 * (grid0.coords t 0).val]
    ∧ win0_6.index t = ![0, 2816, 512 * (grid0.coords t 0).val]
    ∧ win0_7.index t = ![(grid0.coords t 1).val, (grid0.coords t 0).val] := by decide +kernel

variable (m : (ℓ : Loc nD τ sig) → Buf (Elt Ideal) ℓ) (c : Dev nD) (t : Fin cfg0.N)

theorem pay (f : Vec Ideal S1024x1536 .bf16) (wf : Vec Ideal S1x1536x512 .f32) (s : Vec Ideal S1024x1280 .bf16) (ws : Vec Ideal S1x1280x512 .f32)
    (l : Vec Ideal S1024x1280 .bf16) (wl : Vec Ideal S1x1280x512 .f32) (x : Vec Ideal S1024x512 .f32) (a : Fin 1024) (b : Fin 512) :
    k0_pay1 f wf s ws l wl x (ix2 a b) = x (ix2 a b) + ((∑ e : Fin 1536, f (ix2 a e) * wf (ix3 0 e b)) + (∑ e : Fin 1280, s (ix2 a e) * ws (ix3 0 e b))
      + (∑ e : Fin 1280, l (ix2 a e) * wl (ix3 0 e b))) := by
  pointwise [k0_pay1]

/-- A sum over the joined columns, group by group. -/
theorem split (g : Fin 4096 → EReal) : ∑ e, g e = (∑ e : Fin 1536, g ⟨e.val, by omega⟩) + (∑ e : Fin 1280, g ⟨1536 + e.val, by omega⟩)
    + ∑ e : Fin 1280, g ⟨2816 + e.val, by omega⟩ :=
  (Fin.sum_univ_add (a := 1536 + 1280) (b := 1280) g).trans (congrArg (· + _) (Fin.sum_univ_add (a := 1536) (b := 1280) _))

theorem ref (x0 : Vec Ideal S8192x4096 .f32) (x1 : Vec Ideal S8192x1536 .bf16) (x2 x3 : Vec Ideal S8192x1280 .bf16) (x4 : Vec Ideal S2x4096x4096 .f32)
    (r : Fin 8192) (j : Fin 4096) : Cert.Reference2Ideal.Read.val_main_v5 (F := Ideal) x0 x1 x2 x3 x4 (ix2 r j)
      = x0 (ix2 r j) + ((∑ e : Fin 1536, x1 (ix2 r e) * x4 (ix3 0 ⟨e.val, by omega⟩ j)) + (∑ e : Fin 1280, x2 (ix2 r e) * x4 (ix3 0 ⟨1536 + e.val, by omega⟩ j))
        + ∑ e : Fin 1280, x3 (ix2 r e) * x4 (ix3 0 ⟨2816 + e.val, by omega⟩ j)) := by
  rw [Cert.Reference2Ideal.Read.val_main_v5_apply, Cert.Reference2Ideal.Read.val_main_v4_apply, split]
  refine congrArg (x0 (ix2 r j) + ·) (congrArg₂ (· + ·) (congrArg₂ (· + ·) ?_ ?_) ?_) <;> refine Finset.sum_congr rfl fun e _ => ?_ <;>
    pointwise [Cert.Reference2Ideal.Read.val_main_v3, Cert.Reference2Ideal.Read.val_main_v2, Cert.Reference2Ideal.Read.val_main_v1, Cert.Reference2Ideal.Read.val_main_v0]
  rw [dif_neg (by omega), dif_neg (by omega)]
  exact congrArg (· * _) (congrArg x3 (congrArg (ix2 r) (Fin.ext (by show 2816 + e.val - 1536 - 1280 = e.val; omega))))

theorem result : (dats m 0 c).arrAt 7 cfg0.N
    = Cert.Reference2Ideal.Read.val_main_v5 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  rw [after0_7]
  frame_out
  blk_simp [idx t]
  obtain ⟨a, b, rfl⟩ : ∃ (a : Fin 1024) (b : Fin 512), y = ix2 a b := ⟨⟨(y 0).val, (y 0).isLt⟩, ⟨(y 1).val, (y 1).isLt⟩, by blk_ext⟩
  have c0 : (grid0.coords t 0).val < 8 := (grid0.coords t 0).isLt
  have c1 : (grid0.coords t 1).val < 8 := (grid0.coords t 1).isLt
  obtain ⟨i0, i1, i2, i3, i4, i5, i6, i7⟩ := idx t
  have he : (win0_7.blk t).view.emb (ix2 a b) = ix2 ⟨1024 * (grid0.coords t 1).val + a.val, by omega⟩ ⟨512 * (grid0.coords t 0).val + b.val, by omega⟩ := by
    blk_ext [i7]
  rw [he, ref, pay]
  refine congrArg₂ (fun p q : EReal => p + q) ?_ (congrArg₂ (fun p q : EReal => p + q) (congrArg₂ (fun p q : EReal => p + q) ?_ ?_) ?_)
  · blk_ext [iblk, V_main_arg0, i0]
  · refine Finset.sum_congr (M := EReal) rfl fun e _ => congrArg₂ (fun p q : EReal => p * q) ?_ ?_
    · blk_ext [iblk, V_main_arg1, i1]
    · blk_ext [iblk, V_main_arg4]
      · exact (win0_4.rect_emb_val_off t _ _).trans (by rw [i4]; rfl)
      · exact (win0_4.rect_emb_val_off t _ _).trans (by rw [i4]; first | rfl | exact Nat.zero_add _)
      · exact (win0_4.rect_emb_val_off t _ _).trans (by rw [i4]; rfl)
  · refine Finset.sum_congr (M := EReal) rfl fun e _ => congrArg₂ (fun p q : EReal => p * q) ?_ ?_
    · blk_ext [iblk, V_main_arg2, i2]
    · blk_ext [iblk, V_main_arg4]
      · exact (win0_5.rect_emb_val_off t _ _).trans (by rw [i5]; rfl)
      · exact (win0_5.rect_emb_val_off t _ _).trans (by rw [i5]; first | rfl | exact Nat.zero_add _)
      · exact (win0_5.rect_emb_val_off t _ _).trans (by rw [i5]; rfl)
  · refine Finset.sum_congr (M := EReal) rfl fun e _ => congrArg₂ (fun p q : EReal => p * q) ?_ ?_
    · blk_ext [iblk, V_main_arg3, i3]
    · blk_ext [iblk, V_main_arg4]
      · exact (win0_6.rect_emb_val_off t _ _).trans (by rw [i6]; rfl)
      · exact (win0_6.rect_emb_val_off t _ _).trans (by rw [i6]; first | rfl | exact Nat.zero_add _)
      · exact (win0_6.rect_emb_val_off t _ _).trans (by rw [i6]; rfl)

end Cert.Out

end
-- ==== Proof.Heads.lean ====
/- The projection that gives the forgetting attention its queries and keys, with the norm of each head: the kernel's result array is the reference's. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Claim
public import Idealize.ShloMosaic.Lib.IdealHost

@[expose] public section

set_option maxRecDepth 16384

noncomputable section

namespace Cert.Heads

open Idealize.ShloMosaic Idealize.ShloMosaic.TcCoe Cert.Kernel3Ideal Cert.Kernel3Ideal.Gen Cert.Reference3Ideal.Read

theorem idx0 : ∀ t : Fin cfg0.N, win0_0.index t = ![(grid0.coords t 1).val, 0] := by decide +kernel
theorem idx1 : ∀ t : Fin cfg0.N, win0_1.index t = ![0, (grid0.coords t 0).val, 0] := by decide +kernel
theorem idx2 : ∀ t : Fin cfg0.N, win0_2.index t = ![0, (grid0.coords t 0).val] := by decide +kernel
theorem idx3 : ∀ t : Fin cfg0.N, win0_3.index t = ![(grid0.coords t 1).val, (grid0.coords t 0).val] := by decide +kernel

variable (m : (ℓ : Loc nD τ sig) → Buf (Elt Ideal) ℓ) (c : Dev nD) (t : Fin cfg0.N)

theorem blk1 (x : S1x1024x4096.Idx) (i : S2x14720x4096.Idx) (h0 : (i 0).val = 0) (h1 : (i 1).val = 1024 * (grid0.coords t 0).val + (x 1).val)
    (h2 : (i 2).val = (x 2).val) : X0_1 m c t x = m ((c.tc : Thread nD τ).loc main_arg1) i := by
  have e := idx1 t
  unfold X0_1 Pipeline.Window.fill
  rw [dif_pos (moved0_1 t x)]
  blk_ext [iblk, V_main_arg1, e]

/-- The gain of a column: the queries' heads come first. -/
def gain (q k : Vec Ideal S128 .f32) (j : ℕ) : EReal :=
  if j < 1536 then q (ix1 ⟨j % 128, Nat.mod_lt _ (by omega)⟩) * Ideal.ofBits FTy.f32 0x3E0293EE#32 else k (ix1 ⟨j % 128, Nat.mod_lt _ (by omega)⟩)

theorem read2 (f : S1x3072.Idx → EReal) (b : Fin 1024) (h : 1024 * (grid0.coords t 0).val + b.val < 3072) :
    View.read (Elt Ideal) ((cfg0.win 2).blk t).view f (ix2 0 b) = f (ix2 0 ⟨1024 * (grid0.coords t 0).val + b.val, h⟩) := by
  have e : (win0_2.blk t).view.emb (ix2 0 b) = ix2 0 ⟨1024 * (grid0.coords t 0).val + b.val, h⟩ := by blk_ext [idx2 t]
  exact congrArg f e

theorem blk2 (b : Fin 1024) : iblk m c 2 t (ix2 0 b)
    = gain (m ((c.tc : Thread nD τ).loc main_arg2)) (m ((c.tc : Thread nD τ).loc main_arg3)) (1024 * (grid0.coords t 0).val + b.val) := by
  have c0 : (grid0.coords t 0).val < 3 := (grid0.coords t 0).isLt
  unfold iblk
  entry_read
  refine (read2 t _ b (by omega)).trans ?_
  pointwise [gain]
  by_cases h : 1024 * (grid0.coords t 0).val + b.val < 1536
  · exact (dif_pos h).trans (if_pos h).symm
  · exact (dif_neg h).trans ((congrArg (m ((c.tc : Thread nD τ).loc main_arg3)) (congrArg ix1 (Fin.ext (by
      show (1024 * (grid0.coords t 0).val + b.val - 1536) % 128 = (1024 * (grid0.coords t 0).val + b.val) % 128
      omega)))).trans (if_neg h).symm)

/-- One entry of a head normed by its mean square, times its gain. -/
def norm (d : Fin 128 → EReal) (l : Fin 128) (g : EReal) : EReal :=
  d l * Ideal.rsqrt (Ideal.div (∑ j, d j * d j) (Ideal.ofBits FTy.f32 0x43000000#32) + Ideal.ofBits FTy.f32 0x358637BD#32) * g

theorem pay3 (h : Vec Ideal S1024x4096 .bf16) (w : Vec Ideal S1x1024x4096 .bf16) (a b : Fin 1024) :
    k0_pay3 h w (ix2 a b) = ∑ e : Fin 4096, h (ix2 a e) * w (ix3 0 b e) := by
  pointwise [k0_pay3]

theorem ld_gain (G : Vec Ideal S1x1024 .f32) (o : ℕ) (inb) (l : Fin 128) (h : o + l.val < 1024) :
    View.ld G (Rect.unit (s := S1x1024) ![0, o] ![1, 128] inb) (ix2 0 l) = G (ix2 0 ⟨o + l.val, h⟩) := by
  refine congrArg G ?_
  blk_ext
  show o + 1 * l.val = o + l.val
  omega

/-- A column of a block, its head normed. -/
def col (D : FVec Ideal S1024x1024 .f32) (G : Vec Ideal S1x1024 .f32) (a b : Fin 1024) : EReal :=
  norm (fun k => D (ix2 a ⟨128 * (b.val / 128) + k.val, by omega⟩)) ⟨b.val % 128, Nat.mod_lt _ (by omega)⟩ (G (ix2 0 b))

theorem piece (D : FVec Ideal S1024x1024 .f32) (G : Vec Ideal S1x1024 .f32) (a b : Fin 1024) (o : ℕ) (ho : o + 128 ≤ 1024) (hd : o % 128 = 0) (inb)
    (l : Fin 128) (hb : b.val = o + l.val) :
    norm (fun k => D (ix2 a ⟨o + k.val, by omega⟩)) l (View.ld G (Rect.unit (s := S1x1024) ![0, o] ![1, 128] inb) (ix2 0 l)) = col D G a b := by
  have hlt : o + l.val < 1024 := by omega
  obtain rfl : b = ⟨o + l.val, hlt⟩ := Fin.ext hb
  rw [ld_gain G o inb l hlt]
  unfold col
  congr 1
  · exact funext fun k => congrArg D (congrArg (ix2 a) (Fin.ext (by show o + k.val = 128 * ((o + l.val) / 128) + k.val; omega)))
  · exact Fin.ext (by show l.val = (o + l.val) % 128; omega)

theorem pay2 (D : FVec Ideal S1024x1024 .f32) (g : Vec Ideal S1x128 .f32) (a : Fin 1024) (l : Fin 128) :
    k0_pay2 D g (ix2 a l) = norm (fun k => D (ix2 a ⟨896 + k.val, by omega⟩)) l (g (ix2 0 l)) := by
  pointwise [k0_pay2, norm]

theorem pay1 (D : FVec Ideal S1024x1024 .f32) (g : Vec Ideal S1x128 .f32) (a : Fin 1024) (l : Fin 128) :
    k0_pay1 (k0_pay12 D) (k0_pay13 g) (ix2 a l) = norm (fun k => D (ix2 a ⟨768 + k.val, by omega⟩)) l (g (ix2 0 l)) := by
  pointwise [k0_pay1, k0_pay12, k0_pay13, norm]

theorem pay11 (D : FVec Ideal S1024x1024 .f32) (g : Vec Ideal S1x128 .f32) (a : Fin 1024) (l : Fin 128) :
    k0_pay11 D g (ix2 a l) = norm (fun k => D (ix2 a ⟨640 + k.val, by omega⟩)) l (g (ix2 0 l)) := by
  pointwise [k0_pay11, norm]

theorem pay10 (D : FVec Ideal S1024x1024 .f32) (g : Vec Ideal S1x128 .f32) (a : Fin 1024) (l : Fin 128) :
    k0_pay10 (k0_pay8 D) (k0_pay9 D) g (ix2 a l) = norm (fun k => D (ix2 a ⟨512 + k.val, by omega⟩)) l (g (ix2 0 l)) := by
  pointwise [k0_pay10, k0_pay8, k0_pay9, norm]

theorem pay7 (D : FVec Ideal S1024x1024 .f32) (g : Vec Ideal S1x128 .f32) (a : Fin 1024) (l : Fin 128) :
    k0_pay7 D g (ix2 a l) = norm (fun k => D (ix2 a ⟨384 + k.val, by omega⟩)) l (g (ix2 0 l)) := by
  pointwise [k0_pay7, norm]

theorem pay6 (D : FVec Ideal S1024x1024 .f32) (g : Vec Ideal S1x128 .f32) (a : Fin 1024) (l : Fin 128) :
    k0_pay6 D g (ix2 a l) = norm (fun k => D (ix2 a ⟨256 + k.val, by omega⟩)) l (g (ix2 0 l)) := by
  pointwise [k0_pay6, norm]

theorem pay5 (h : Vec Ideal S1024x4096 .bf16) (w : Vec Ideal S1x1024x4096 .bf16) (g : Vec Ideal S1x128 .f32) (a : Fin 1024) (l : Fin 128) :
    k0_pay5 h w g (ix2 a l) = norm (fun k => k0_pay3 h w (ix2 a ⟨128 + k.val, by omega⟩)) l (g (ix2 0 l)) := by
  unfold k0_pay5
  generalize k0_pay3 h w = D
  pointwise [norm]

theorem pay4 (h : Vec Ideal S1024x4096 .bf16) (w : Vec Ideal S1x1024x4096 .bf16) (g : Vec Ideal S1x128 .f32) (a : Fin 1024) (l : Fin 128) :
    k0_pay4 h w g (ix2 a l) = norm (fun k => k0_pay3 h w (ix2 a ⟨0 + k.val, by omega⟩)) l (g (ix2 0 l)) := by
  unfold k0_pay4
  generalize k0_pay3 h w = D
  pointwise [norm]

theorem ref_dot (x0 : Vec Ideal S8192x4096 .bf16) (x1 : Vec Ideal S2x14720x4096 .bf16) (r : Fin 8192) (j : Fin 3072) :
    val_main_v4 (F := Ideal) x0 x1 (ix2 r j) = ∑ e : Fin 4096, x0 (ix2 r e) * x1 (ix3 0 ⟨j.val, by omega⟩ e) := by
  unfold val_main_v4 val_main_v3 val_main_v2 val_main_v1 val_main_v0
  pointwise

theorem ref (x0 : Vec Ideal S8192x4096 .bf16) (x1 : Vec Ideal S2x14720x4096 .bf16) (x2 x3 : Vec Ideal S128 .f32) (r : Fin 8192) (j : Fin 3072) :
    val_main_v26 (F := Ideal) x0 x1 x2 x3 (ix2 r j)
      = norm (fun l => val_main_v4 (F := Ideal) x0 x1 (ix2 r ⟨128 * (j.val / 128) + l.val, by omega⟩)) ⟨j.val % 128, Nat.mod_lt _ (by omega)⟩ (gain x2 x3 j.val) := by
  unfold val_main_v26 val_main_v25 val_main_v24 val_main_v23 val_main_v22 val_main_v21 val_main_v20 val_main_v19 val_main_v18 val_main_v17 val_main_v16
    val_main_v15 val_main_v14 val_main_v13 val_main_v12 val_main_v11 val_main_v10 val_main_v9 val_main_v8
    val_main_v7 val_main_v6 val_main_v5 val_main_cst val_main_cst_0 val_main_cst_1 val_main_cst_2
  generalize val_main_v4 (F := Ideal) x0 x1 = d
  pointwise [norm, gain]
  have hs : ∀ x : Fin 128, j.val / 1536 * 1536 + j.val / 128 % 12 * 128 + x.val = 128 * (j.val / 128) + x.val := fun x => by omega
  have hj : 128 * (j.val / 128) + j.val % 128 = j.val := by omega
  simp only [hs, hj, Fin.eta]
  refine congrArg₂ (fun p q : EReal => p * q) rfl ?_
  by_cases h : j.val < 1536
  · have h' : j.val / 1536 < 1 := by omega
    exact (dif_pos h').trans (if_pos h).symm
  · have h' : ¬ j.val / 1536 < 1 := by omega
    exact (dif_neg h').trans (if_neg h).symm

theorem result : (dats m 0 c).arrAt 3 cfg0.N
    = val_main_v26 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 3 _ (by decide +kernel) fun t hf y => ?_
  rw [after0_3]
  unfold outsAt0
  frame_out
  blk_simp [idx3 t]
  obtain ⟨a, b, rfl⟩ : ∃ (a : Fin 1024) (b : Fin 1024), y = ix2 a b := ⟨⟨(y 0).val, (y 0).isLt⟩, ⟨(y 1).val, (y 1).isLt⟩, by blk_ext⟩
  have c0 : (grid0.coords t 0).val < 3 := (grid0.coords t 0).isLt
  have c1 : (grid0.coords t 1).val < 8 := (grid0.coords t 1).isLt
  refine Eq.trans (b := col (k0_pay3 (iblk m c 0 t) (X0_1 m c t)) (iblk m c 2 t) a b) ?_ ?_
  · generalize iblk m c 2 t = G
    canon_tiles x h
    all_goals
      obtain ⟨a', l, rfl⟩ : ∃ (a' : Fin 1024) (l : Fin 128), x = ix2 a' l := ⟨⟨(x 0).val, (x 0).isLt⟩, ⟨(x 1).val, (x 1).isLt⟩, by blk_ext⟩
      obtain rfl : a = a' := Fin.ext h0
    · exact (pay2 _ _ a l).trans (piece _ G a b 896 (by omega) rfl _ l h1)
    · exact (pay1 _ _ a l).trans (piece _ G a b 768 (by omega) rfl _ l h1)
    · exact (pay11 _ _ a l).trans (piece _ G a b 640 (by omega) rfl _ l h1)
    · exact (pay10 _ _ a l).trans (piece _ G a b 512 (by omega) rfl _ l h1)
    · exact (pay7 _ _ a l).trans (piece _ G a b 384 (by omega) rfl _ l h1)
    · exact (pay6 _ _ a l).trans (piece _ G a b 256 (by omega) rfl _ l h1)
    · exact (pay5 _ _ _ a l).trans (piece _ G a b 128 (by omega) rfl _ l h1)
    · exact (pay4 _ _ _ a l).trans (piece _ G a b 0 (by omega) rfl _ l (h1.trans (Nat.zero_add _).symm))
  have he : (win0_3.blk t).view.emb (ix2 a b) = ix2 ⟨1024 * (grid0.coords t 1).val + a.val, by omega⟩ ⟨1024 * (grid0.coords t 0).val + b.val, by omega⟩ := by
    blk_ext [idx3 t]
  rw [he, ref]
  unfold col
  rw [blk2 m c t b]
  simp only [ref_dot, pay3]
  have hl : (1024 * (grid0.coords t 0).val + b.val) % 128 = b.val % 128 := by omega
  refine congrArg₂ (fun d l => norm d l _) (funext fun k => Finset.sum_congr rfl fun e _ => congrArg₂ (fun p q : EReal => p * q) ?_ ?_) (Fin.ext hl.symm)
  · blk_ext [iblk, V_main_arg0, idx0 t]
  · exact blk1 m c t _ _ rfl (by
      show 128 * ((1024 * (grid0.coords t 0).val + b.val) / 128) + k.val = 1024 * (grid0.coords t 0).val + (128 * (b.val / 128) + k.val)
      omega) rfl

end Cert.Heads

end
-- ==== Proof.Values.lean ====
/- The projection that gives the values of the forgetting attention: the kernel's result array is the reference's. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit

@[expose] public section

set_option maxRecDepth 16384

noncomputable section

namespace Cert.Values

open Idealize.ShloMosaic Idealize.ShloMosaic.TcCoe Cert.Kernel4Ideal Cert.Kernel4Ideal.Gen

theorem idx0 : ∀ t : Fin cfg0.N, win0_0.index t = ![(grid0.coords t 1).val, 0] := by decide +kernel
theorem idx1 : ∀ t : Fin cfg0.N, win0_1.index t = ![0, 4 + (grid0.coords t 0).val, 0] := by decide +kernel
theorem idx2 : ∀ t : Fin cfg0.N, win0_2.index t = ![(grid0.coords t 1).val, (grid0.coords t 0).val] := by decide +kernel

variable (m : (ℓ : Loc nD τ sig) → Buf (Elt Ideal) ℓ) (c : Dev nD) (t : Fin cfg0.N)

theorem blk1 (x : S1x768x4096.Idx) (i : S2x14720x4096.Idx) (h0 : (i 0).val = 0) (h1 : (i 1).val = 3072 + 768 * (grid0.coords t 0).val + (x 1).val)
    (h2 : (i 2).val = (x 2).val) : X0_1 m c t x = m ((c.tc : Thread nD τ).loc main_arg1) i := by
  have e := idx1 t
  unfold X0_1 Pipeline.Window.fill
  rw [dif_pos (moved0_1 t x)]
  blk_ext [iblk, V_main_arg1, e]

theorem pay (h : Vec Ideal S1024x4096 .bf16) (w : Vec Ideal S1x768x4096 .bf16) (a : Fin 1024) (b : Fin 768) :
    k0_pay1 h w (ix2 a b) = ∑ e : Fin 4096, h (ix2 a e) * w (ix3 0 b e) := by
  pointwise [k0_pay1]

theorem ref (x0 : Vec Ideal S8192x4096 .bf16) (x1 : Vec Ideal S2x14720x4096 .bf16) (r : Fin 8192) (j : Fin 1536) :
    Cert.Reference4Ideal.Read.val_main_v5 (F := Ideal) x0 x1 (ix2 r j)
      = ∑ e : Fin 4096, x0 (ix2 r e) * x1 (ix3 0 ⟨3072 + j.val, by omega⟩ e) := by
  unfold Cert.Reference4Ideal.Read.val_main_v5 Cert.Reference4Ideal.Read.val_main_v4 Cert.Reference4Ideal.Read.val_main_v3 Cert.Reference4Ideal.Read.val_main_v2 Cert.Reference4Ideal.Read.val_main_v1 Cert.Reference4Ideal.Read.val_main_v0
  pointwise

theorem result : (dats m 0 c).arrAt 2 cfg0.N
    = Cert.Reference4Ideal.Read.val_main_v5 (F := Ideal) (m ((c.tc : Thread nD τ).loc main_arg0)) (m ((c.tc : Thread nD τ).loc main_arg1)) := by
  refine (dats m 0 c).arrAt_eq_of_covers 2 _ (by decide +kernel) fun t hf y => ?_
  rw [after0_2]
  unfold outsAt0
  frame_out
  blk_simp [idx2 t]
  obtain ⟨a, b, rfl⟩ : ∃ (a : Fin 1024) (b : Fin 768), y = ix2 a b := ⟨⟨(y 0).val, (y 0).isLt⟩, ⟨(y 1).val, (y 1).isLt⟩, by blk_ext⟩
  have c0 : (grid0.coords t 0).val < 2 := (grid0.coords t 0).isLt
  have c1 : (grid0.coords t 1).val < 8 := (grid0.coords t 1).isLt
  have he : (win0_2.blk t).view.emb (ix2 a b) = ix2 ⟨1024 * (grid0.coords t 1).val + a.val, by omega⟩ ⟨768 * (grid0.coords t 0).val + b.val, by omega⟩ := by
    blk_ext [idx2 t]
  rw [he, ref, pay]
  refine Finset.sum_congr (M := EReal) rfl fun e _ => congrArg₂ (fun p q : EReal => p * q) ?_ ?_
  · blk_ext [iblk, V_main_arg0, idx0 t]
  · exact blk1 m c t _ _ rfl (by show 3072 + (768 * (grid0.coords t 0).val + b.val) = 3072 + 768 * (grid0.coords t 0).val + b.val; omega) rfl

end Cert.Values

end
-- ==== Proof.Stick.lean ====
/- The projection that gives the stick-breaking attention its queries, keys and values: the kernel's result array is the reference's. -/
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Claim
public import Idealize.ShloMosaic.Lib.IdealHost

@[expose] public section

set_option maxRecDepth 16384

noncomputable section

namespace Cert.Stick

open Idealize.ShloMosaic Idealize.ShloMosaic.TcCoe Cert.Kernel5Ideal Cert.Kernel5Ideal.Gen Cert.Reference5Ideal.Read

theorem idx0 : ∀ t : Fin cfg0.N, win0_0.index t = ![(grid0.coords t 1).val, 0] := by decide +kernel
theorem idx1 : ∀ t : Fin cfg0.N, win0_1.index t = ![0, 8 + (grid0.coords t 0).val, 0] := by decide +kernel
theorem idx2 : ∀ t : Fin cfg0.N, win0_2.index t = ![0, (grid0.coords t 0).val] := by decide +kernel
theorem idx3 : ∀ t : Fin cfg0.N, win0_3.index t = ![(grid0.coords t 1).val, (grid0.coords t 0).val] := by decide +kernel

variable (m : (ℓ : Loc nD τ sig) → Buf (Elt Ideal) ℓ) (c : Dev nD) (t : Fin cfg0.N)

theorem blk1 (x : S1x1280x4096.Idx) (i : S2x14720x4096.Idx) (h0 : (i 0).val = 0) (h1 : (i 1).val = 10240 + 1280 * (grid0.coords t 0).val + (x 1).val)
    (h2 : (i 2).val = (x 2).val) : X0_1 m c t x = m ((c.tc : Thread nD τ).loc main_arg1) i := by
  have e := idx1 t
  unfold X0_1 Pipeline.Window.fill
  rw [dif_pos (moved0_1 t x)]
  blk_ext [iblk, V_main_arg1, e]

/-- The scale of a column: the queries' columns come first. -/
def scale (j : ℕ) : EReal := if j < 1280 then Ideal.ofBits FTy.f32 0x3E0293EE#32 else 1

theorem read2 (f : S1x3840.Idx → EReal) (b : Fin 1280) (h : 1280 * (grid0.coords t 0).val + b.val < 3840) :
    View.read (Elt Ideal) ((cfg0.win 2).blk t).view f (ix2 0 b) = f (ix2 0 ⟨1280 * (grid0.coords t 0).val + b.val, h⟩) := by
  have e : (win0_2.blk t).view.emb (ix2 0 b) = ix2 0 ⟨1280 * (grid0.coords t 0).val + b.val, h⟩ := by blk_ext [idx2 t]
  exact congrArg f e

theorem blk2 (b : Fin 1280) : iblk m c 2 t (ix2 0 b) = scale (1280 * (grid0.coords t 0).val + b.val) := by
  have c0 : (grid0.coords t 0).val < 3 := (grid0.coords t 0).isLt
  unfold iblk
  entry_read
  refine (read2 t _ b (by omega)).trans ?_
  pointwise [scale]
  by_cases h : 1280 * (grid0.coords t 0).val + b.val < 1280
  · exact (dif_pos h).trans (if_pos h).symm
  · exact (dif_neg h).trans (if_neg h).symm

theorem pay (h : Vec Ideal S1024x4096 .bf16) (w : Vec Ideal S1x1280x4096 .bf16) (g : Vec Ideal S1x1280 .f32) (a : Fin 1024) (b : Fin 1280) :
    k0_pay1 h w g (ix2 a b) = (∑ e : Fin 4096, h (ix2 a e) * w (ix3 0 b e)) * g (ix2 0 b) := by
  pointwise [k0_pay1]

theorem ref_dot (x0 : Vec Ideal S8192x4096 .bf16) (x1 : Vec Ideal S2x14720x4096 .bf16) (r : Fin 8192) (j : Fin 3840) :
    val_main_v4 (F := Ideal) x0 x1 (ix2 r j) = ∑ e : Fin 4096, x0 (ix2 r e) * x1 (ix3 0 ⟨10240 + j.val, by omega⟩ e) := by
  unfold val_main_v4 val_main_v3 val_main_v2 val_main_v1 val_main_v0
  pointwise

theorem ref (x0 : Vec Ideal S8192x4096 .bf16) (x1 : Vec Ideal S2x14720x4096 .bf16) (r : Fin 8192) (j : Fin 3840) :
    val_main_v11 (F := Ideal) x0 x1 (ix2 r j) = val_main_v4 (F := Ideal) x0 x1 (ix2 r j) * scale j.val := by
  unfold val_main_v11 val_main_v10 val_main_v9 val_main_v8 val_main_v7 val_main_v6 val_main_v5 val_main_cst
  generalize val_main_v4 (F := Ideal) x0 x1 = d
  pointwise [scale]
  by_cases h : j.val < 1280
  · rw [dif_pos h, if_pos h]
  · rw [dif_neg h, if_neg h, mul_one]
    by_cases h' : j.val - 1280 < 1280
    · rw [dif_pos h']
      exact congrArg d (congrArg (ix2 r) (Fin.ext (by show 1280 + (j.val - 1280) = j.val; omega)))
    · rw [dif_neg h']
      exact congrArg d (congrArg (ix2 r) (Fin.ext (by show 2560 + (j.val - 1280 - 1280) = j.val; omega)))

theorem result : (dats m 0 c).arrAt 3 cfg0.N
    = val_main_v11 (F := Ideal) (m ((c.tc : Thread nD τ).loc main_arg0)) (m ((c.tc : Thread nD τ).loc main_arg1)) := by
  refine (dats m 0 c).arrAt_eq_of_covers 3 _ (by decide +kernel) fun t hf y => ?_
  rw [after0_3]
  unfold outsAt0
  frame_out
  blk_simp [idx3 t]
  obtain ⟨a, b, rfl⟩ : ∃ (a : Fin 1024) (b : Fin 1280), y = ix2 a b := ⟨⟨(y 0).val, (y 0).isLt⟩, ⟨(y 1).val, (y 1).isLt⟩, by blk_ext⟩
  have c0 : (grid0.coords t 0).val < 3 := (grid0.coords t 0).isLt
  have c1 : (grid0.coords t 1).val < 8 := (grid0.coords t 1).isLt
  have he : (win0_3.blk t).view.emb (ix2 a b) = ix2 ⟨1024 * (grid0.coords t 1).val + a.val, by omega⟩ ⟨1280 * (grid0.coords t 0).val + b.val, by omega⟩ := by
    blk_ext [idx3 t]
  rw [he, ref, ref_dot, pay]
  refine congrArg₂ (fun p q : EReal => p * q) (Finset.sum_congr rfl fun e _ => congrArg₂ (fun p q : EReal => p * q) ?_ ?_) (blk2 m c t b)
  · blk_ext [iblk, V_main_arg0, idx0 t]
  · exact blk1 m c t _ _ rfl (by show 10240 + (1280 * (grid0.coords t 0).val + b.val) = 10240 + 1280 * (grid0.coords t 0).val + b.val; omega) rfl

end Cert.Stick

end
-- ==== Proof.Gate.lean ====
/- The projection that gives the gate, with its SiLU: the kernel's result array is the reference's. -/
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Claim
public import Idealize.ShloMosaic.Lib.IdealHost

@[expose] public section

set_option maxRecDepth 16384

noncomputable section

namespace Cert.Gate

open Idealize.ShloMosaic Idealize.ShloMosaic.TcCoe Cert.Kernel6Ideal Cert.Kernel6Ideal.Gen Cert.Reference6Ideal.Read

theorem idx0 : ∀ t : Fin cfg0.N, win0_0.index t = ![(grid0.coords t 1).val, 0] := by decide +kernel
theorem idx1 : ∀ t : Fin cfg0.N, win0_1.index t = ![0, 6 + (grid0.coords t 0).val, 0] := by decide +kernel
theorem idx2 : ∀ t : Fin cfg0.N, win0_2.index t = ![(grid0.coords t 1).val, (grid0.coords t 0).val] := by decide +kernel

variable (m : (ℓ : Loc nD τ sig) → Buf (Elt Ideal) ℓ) (c : Dev nD) (t : Fin cfg0.N)

theorem blk1 (x : S1x1024x4096.Idx) (i : S2x14720x4096.Idx) (h0 : (i 0).val = 0) (h1 : (i 1).val = 6144 + 1024 * (grid0.coords t 0).val + (x 1).val)
    (h2 : (i 2).val = (x 2).val) : X0_1 m c t x = m ((c.tc : Thread nD τ).loc main_arg1) i := by
  have e := idx1 t
  unfold X0_1 Pipeline.Window.fill
  rw [dif_pos (moved0_1 t x)]
  blk_ext [iblk, V_main_arg1, e]

theorem pay (h : Vec Ideal S1024x4096 .bf16) (w : Vec Ideal S1x1024x4096 .bf16) (a b : Fin 1024) :
    k0_pay1 h w (ix2 a b) = (∑ e : Fin 4096, h (ix2 a e) * w (ix3 0 b e)) * Ideal.logistic (∑ e : Fin 4096, h (ix2 a e) * w (ix3 0 b e)) := by
  pointwise [k0_pay1]

theorem ref_dot (x0 : Vec Ideal S8192x4096 .bf16) (x1 : Vec Ideal S2x14720x4096 .bf16) (r : Fin 8192) (j : Fin 4096) :
    val_main_v4 (F := Ideal) x0 x1 (ix2 r j) = ∑ e : Fin 4096, x0 (ix2 r e) * x1 (ix3 0 ⟨6144 + j.val, by omega⟩ e) := by
  unfold val_main_v4 val_main_v3 val_main_v2 val_main_v1 val_main_v0
  pointwise

theorem ref (x0 : Vec Ideal S8192x4096 .bf16) (x1 : Vec Ideal S2x14720x4096 .bf16) (i : S8192x4096.Idx) :
    val_main_v11 (F := Ideal) x0 x1 i = val_main_v4 (F := Ideal) x0 x1 i * Ideal.logistic (val_main_v4 (F := Ideal) x0 x1 i) := by
  rw [val_main_v11_apply, val_main_v10_apply, val_main_v9_apply, val_main_cst_0_apply, val_main_v8_apply, val_main_v7_apply, val_main_cst_apply,
    val_main_v6_apply, val_main_v5_apply]
  show _ * Ideal.div (Ideal.ofBits FTy.f32 0x3F800000#32) (Ideal.ofBits FTy.f32 0x3F800000#32 + Ideal.exp (-_)) = _
  rw [Ideal.ofBits_one_f32]
  rfl

theorem result : (dats m 0 c).arrAt 2 cfg0.N
    = val_main_v11 (F := Ideal) (m ((c.tc : Thread nD τ).loc main_arg0)) (m ((c.tc : Thread nD τ).loc main_arg1)) := by
  refine (dats m 0 c).arrAt_eq_of_covers 2 _ (by decide +kernel) fun t hf y => ?_
  rw [after0_2]
  unfold outsAt0
  frame_out
  blk_simp [idx2 t]
  obtain ⟨a, b, rfl⟩ : ∃ (a : Fin 1024) (b : Fin 1024), y = ix2 a b := ⟨⟨(y 0).val, (y 0).isLt⟩, ⟨(y 1).val, (y 1).isLt⟩, by blk_ext⟩
  have c0 : (grid0.coords t 0).val < 4 := (grid0.coords t 0).isLt
  have c1 : (grid0.coords t 1).val < 8 := (grid0.coords t 1).isLt
  have he : (win0_2.blk t).view.emb (ix2 a b) = ix2 ⟨1024 * (grid0.coords t 1).val + a.val, by omega⟩ ⟨1024 * (grid0.coords t 0).val + b.val, by omega⟩ := by
    blk_ext [idx2 t]
  rw [he, ref, ref_dot, pay]
  refine congrArg (fun d : EReal => d * Ideal.logistic d) (Finset.sum_congr rfl fun e _ => congrArg₂ (fun p q : EReal => p * q) ?_ ?_)
  · blk_ext [iblk, V_main_arg0, idx0 t]
  · exact blk1 m c t _ _ rfl (by show 6144 + (1024 * (grid0.coords t 0).val + b.val) = 6144 + 1024 * (grid0.coords t 0).val + b.val; omega) rfl

end Cert.Gate

end
-- ==== Proof.Latent.lean ====
/- The projection that gives the latent queries, with the norm of its rows: the kernel's result array is the reference's. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Claim

@[expose] public section

set_option maxRecDepth 16384

noncomputable section

namespace Cert.Latent

open Idealize.ShloMosaic Idealize.ShloMosaic.TcCoe Cert.Kernel7Ideal Cert.Kernel7Ideal.Gen Cert.Reference7Ideal.Read

theorem idx0 : ∀ t : Fin cfg0.N, win0_0.index t = ![(grid0.coords t 1).val, 0] := by decide +kernel
theorem idx1 : ∀ t : Fin cfg0.N, win0_1.index t = ![0, 3, 0] := by decide +kernel
theorem idx2 : ∀ t : Fin cfg0.N, win0_2.index t = ![0, 0] := by decide +kernel
theorem idx3 : ∀ t : Fin cfg0.N, win0_3.index t = ![(grid0.coords t 1).val, 0] := by decide +kernel

variable (m : (ℓ : Loc nD τ sig) → Buf (Elt Ideal) ℓ) (c : Dev nD) (t : Fin cfg0.N)

theorem blk1 (x : S1x1536x4096.Idx) (i : S2x14720x4096.Idx) (h0 : (i 0).val = 0) (h1 : (i 1).val = 4608 + (x 1).val)
    (h2 : (i 2).val = (x 2).val) : X0_1 m c t x = m ((c.tc : Thread nD τ).loc main_arg1) i := by
  have e := idx1 t
  unfold X0_1 Pipeline.Window.fill
  rw [dif_pos (moved0_1 t x)]
  blk_ext [iblk, V_main_arg1, e]

/-- The row's gains, laid out as one row for the call. -/
theorem blk2 (b : Fin 1536) : iblk m c 2 t (ix2 0 b) = m ((c.tc : Thread nD τ).loc main_arg2) (ix1 b) := by
  have e : (win0_2.blk t).view.emb (ix2 0 b) = ix2 0 b := by blk_ext [idx2 t]
  unfold iblk
  entry_read
  show broadcastInDim S1x1536 ![1] bcast_S1536_S1x1536_1 (m ((c.tc : Thread nD τ).loc main_arg2)) ((win0_2.blk t).view.emb (ix2 0 b)) = _
  rw [e]
  pointwise

/-- One entry of a row normed by its mean square, times its gain. -/
def norm (d : Fin 1536 → EReal) (b : Fin 1536) (g : EReal) : EReal :=
  d b * Ideal.rsqrt (Ideal.div (∑ j, d j * d j) (Ideal.ofBits FTy.f32 0x44C00000#32) + Ideal.ofBits FTy.f32 0x358637BD#32) * g

theorem pay (h : Vec Ideal S512x4096 .bf16) (w : Vec Ideal S1x1536x4096 .bf16) (g : Vec Ideal S1x1536 .f32) (a : Fin 512) (b : Fin 1536) :
    k0_pay1 h w g (ix2 a b) = norm (fun j => ∑ e : Fin 4096, h (ix2 a e) * w (ix3 0 j e)) b (g (ix2 0 b)) := by
  pointwise [k0_pay1, norm]

theorem ref_dot (x0 : Vec Ideal S8192x4096 .bf16) (x1 : Vec Ideal S2x14720x4096 .bf16) (r : Fin 8192) (j : Fin 1536) :
    val_main_v4 (F := Ideal) x0 x1 (ix2 r j) = ∑ e : Fin 4096, x0 (ix2 r e) * x1 (ix3 0 ⟨4608 + j.val, by omega⟩ e) := by
  unfold val_main_v4 val_main_v3 val_main_v2 val_main_v1 val_main_v0
  pointwise

theorem ref (x0 : Vec Ideal S8192x4096 .bf16) (x1 : Vec Ideal S2x14720x4096 .bf16) (x2 : Vec Ideal S1536 .f32) (r : Fin 8192) (j : Fin 1536) :
    val_main_v18 (F := Ideal) x0 x1 x2 (ix2 r j) = norm (fun k => val_main_v4 (F := Ideal) x0 x1 (ix2 r k)) j (x2 (ix1 j)) := by
  unfold val_main_v18 val_main_v17 val_main_v16 val_main_v15 val_main_v14 val_main_v13 val_main_v12 val_main_v11 val_main_v10 val_main_v9 val_main_v8
    val_main_v7 val_main_v6 val_main_v5 val_main_cst val_main_cst_0 val_main_cst_1
  generalize val_main_v4 (F := Ideal) x0 x1 = d
  pointwise [norm]

theorem result : (dats m 0 c).arrAt 3 cfg0.N
    = val_main_v18 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  rw [after0_3]
  unfold outsAt0
  frame_out
  blk_simp [idx3 t]
  obtain ⟨a, b, rfl⟩ : ∃ (a : Fin 512) (b : Fin 1536), y = ix2 a b := ⟨⟨(y 0).val, (y 0).isLt⟩, ⟨(y 1).val, (y 1).isLt⟩, by blk_ext⟩
  have c1 : (grid0.coords t 1).val < 16 := (grid0.coords t 1).isLt
  have he : (win0_3.blk t).view.emb (ix2 a b) = ix2 ⟨512 * (grid0.coords t 1).val + a.val, by omega⟩ b := by
    blk_ext [idx3 t]
  rw [he, ref, pay]
  simp only [ref_dot]
  refine congrArg₂ (fun d g => norm d b g) (funext fun j => Finset.sum_congr rfl fun e _ => congrArg₂ (fun p q : EReal => p * q) ?_ ?_) (blk2 m c t b)
  · blk_ext [iblk, V_main_arg0, idx0 t]
  · exact blk1 m c t _ _ rfl rfl rfl

end Cert.Latent

end
-- ==== Proof.Norm.lean ====
/- The norm of the layer's input: the kernel's result array is the reference's. -/
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Claim

@[expose] public section

set_option maxRecDepth 16384

noncomputable section

namespace Cert.Norm

open Idealize.ShloMosaic Idealize.ShloMosaic.TcCoe Cert.Kernel8Ideal Cert.Kernel8Ideal.Gen Cert.Reference8Ideal.Read

theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![(grid0.coords t 0).val, 0] := by decide +kernel

variable (m : (ℓ : Loc nD τ sig) → Buf (Elt Ideal) ℓ) (c : Dev nD) (t : Fin cfg0.N)

theorem as_row (x : Vec Ideal S4096 .f32) (b : Fin 4096) : shapeCast S1x4096 x shapeCasts_S4096_S1x4096 (ix2 0 b) = x (ix1 b) :=
  shapeCast_apply x _ (ix2 0 b) (ix1 b) (by rw [Shape.rowMajor_val_one, Shape.rowMajor_val_two]; show b.val = 0 * 4096 + b.val; omega)

/-- The gains, laid out as one row for the call. -/
theorem blk1 (b : Fin 4096) : iblk m c 1 t (ix2 0 b) = m ((c.tc : Thread nD τ).loc main_arg1) (ix1 b) := by
  have e : (win0_1.blk t).view.emb (ix2 0 b) = ix2 0 b := by blk_ext [idx1 t]
  unfold iblk
  entry_read
  show shapeCast S1x4096 (m ((c.tc : Thread nD τ).loc main_arg1)) _ ((win0_1.blk t).view.emb (ix2 0 b)) = _
  rw [e]
  exact as_row (m ((c.tc : Thread nD τ).loc main_arg1)) b

/-- One entry of a row normed by its mean square, times its gain. -/
def norm (d : Fin 4096 → EReal) (b : Fin 4096) (g : EReal) : EReal :=
  d b * Ideal.rsqrt (Ideal.div (∑ j, d j * d j) (Ideal.ofBits FTy.f32 0x45800000#32) + Ideal.ofBits FTy.f32 0x358637BD#32) * g

theorem pay (x : Vec Ideal S256x4096 .f32) (g : Vec Ideal S1x4096 .f32) (a : Fin 256) (b : Fin 4096) :
    k0_pay1 x g (ix2 a b) = norm (fun j => x (ix2 a j)) b (g (ix2 0 b)) := by
  pointwise [k0_pay1, norm]

theorem ref (x0 : Vec Ideal S8192x4096 .f32) (x1 : Vec Ideal S4096 .f32) (r : Fin 8192) (j : Fin 4096) :
    val_main_v13 (F := Ideal) x0 x1 (ix2 r j) = norm (fun k => x0 (ix2 r k)) j (x1 (ix1 j)) := by
  unfold val_main_v13 val_main_v12 val_main_v11 val_main_v10 val_main_v9 val_main_v8 val_main_v7 val_main_v6 val_main_v5 val_main_v4 val_main_v3
    val_main_v2 val_main_v1 val_main_v0 val_main_cst val_main_cst_0 val_main_cst_1
  pointwise [norm]

theorem result : (dats m 0 c).arrAt 2 cfg0.N
    = val_main_v13 (F := Ideal) (m ((c.tc : Thread nD τ).loc main_arg0)) (m ((c.tc : Thread nD τ).loc main_arg1)) := by
  refine (dats m 0 c).arrAt_eq_of_covers 2 _ (by decide +kernel) fun t hf y => ?_
  rw [after0_2]
  unfold out0_2
  frame_out
  blk_simp [idx2 t]
  obtain ⟨a, b, rfl⟩ : ∃ (a : Fin 256) (b : Fin 4096), y = ix2 a b := ⟨⟨(y 0).val, (y 0).isLt⟩, ⟨(y 1).val, (y 1).isLt⟩, by blk_ext⟩
  have c0 : (grid0.coords t 0).val < 32 := (grid0.coords t 0).isLt
  have he : (win0_2.blk t).view.emb (ix2 a b) = ix2 ⟨256 * (grid0.coords t 0).val + a.val, by omega⟩ b := by
    blk_ext [idx2 t]
  rw [he, ref, pay]
  refine congrArg₂ (fun d g => norm d b g) (funext fun j => ?_) (blk1 m c t b)
  blk_ext [iblk, V_main_arg0, idx0 t]

end Cert.Norm

end
-- ==== Proof.Small.lean ====
/- The projection that gives the latent keys and values, the forget gates' logits and the keys' part to be rotated: both result arrays
are the reference's. -/
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Claim

@[expose] public section

set_option maxRecDepth 16384

noncomputable section

namespace Cert.Small

open Idealize.ShloMosaic Idealize.ShloMosaic.TcCoe Cert.Kernel9Ideal Cert.Kernel9Ideal.Gen Cert.Reference9Ideal.Read

theorem idx0 : ∀ t : Fin cfg0.N, win0_0.index t = ![(grid0.coords t 1).val, 0] := by decide +kernel
theorem idx1 : ∀ t : Fin cfg0.N, win0_1.index t = ![0, 0, 0] := by decide +kernel
theorem idx2 : ∀ t : Fin cfg0.N, win0_2.index t = ![0, 0] := by decide +kernel
theorem idx3 : ∀ t : Fin cfg0.N, win0_3.index t = ![(grid0.coords t 1).val, 0] := by decide +kernel
theorem idx4 : ∀ t : Fin cfg0.N, win0_4.index t = ![(grid0.coords t 1).val, 0] := by decide +kernel

variable (m : (ℓ : Loc nD τ sig) → Buf (Elt Ideal) ℓ) (c : Dev nD) (t : Fin cfg0.N)

/-- The weights' row that an output column takes, by its place in the joined weights: `none` for the columns of zeros. -/
def row (b : ℕ) : Option (Fin 14720) :=
  if b < 512 then some ⟨14080 + b % 512, by omega⟩
  else if b < 524 then some ⟨14656 + (b - 512) % 12, by omega⟩
  else if b < 640 then none
  else if b < 672 then some ⟨14592 + (b - 640) % 32, by omega⟩
  else if b < 704 then none
  else if b < 736 then some ⟨14624 + (b - 704) % 32, by omega⟩
  else none

/-- An entry of the joined weights. -/
def weight (w : Vec Ideal S2x14720x4096 .bf16) (b : ℕ) (e : Fin 4096) : EReal :=
  match row b with
  | some r => w (ix3 0 r e)
  | none => 0

theorem read1 (f : S1x768x4096.Idx → EReal) (b : Fin 768) (e : Fin 4096) :
    View.read (Elt Ideal) ((cfg0.win 1).blk t).view f (ix3 0 b e) = f (ix3 0 b e) := by
  have h : (win0_1.blk t).view.emb (ix3 0 b e) = ix3 0 b e := by blk_ext [idx1 t]
  exact congrArg f h

/-- What an operation joining seven arrays leaves in its result, each operand at its own reference. -/
theorem joined7 {x0 x1 x2 x3 x4 x5 x6 y : Ref sig .tc}
    (f : ((k : Fin 7) → ((![x0, x1, x2, x3, x4, x5, x6] : Fin 7 → Ref sig .tc) k).ty.Contents (Elt Ideal)) → y.ty.Contents (Elt Ideal)) (hxs hy)
    (G : Valuation τ sig (Elt Ideal)) :
    (StableHlo.nary (τ := τ) ![x0, x1, x2, x3, x4, x5, x6] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (fun i => i.elim0)))))))) := by
  rw [StableHlo.nary_result]
  refine congrArg f (funext fun k => ?_)
  fin_cases k <;> rfl

/-- The joined weights as the host lays them out: the latents' rows, the forget gates' rows, zeros, and the two halves of the rotated
rows, each followed by zeros. -/
def host (w : Vec Ideal S2x14720x4096 .bf16) : Vec Ideal S1x768x4096 .bf16 :=
  broadcastInDim S1x768x4096 ![1, 2] bcast_S768x4096_S1x768x4096_1_2
    (concatenate S768x4096 0
      [⟨S512x4096, shapeCast S512x4096 (extractStridedSlice S1x512x4096 ![0, 14080, 0] w slices_S2x14720x4096_S1x512x4096_0_14080_0) shapeCasts_S1x512x4096_S512x4096⟩,
        ⟨S12x4096, shapeCast S12x4096 (extractStridedSlice S1x12x4096 ![0, 14656, 0] w slices_S2x14720x4096_S1x12x4096_0_14656_0) shapeCasts_S1x12x4096_S12x4096⟩,
        ⟨S116x4096, broadcastInDim S116x4096 ![] bcast_S_S116x4096 (constant (F := Ideal) S_ .bf16 0x0000#16 : Vec Ideal S_ .bf16)⟩,
        ⟨S32x4096, extractStridedSlice S32x4096 ![0, 0] (shapeCast S64x4096 (extractStridedSlice S1x64x4096 ![0, 14592, 0] w slices_S2x14720x4096_S1x64x4096_0_14592_0) shapeCasts_S1x64x4096_S64x4096) slices_S64x4096_S32x4096_0_0⟩,
        ⟨S32x4096, broadcastInDim S32x4096 ![] bcast_S_S32x4096 (constant (F := Ideal) S_ .bf16 0x0000#16 : Vec Ideal S_ .bf16)⟩,
        ⟨S32x4096, extractStridedSlice S32x4096 ![32, 0] (shapeCast S64x4096 (extractStridedSlice S1x64x4096 ![0, 14592, 0] w slices_S2x14720x4096_S1x64x4096_0_14592_0) shapeCasts_S1x64x4096_S64x4096) slices_S64x4096_S32x4096_32_0⟩,
        ⟨S32x4096, broadcastInDim S32x4096 ![] bcast_S_S32x4096 (constant (F := Ideal) S_ .bf16 0x0000#16 : Vec Ideal S_ .bf16)⟩]
      concatenates_S512x4096_S12x4096_S116x4096_S32x4096_S32x4096_S32x4096_S32x4096_S768x4096_d0)

set_option maxHeartbeats 4000000 in
theorem V_host : V m c main_v11 = host (m ((c.tc : Thread nD τ).loc main_arg1)) := by
  unfold V hostOps0
  simp (disch := decide) only [StableHlo.after_cons, StableHlo.after_nil, StableHlo.nullary_result', StableHlo.unary_result',
    StableHlo.reshape_result', joined7, StableHlo.nullary_result_ne', StableHlo.unary_result_ne', StableHlo.reshape_result_ne',
    StableHlo.nary_result_ne']
  rfl

theorem blk1 (b : Fin 768) (e : Fin 4096) : iblk m c 1 t (ix3 0 b e) = weight (m ((c.tc : Thread nD τ).loc main_arg1)) b.val e := by
  unfold iblk
  show View.read (Elt Ideal) ((cfg0.win 1).blk t).view (V m c main_v11) (ix3 0 b e) = _
  rw [V_host, read1]
  generalize m ((c.tc : Thread nD τ).loc main_arg1) = w
  unfold host
  pointwise
  have some' : ∀ k k' : Fin 14720, row b.val = some k' → k.val = k'.val → w (ix3 0 k e) = weight w b.val e := fun k k' h hk => by
    obtain rfl := Fin.ext hk
    simp only [weight, h]
  have none' : row b.val = none → 0 = weight w b.val e := fun h => by simp only [weight, h]
  by_cases h0 : b.val < 512
  · rw [dif_pos h0]
    exact some' _ ⟨14080 + b.val % 512, by omega⟩ (by unfold row; rw [if_pos (by omega)]) (by dsimp only; omega)
  rw [dif_neg h0]
  by_cases h1 : b.val - 512 < 12
  · rw [dif_pos h1]
    exact some' _ ⟨14656 + (b.val - 512) % 12, by omega⟩ (by unfold row; rw [if_neg (by omega), if_pos (by omega)]) (by dsimp only; omega)
  rw [dif_neg h1]
  by_cases h2 : b.val - 512 - 12 < 116
  · rw [dif_pos h2]
    exact none' (by unfold row; rw [if_neg (by omega), if_neg (by omega), if_pos (by omega)])
  rw [dif_neg h2]
  by_cases h3 : b.val - 512 - 12 - 116 < 32
  · rw [dif_pos h3]
    exact some' _ ⟨14592 + (b.val - 640) % 32, by omega⟩
      (by unfold row; rw [if_neg (by omega), if_neg (by omega), if_neg (by omega), if_pos (by omega)]) (by dsimp only; omega)
  rw [dif_neg h3]
  by_cases h4 : b.val - 512 - 12 - 116 - 32 < 32
  · rw [dif_pos h4]
    exact none' (by unfold row; rw [if_neg (by omega), if_neg (by omega), if_neg (by omega), if_neg (by omega), if_pos (by omega)])
  rw [dif_neg h4]
  by_cases h5 : b.val - 512 - 12 - 116 - 32 - 32 < 32
  · rw [dif_pos h5]
    exact some' _ ⟨14624 + (b.val - 704) % 32, by omega⟩
      (by unfold row; rw [if_neg (by omega), if_neg (by omega), if_neg (by omega), if_neg (by omega), if_neg (by omega), if_pos (by omega)])
      (by dsimp only; omega)
  rw [dif_neg h5]
  exact none' (by unfold row; rw [if_neg (by omega), if_neg (by omega), if_neg (by omega), if_neg (by omega), if_neg (by omega), if_neg (by omega)])

/-- The row's gains, laid out as one row for the call. -/
theorem blk2 (b : Fin 512) : iblk m c 2 t (ix2 0 b) = m ((c.tc : Thread nD τ).loc main_arg2) (ix1 b) := by
  have e : (win0_2.blk t).view.emb (ix2 0 b) = ix2 0 b := by blk_ext [idx2 t]
  unfold iblk
  entry_read
  show broadcastInDim S1x512 ![1] bcast_S512_S1x512_1 (m ((c.tc : Thread nD τ).loc main_arg2)) ((win0_2.blk t).view.emb (ix2 0 b)) = _
  rw [e]
  pointwise

/-- One entry of a row normed by its mean square, times its gain. -/
def norm (d : Fin 512 → EReal) (b : Fin 512) (g : EReal) : EReal :=
  d b * Ideal.rsqrt (Ideal.div (∑ j, d j * d j) (Ideal.ofBits FTy.f32 0x44000000#32) + Ideal.ofBits FTy.f32 0x358637BD#32) * g

theorem pay1 (h : Vec Ideal S512x4096 .bf16) (w : Vec Ideal S1x768x4096 .bf16) (a : Fin 512) (b : Fin 768) :
    k0_pay1 h w (ix2 a b) = ∑ e : Fin 4096, h (ix2 a e) * w (ix3 0 b e) := by
  pointwise [k0_pay1]

theorem pay2 (h : Vec Ideal S512x4096 .bf16) (w : Vec Ideal S1x768x4096 .bf16) (g : Vec Ideal S1x512 .f32) (a b : Fin 512) :
    k0_pay2 h w g (ix2 a b) = norm (fun j => ∑ e : Fin 4096, h (ix2 a e) * w (ix3 0 ⟨j.val, by omega⟩ e)) b (g (ix2 0 b)) := by
  have e1 : (fun j : Fin 512 => ∑ e : Fin 4096, h (ix2 a e) * w (ix3 0 ⟨j.val, by omega⟩ e)) = fun j => k0_pay1 h w (ix2 a ⟨j.val, by omega⟩) :=
    funext fun j => (pay1 h w a ⟨j.val, by omega⟩).symm
  rw [e1]
  unfold k0_pay2
  generalize k0_pay1 h w = d
  pointwise [norm]

theorem pay3 (h : Vec Ideal S512x4096 .bf16) (w : Vec Ideal S1x768x4096 .bf16) (a : Fin 512) (b : Fin 256) :
    k0_pay3 h w (ix2 a b) = ∑ e : Fin 4096, h (ix2 a e) * w (ix3 0 ⟨512 + b.val, by omega⟩ e) := by
  rw [← pay1]
  unfold k0_pay3
  generalize k0_pay1 h w = d
  pointwise

theorem ref_dot (x0 : Vec Ideal S8192x4096 .bf16) (x1 : Vec Ideal S2x14720x4096 .bf16) (r : Fin 8192) (j : Fin 512) :
    val_main_v5 (F := Ideal) x0 x1 (ix2 r j) = ∑ e : Fin 4096, x0 (ix2 r e) * x1 (ix3 0 ⟨14080 + j.val, by omega⟩ e) := by
  unfold val_main_v5 val_main_v4 val_main_v3 val_main_v2 val_main_v1 val_main_v0
  pointwise

theorem ref_rope (x0 : Vec Ideal S8192x4096 .bf16) (x1 : Vec Ideal S2x14720x4096 .bf16) (r : Fin 8192) (j : Fin 64) :
    val_main_v21 (F := Ideal) x0 x1 (ix2 r j) = ∑ e : Fin 4096, x0 (ix2 r e) * x1 (ix3 0 ⟨14592 + j.val, by omega⟩ e) := by
  unfold val_main_v21 val_main_v20 val_main_v3 val_main_v2 val_main_v1 val_main_v0
  pointwise

theorem ref_forget (x0 : Vec Ideal S8192x4096 .bf16) (x1 : Vec Ideal S2x14720x4096 .bf16) (r : Fin 8192) (j : Fin 12) :
    val_main_v23 (F := Ideal) x0 x1 (ix2 r j) = ∑ e : Fin 4096, x0 (ix2 r e) * x1 (ix3 0 ⟨14656 + j.val, by omega⟩ e) := by
  unfold val_main_v23 val_main_v22 val_main_v3 val_main_v2 val_main_v1 val_main_v0
  pointwise

theorem ref_ckv (x0 : Vec Ideal S8192x4096 .bf16) (x1 : Vec Ideal S2x14720x4096 .bf16) (x2 : Vec Ideal S512 .f32) (r : Fin 8192) (j : Fin 512) :
    val_main_v19 (F := Ideal) x0 x1 x2 (ix2 r j) = norm (fun k => val_main_v5 (F := Ideal) x0 x1 (ix2 r k)) j (x2 (ix1 j)) := by
  unfold val_main_v19 val_main_v18 val_main_v17 val_main_v16 val_main_v15 val_main_v14 val_main_v13 val_main_v12 val_main_v11 val_main_v10 val_main_v9 val_main_v8
    val_main_v7 val_main_v6 val_main_cst val_main_cst_0 val_main_cst_1
  generalize val_main_v5 (F := Ideal) x0 x1 = d
  pointwise [norm]

theorem ref_small (x0 : Vec Ideal S8192x4096 .bf16) (x1 : Vec Ideal S2x14720x4096 .bf16) (r : Fin 8192) (j : Fin 256) :
    val_main_v28 (F := Ideal) x0 x1 (ix2 r j) = ∑ e : Fin 4096, x0 (ix2 r e) * weight x1 (512 + j.val) e := by
  unfold val_main_v28 val_main_v27 val_main_v26 val_main_v25 val_main_v24 val_main_cst_2 val_main_cst_3
  pointwise
  simp only [ref_rope, ref_forget]
  have none' : ∀ b : ℕ, row b = none → 0 = ∑ e : Fin 4096, x0 (ix2 r e) * weight x1 b e := fun b h => by
    simp only [weight, h, mul_zero, Finset.sum_const_zero]
  have some' : ∀ (b : ℕ) (k k' : Fin 14720), row b = some k' → k.val = k'.val →
      (∑ e : Fin 4096, x0 (ix2 r e) * x1 (ix3 0 k e)) = ∑ e : Fin 4096, x0 (ix2 r e) * weight x1 b e := fun b k k' h hk => by
    obtain rfl := Fin.ext hk
    simp only [weight, h]
  by_cases h1 : j.val < 12
  · rw [dif_pos h1]
    exact some' _ _ ⟨14656 + (512 + j.val - 512) % 12, by omega⟩ (by unfold row; rw [if_neg (by omega), if_pos (by omega)]) (by dsimp only; omega)
  rw [dif_neg h1]
  by_cases h2 : j.val - 12 < 116
  · rw [dif_pos h2]
    exact none' _ (by unfold row; rw [if_neg (by omega), if_neg (by omega), if_pos (by omega)])
  rw [dif_neg h2]
  by_cases h3 : j.val - 12 - 116 < 32
  · rw [dif_pos h3]
    exact some' _ _ ⟨14592 + (512 + j.val - 640) % 32, by omega⟩
      (by unfold row; rw [if_neg (by omega), if_neg (by omega), if_neg (by omega), if_pos (by omega)]) (by dsimp only; omega)
  rw [dif_neg h3]
  by_cases h4 : j.val - 12 - 116 - 32 < 32
  · rw [dif_pos h4]
    exact none' _ (by unfold row; rw [if_neg (by omega), if_neg (by omega), if_neg (by omega), if_neg (by omega), if_pos (by omega)])
  rw [dif_neg h4]
  by_cases h5 : j.val - 12 - 116 - 32 - 32 < 32
  · rw [dif_pos h5]
    exact some' _ _ ⟨14624 + (512 + j.val - 704) % 32, by omega⟩
      (by unfold row; rw [if_neg (by omega), if_neg (by omega), if_neg (by omega), if_neg (by omega), if_neg (by omega), if_pos (by omega)])
      (by dsimp only; omega)
  rw [dif_neg h5]
  exact none' _ (by unfold row; rw [if_neg (by omega), if_neg (by omega), if_neg (by omega), if_neg (by omega), if_neg (by omega), if_neg (by omega)])

/-- The weight of a column of the latents. -/
theorem weight_ckv (w : Vec Ideal S2x14720x4096 .bf16) (j : Fin 512) (e : Fin 4096) : weight w j.val e = w (ix3 0 ⟨14080 + j.val, by omega⟩ e) := by
  have h : row j.val = some ⟨14080 + j.val, by omega⟩ := by
    unfold row
    rw [if_pos j.isLt]
    exact congrArg some (Fin.ext (by dsimp only; omega))
  simp only [weight, h]

theorem result_ckv : (dats m 0 c).arrAt 3 cfg0.N
    = val_main_v19 (F := Ideal) (m ((c.tc : Thread nD τ).loc main_arg0)) (m ((c.tc : Thread nD τ).loc main_arg1))
      (m ((c.tc : Thread nD τ).loc main_arg2)) := by
  refine (dats m 0 c).arrAt_eq_of_covers 3 _ (by decide +kernel) fun t hf y => ?_
  rw [after0_3]
  unfold out0_3
  frame_out
  blk_simp [idx3 t]
  obtain ⟨a, b, rfl⟩ : ∃ (a : Fin 512) (b : Fin 512), y = ix2 a b := ⟨⟨(y 0).val, (y 0).isLt⟩, ⟨(y 1).val, (y 1).isLt⟩, by blk_ext⟩
  have c1 : (grid0.coords t 1).val < 16 := (grid0.coords t 1).isLt
  have he : (win0_3.blk t).view.emb (ix2 a b) = ix2 ⟨512 * (grid0.coords t 1).val + a.val, by omega⟩ b := by
    blk_ext [idx3 t]
  rw [he, ref_ckv, pay2]
  refine congrArg₂ (fun d g => norm d b g) (funext fun j => ?_) (blk2 m c t b)
  rw [ref_dot]
  refine Finset.sum_congr rfl fun e _ => congrArg₂ (fun p q : EReal => p * q) ?_ ?_
  · blk_ext [iblk, V_main_arg0, idx0 t]
  · rw [blk1]
    exact weight_ckv _ j e

theorem result_small : (dats m 0 c).arrAt 4 cfg0.N
    = val_main_v28 (F := Ideal) (m ((c.tc : Thread nD τ).loc main_arg0)) (m ((c.tc : Thread nD τ).loc main_arg1)) := by
  refine (dats m 0 c).arrAt_eq_of_covers 4 _ (by decide +kernel) fun t hf y => ?_
  rw [after0_4]
  unfold out0_4
  frame_out
  blk_simp [idx4 t]
  obtain ⟨a, b, rfl⟩ : ∃ (a : Fin 512) (b : Fin 256), y = ix2 a b := ⟨⟨(y 0).val, (y 0).isLt⟩, ⟨(y 1).val, (y 1).isLt⟩, by blk_ext⟩
  have c1 : (grid0.coords t 1).val < 16 := (grid0.coords t 1).isLt
  have he : (win0_4.blk t).view.emb (ix2 a b) = ix2 ⟨512 * (grid0.coords t 1).val + a.val, by omega⟩ b := by
    blk_ext [idx4 t]
  rw [he, ref_small, pay3]
  change @Eq EReal _ _
  refine Finset.sum_congr rfl fun e _ => congrArg₂ (fun p q : EReal => p * q) ?_ ?_
  · blk_ext [iblk, V_main_arg0, idx0 t]
  · exact blk1 m c t _ e

end Cert.Small

end
-- ==== Proof.Lanes.lean ====
/- The call that prepares the latent queries, keys and values: how its weights, gains and angles are laid out over 256 lanes. -/
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit
public import Idealize.ShloMosaic.Lib.Claim

@[expose] public section

set_option maxRecDepth 16384

noncomputable section

namespace Cert.Prep

open Idealize.ShloMosaic Idealize.ShloMosaic.TcCoe Cert.Kernel10Ideal Cert.Kernel10Ideal.Gen Cert.Reference10Ideal.Read

/-! ## 192 entries spread over 256 lanes -/

/-- 192 entries over 256 lanes: 128 and the first 32 of the rotated part in place, 32 zeros, the other 32, 32 zeros. -/
def spread (f : Fin 192 → EReal) (l : Fin 256) : EReal :=
  if h : l.val < 160 then f ⟨l.val, by omega⟩
  else if h : l.val < 192 then 0
  else if h : l.val < 224 then f ⟨l.val - 32, by omega⟩
  else 0

theorem spread_low (f : Fin 192 → EReal) (l : ℕ) (h : l < 160) : spread f ⟨l, by omega⟩ = f ⟨l, by omega⟩ := by
  unfold spread; rw [dif_pos h]

theorem spread_gap (f : Fin 192 → EReal) (l : ℕ) (h : 160 ≤ l) (h' : l < 192) : spread f ⟨l, by omega⟩ = 0 := by
  unfold spread; rw [dif_neg (by dsimp only; omega), dif_pos h']

theorem spread_high (f : Fin 192 → EReal) (l : ℕ) (h : 192 ≤ l) (h' : l < 224) : spread f ⟨l, by omega⟩ = f ⟨l - 32, by omega⟩ := by
  unfold spread; rw [dif_neg (by dsimp only; omega), dif_neg (by dsimp only; omega), dif_pos h']

theorem spread_end (f : Fin 192 → EReal) (l : ℕ) (h : 224 ≤ l) (h' : l < 256) : spread f ⟨l, h'⟩ = 0 := by
  unfold spread; rw [dif_neg (by dsimp only; omega), dif_neg (by dsimp only; omega), dif_neg (by dsimp only; omega)]

/-- Spreading commutes with what sends zeros to zero. -/
theorem spread_map₂ (F : EReal → EReal → EReal) (h0 : F 0 0 = 0) (f g : Fin 192 → EReal) (l : Fin 256) :
    F (spread f l) (spread g l) = spread (fun k => F (f k) (g k)) l := by
  unfold spread
  split_ifs <;> first | rfl | exact h0

/-- The sum over the lanes is the sum over the entries. -/
theorem sum_spread (f : Fin 192 → EReal) : ∑ l, spread f l = ∑ k, f k := by
  have e1 : ∑ l, spread f l = (∑ l : Fin 160, f ⟨l.val, by omega⟩) + ∑ l : Fin 32, f ⟨160 + l.val, by omega⟩ := by
    refine (Fin.sum_univ_add (a := 160) (b := 96) (spread f)).trans (congrArg₂ (fun p q : EReal => p + q) ?_ ?_)
    · exact Finset.sum_congr rfl fun l _ => spread_low f l.val l.isLt
    refine (Fin.sum_univ_add (a := 32) (b := 64) fun l => spread f (Fin.natAdd 160 l)).trans ?_
    rw [Finset.sum_eq_zero (s := Finset.univ (α := Fin 32)) (fun (l : Fin 32) _ => spread_gap f (160 + l.val) (by omega) (by omega)), zero_add]
    refine (Fin.sum_univ_add (a := 32) (b := 32) fun l => spread f (Fin.natAdd 160 (Fin.natAdd 32 l))).trans ?_
    have e2 : ∑ l : Fin 32, spread f (Fin.natAdd 160 (Fin.natAdd 32 (Fin.natAdd 32 l))) = 0 :=
      Finset.sum_eq_zero fun l _ => spread_end f (160 + (32 + (32 + l.val))) (by omega) (by omega)
    refine (congrArg (fun q : EReal => _ + q) e2).trans ((add_zero _).trans (Finset.sum_congr rfl fun l _ => ?_))
    refine (spread_high f (160 + (32 + l.val)) (by omega) (by omega)).trans (congrArg f (Fin.ext ?_))
    show 160 + (32 + l.val) - 32 = 160 + l.val
    omega
  rw [e1]
  exact (Fin.sum_univ_add (a := 160) (b := 32) f).symm

/-- A product with spread columns, summed, is the products' sums spread. -/
theorem sum_mul_spread {n : ℕ} (x : Fin n → EReal) (W : Fin n → Fin 192 → EReal) (l : Fin 256) :
    ∑ e, x e * spread (W e) l = spread (fun k => ∑ e, x e * W e k) l := by
  unfold spread
  split_ifs
  · rfl
  · exact Finset.sum_eq_zero fun e _ => mul_zero _
  · rfl
  · exact Finset.sum_eq_zero fun e _ => mul_zero _

/-! ## The host's layouts -/

/-- What an operation joining four arrays leaves in its result, each operand at its own reference. -/
theorem joined4 {x0 x1 x2 x3 y : Ref sig .tc}
    (g : x0.ty.Contents (Elt Ideal) → x1.ty.Contents (Elt Ideal) → x2.ty.Contents (Elt Ideal) → x3.ty.Contents (Elt Ideal) → y.ty.Contents (Elt Ideal))
    (hxs hy) (G : Valuation τ sig (Elt Ideal)) :
    (StableHlo.nary (τ := τ) ![x0, x1, x2, x3] y (fun u => g (u 0) (u 1) (u 2) (u 3)) hxs hy).result G (no_index (Proc.devRef .tc y))
      = g (G (Proc.devRef .tc x0)) (G (Proc.devRef .tc x1)) (G (Proc.devRef .tc x2)) (G (Proc.devRef .tc x3)) :=
  StableHlo.nary_result ..

/-- 32 zeros. -/
def zeros : Vec Ideal S32 .f32 := broadcastInDim S32 ![] bcast_S_S32 (constant (F := Ideal) S_ .f32 0x00000000#32 : Vec Ideal S_ .f32)

/-- The two halves of 64 entries, each followed by 32 zeros. -/
def halves (a : Vec Ideal S64 .f32) : Vec Ideal S128 .f32 :=
  concatenate S128 0
    [⟨S32, extractStridedSlice S32 ![0] a slices_S64_S32_0⟩, ⟨S32, zeros⟩, ⟨S32, extractStridedSlice S32 ![32] a slices_S64_S32_32⟩, ⟨S32, zeros⟩]
    concatenates_S32_S32_S32_S32_S128_d0

/-- A gain as one row of 256 lanes. -/
def gain (g : Vec Ideal S192 .f32) : Vec Ideal S1x256 .f32 :=
  broadcastInDim S1x256 ![1] bcast_S256_S1x256_1
    (concatenate S256 0
      [⟨S128, extractStridedSlice S128 ![0] g slices_S192_S128_0⟩, ⟨S128, halves (extractStridedSlice S64 ![128] g slices_S192_S64_128)⟩]
      concatenates_S128_S128_S256_d0)

/-- The 32 frequencies. -/
def freq : Vec Ideal S32 .f32 :=
  Host.powf (broadcastInDim S32 ![] bcast_S_S32 (constant (F := Ideal) S_ .f32 0x461C4000#32 : Vec Ideal S_ .f32))
    (Host.divf (Host.negf (sitofp .f32 (iotaInDim S32 32 0)))
      (broadcastInDim S32 ![] bcast_S_S32 (constant (F := Ideal) S_ .f32 0x42000000#32 : Vec Ideal S_ .f32)))

/-- The frequencies as one row of 128 lanes, twice. -/
def freqs : Vec Ideal S1x128 .f32 :=
  broadcastInDim S1x128 ![1] bcast_S128_S1x128_1 (halves (concatenate S64 0 [⟨S32, freq⟩, ⟨S32, freq⟩] concatenates_S32_S32_S64_d0))

/-- 32 ones. -/
def ones : Vec Ideal S32 .f32 := broadcastInDim S32 ![] bcast_S_S32 (constant (F := Ideal) S_ .f32 0x3F800000#32 : Vec Ideal S_ .f32)

/-- The signs as one row of 128 lanes. -/
def signs : Vec Ideal S1x128 .f32 :=
  broadcastInDim S1x128 ![1] bcast_S128_S1x128_1 (halves (concatenate S64 0 [⟨S32, Host.negf (F := Ideal) (φ := .f32) ones⟩, ⟨S32, ones⟩] concatenates_S32_S32_S64_d0))

/-- The zeros between the halves of the queries' weights. -/
def zeros3 : Vec Ideal S1536x10x32 .f32 :=
  broadcastInDim S1536x10x32 ![] bcast_S_S1536x10x32 (constant (F := Ideal) S_ .f32 0x00000000#32 : Vec Ideal S_ .f32)

/-- The queries' weights by head. -/
def heads (w : Vec Ideal S1536x1920 .f32) : Vec Ideal S1536x10x192 .f32 := shapeCast S1536x10x192 w shapeCasts_S1536x1920_S1536x10x192

/-- The rotated part of the queries' weights. -/
def turned (w : Vec Ideal S1536x10x64 .f32) : Vec Ideal S1536x10x128 .f32 :=
  concatenate S1536x10x128 2
    [⟨S1536x10x32, extractStridedSlice S1536x10x32 ![0, 0, 0] w slices_S1536x10x64_S1536x10x32_0_0_0⟩, ⟨S1536x10x32, zeros3⟩,
      ⟨S1536x10x32, extractStridedSlice S1536x10x32 ![0, 0, 32] w slices_S1536x10x64_S1536x10x32_0_0_32⟩, ⟨S1536x10x32, zeros3⟩]
    concatenates_S1536x10x32_S1536x10x32_S1536x10x32_S1536x10x32_S1536x10x128_d2

/-- The queries' weights, laid out over the lanes. -/
def queryWeights (w : Vec Ideal S1536x10x192 .f32) : Vec Ideal S10x1536x256 .bf16 :=
  truncf .bf16 (transpose S10x1536x256 [1, 0, 2]
    (concatenate S1536x10x256 2
      [⟨S1536x10x128, extractStridedSlice S1536x10x128 ![0, 0, 0] w slices_S1536x10x192_S1536x10x128_0_0_0⟩,
        ⟨S1536x10x128, turned (extractStridedSlice S1536x10x64 ![0, 0, 128] w slices_S1536x10x192_S1536x10x64_0_0_128)⟩]
      concatenates_S1536x10x128_S1536x10x128_S1536x10x256_d2 : Vec Ideal S1536x10x256 .f32) transposes_S1536x10x256_S10x1536x256_1_0_2
      : FVec Ideal S10x1536x256 .f32) bitsLt_bf16_f32

variable (m : (ℓ : Loc nD τ sig) → Buf (Elt Ideal) ℓ) (c : Dev nD)

set_option maxHeartbeats 4000000 in
theorem V_freqs : V m c main_v11 = freqs := by
  have j := joined4 (x0 := main_v8) (x1 := main_v7) (x2 := main_v9) (x3 := main_v7) (y := main_v10)
    (fun a b c d => concatenate S128 0 [⟨S32, a⟩, ⟨S32, b⟩, ⟨S32, c⟩, ⟨S32, d⟩] concatenates_S32_S32_S32_S32_S128_d0)
  unfold V hostOps0
  simp (disch := decide) only [StableHlo.after_cons, StableHlo.after_nil, StableHlo.nullary_result', StableHlo.unary_result', StableHlo.binary_result',
    StableHlo.reshape_result', j, StableHlo.nullary_result_ne', StableHlo.unary_result_ne', StableHlo.binary_result_ne', StableHlo.reshape_result_ne',
    StableHlo.nary_result_ne']
  rfl

set_option maxHeartbeats 4000000 in
theorem V_signs : V m c main_v20 = signs := by
  have j := joined4 (x0 := main_v17) (x1 := main_v16) (x2 := main_v18) (x3 := main_v16) (y := main_v19)
    (fun a b c d => concatenate S128 0 [⟨S32, a⟩, ⟨S32, b⟩, ⟨S32, c⟩, ⟨S32, d⟩] concatenates_S32_S32_S32_S32_S128_d0)
  unfold V hostOps0
  simp (disch := decide) only [StableHlo.after_cons, StableHlo.after_nil, StableHlo.nullary_result', StableHlo.unary_result', StableHlo.binary_result',
    StableHlo.reshape_result', j, StableHlo.nullary_result_ne', StableHlo.unary_result_ne', StableHlo.binary_result_ne', StableHlo.reshape_result_ne',
    StableHlo.nary_result_ne']
  rfl

set_option maxHeartbeats 4000000 in
theorem V_gainQ : V m c main_v41 = gain (m ((c.tc : Thread nD τ).loc main_arg6)) := by
  have j := joined4 (x0 := main_v37) (x1 := main_v36) (x2 := main_v38) (x3 := main_v36) (y := main_v39)
    (fun a b c d => concatenate S128 0 [⟨S32, a⟩, ⟨S32, b⟩, ⟨S32, c⟩, ⟨S32, d⟩] concatenates_S32_S32_S32_S32_S128_d0)
  unfold V hostOps0
  simp (disch := decide) only [StableHlo.after_cons, StableHlo.after_nil, StableHlo.nullary_result', StableHlo.unary_result', StableHlo.binary_result',
    StableHlo.reshape_result', j, StableHlo.nullary_result_ne', StableHlo.unary_result_ne', StableHlo.binary_result_ne', StableHlo.reshape_result_ne',
    StableHlo.nary_result_ne']
  rfl

set_option maxHeartbeats 4000000 in
theorem V_gainK : V m c main_v49 = gain (m ((c.tc : Thread nD τ).loc main_arg7)) := by
  have j := joined4 (x0 := main_v45) (x1 := main_v44) (x2 := main_v46) (x3 := main_v44) (y := main_v47)
    (fun a b c d => concatenate S128 0 [⟨S32, a⟩, ⟨S32, b⟩, ⟨S32, c⟩, ⟨S32, d⟩] concatenates_S32_S32_S32_S32_S128_d0)
  unfold V hostOps0
  simp (disch := decide) only [StableHlo.after_cons, StableHlo.after_nil, StableHlo.nullary_result', StableHlo.unary_result', StableHlo.binary_result',
    StableHlo.reshape_result', j, StableHlo.nullary_result_ne', StableHlo.unary_result_ne', StableHlo.binary_result_ne', StableHlo.reshape_result_ne',
    StableHlo.nary_result_ne']
  rfl

set_option maxHeartbeats 4000000 in
theorem V_queries : V m c main_v30 = queryWeights (heads (m ((c.tc : Thread nD τ).loc main_arg4))) := by
  have j := joined4 (x0 := main_v25) (x1 := main_v24) (x2 := main_v26) (x3 := main_v24) (y := main_v27)
    (fun a b c d => concatenate S1536x10x128 2 [⟨S1536x10x32, a⟩, ⟨S1536x10x32, b⟩, ⟨S1536x10x32, c⟩, ⟨S1536x10x32, d⟩] concatenates_S1536x10x32_S1536x10x32_S1536x10x32_S1536x10x32_S1536x10x128_d2)
  unfold V hostOps0
  simp (disch := decide) only [StableHlo.after_cons, StableHlo.after_nil, StableHlo.nullary_result', StableHlo.unary_result', StableHlo.binary_result',
    StableHlo.reshape_result', j, StableHlo.nullary_result_ne', StableHlo.unary_result_ne', StableHlo.binary_result_ne', StableHlo.reshape_result_ne',
    StableHlo.nary_result_ne']
  rfl

/-- What the joins write, lane by lane. -/
theorem chain (f : Fin 192 → EReal) (l : Fin 256) :
    (if h : l.val < 128 then f ⟨l.val, by omega⟩
      else if h1 : l.val - 128 < 32 then f ⟨128 + (l.val - 128), by omega⟩
      else if _h : l.val - 128 - 32 < 32 then 0
      else if h2 : l.val - 128 - 32 - 32 < 32 then f ⟨128 + (32 + (l.val - 128 - 32 - 32)), by omega⟩ else 0) = spread f l := by
  obtain ⟨l, hl⟩ := l
  dsimp only
  by_cases h1 : l < 128
  · rw [dif_pos h1, spread_low f l (by omega)]
  rw [dif_neg h1]
  by_cases h2 : l - 128 < 32
  · rw [dif_pos h2, spread_low f l (by omega)]
    exact congrArg f (Fin.ext (by dsimp only; omega))
  rw [dif_neg h2]
  by_cases h3 : l - 128 - 32 < 32
  · rw [dif_pos h3, spread_gap f l (by omega) (by omega)]
  rw [dif_neg h3]
  by_cases h4 : l - 128 - 32 - 32 < 32
  · rw [dif_pos h4, spread_high f l (by omega) (by omega)]
    exact congrArg f (Fin.ext (by dsimp only; omega))
  rw [dif_neg h4, spread_end f l (by omega)]

theorem gain_apply (g : Vec Ideal S192 .f32) (l : Fin 256) : gain g (ix2 0 l) = spread (fun k => g (ix1 k)) l := by
  unfold gain halves zeros
  pointwise
  exact chain (fun k => g (ix1 k)) l

theorem query_apply (w : Vec Ideal S1536x10x192 .f32) (h : Fin 10) (e : Fin 1536) (l : Fin 256) :
    queryWeights w (ix3 h e l) = spread (fun k => w (ix3 e h k)) l := by
  unfold queryWeights turned zeros3
  pointwise
  exact chain (fun k => w (ix3 e h k)) l

theorem freqs_low (l : Fin 32) : freqs (ix2 0 ⟨l.val, by omega⟩) = freq (ix1 l) := by
  unfold freqs halves zeros
  generalize freq = f
  pointwise

theorem freqs_high (l : Fin 32) : freqs (ix2 0 ⟨64 + l.val, by omega⟩) = freq (ix1 l) := by
  unfold freqs halves zeros
  generalize freq = f
  pointwise
  rw [dif_neg (by omega), dif_neg (by omega), dif_pos (by omega)]
  exact congrArg (fun k => f (ix1 k)) (Fin.ext (by dsimp only; omega))

theorem signs_low (l : Fin 32) : signs (ix2 0 ⟨l.val, by omega⟩) = -1 := by
  unfold signs halves zeros ones
  pointwise

theorem signs_high (l : Fin 32) : signs (ix2 0 ⟨64 + l.val, by omega⟩) = 1 := by
  unfold signs halves zeros ones
  pointwise
  rw [dif_neg (by omega), dif_neg (by omega), dif_pos (by omega)]

/-- The keys' and values' weights, a head at a time. -/
def pairWeights (w : Vec Ideal S512x2560 .f32) : Vec Ideal S10x512x256 .bf16 :=
  truncf .bf16 (transpose S10x512x256 [1, 0, 2] (shapeCast S512x10x256 w shapeCasts_S512x2560_S512x10x256) transposes_S512x10x256_S10x512x256_1_0_2
    : FVec Ideal S10x512x256 .f32) bitsLt_bf16_f32

set_option maxHeartbeats 4000000 in
theorem V_pairs : V m c main_v33 = pairWeights (m ((c.tc : Thread nD τ).loc main_arg5)) := by
  entry_read
  rfl

theorem pair_apply (w : Vec Ideal S512x2560 .f32) (h : Fin 10) (e : Fin 512) (l : Fin 256) :
    pairWeights w (ix3 h e l) = w (ix2 e ⟨h.val * 256 + l.val, by omega⟩) := by
  unfold pairWeights
  pointwise

/-- The positions as a column. -/
def column (p : Vec Ideal S8192 .i32) : Vec Ideal S8192x1 .i32 := shapeCast S8192x1 p shapeCasts_S8192_S8192x1

set_option maxHeartbeats 4000000 in
theorem V_column : V m c main_v50 = column (m ((c.tc : Thread nD τ).loc main_arg3)) := by
  entry_read
  rfl

theorem column_apply (p : Vec Ideal S8192 .i32) (r : Fin 8192) : column p (ix2 r 0) = p (ix1 r) := by
  unfold column
  pointwise

theorem freq_eq : freq = val_main_v7 (F := Ideal) := rfl

theorem heads_apply (w : Vec Ideal S1536x1920 .f32) (e : Fin 1536) (h : Fin 10) (k : Fin 192) :
    heads w (ix3 e h k) = w (ix2 e ⟨h.val * 192 + k.val, by omega⟩) := by
  unfold heads
  pointwise

end Cert.Prep

end
-- ==== Proof.Prep.lean ====
/- The call that prepares the latent queries, keys and values. -/
module

public import proofs.«01_k».proof.Proof.Lanes
public import Idealize.ShloMosaic.Lib.Pointwise
public import Idealize.ShloMosaic.Lib.Pipeline.ValueKit
public import Idealize.ShloMosaic.Lib.Claim

@[expose] public section

set_option maxRecDepth 16384

noncomputable section

namespace Cert.Prep

open Idealize.ShloMosaic Idealize.ShloMosaic.TcCoe Cert.Kernel10Ideal Cert.Kernel10Ideal.Gen Cert.Reference10Ideal.Read

theorem idx0 : ∀ t : Fin cfg0.N, win0_0.index t = ![(grid0.coords t 0).val, 0] := by decide +kernel
theorem idx1 : ∀ t : Fin cfg0.N, win0_1.index t = ![(grid0.coords t 0).val, 0] := by decide +kernel
theorem idx2 : ∀ t : Fin cfg0.N, win0_2.index t = ![(grid0.coords t 0).val, 1] := by decide +kernel
theorem idx3 : ∀ t : Fin cfg0.N, win0_3.index t = ![(grid0.coords t 0).val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![(grid0.coords t 0).val, 0] := by decide +kernel
theorem idx11 : ∀ t : Fin cfg0.N, win0_11.index t = ![(grid0.coords t 0).val, 0] := by decide +kernel
theorem idx12 : ∀ t : Fin cfg0.N, win0_12.index t = ![(grid0.coords t 0).val, 0] := by decide +kernel

/-! ## A row over the lanes -/

/-- The rotated part of a normalised row over its 128 lanes. -/
def rot (n : Fin 192 → EReal) (C S : Fin 32 → EReal) (l : Fin 128) : EReal :=
  if h : l.val < 32 then n ⟨128 + l.val, by omega⟩ * C ⟨l.val, h⟩ - n ⟨160 + l.val, by omega⟩ * S ⟨l.val, h⟩
  else if _h : l.val - 32 < 32 then 0
  else if h : l.val - 32 - 32 < 32 then
    n ⟨160 + (l.val - 32 - 32), by omega⟩ * C ⟨l.val - 32 - 32, h⟩ + n ⟨128 + (l.val - 32 - 32), by omega⟩ * S ⟨l.val - 32 - 32, h⟩
  else 0

/-- A normalised row over its 256 lanes, its second half rotated. -/
def mix (n : Fin 192 → EReal) (C S : Fin 32 → EReal) (l : Fin 256) : EReal :=
  if h : l.val < 128 then n ⟨l.val, by omega⟩ else rot n C S ⟨l.val - 128, by omega⟩

theorem mix_low (n : Fin 192 → EReal) (C S : Fin 32 → EReal) (l : Fin 128) : mix n C S ⟨l.val, by omega⟩ = n ⟨l.val, by omega⟩ := by
  unfold mix; rw [dif_pos l.isLt]

theorem mix_high (n : Fin 192 → EReal) (C S : Fin 32 → EReal) (l : Fin 128) : mix n C S ⟨128 + l.val, by omega⟩ = rot n C S l := by
  unfold mix; rw [dif_neg (by dsimp only; omega)]
  exact congrArg (rot n C S) (Fin.ext (by dsimp only; omega))

/-- The row times the cosines plus the row turned by 64 lanes times the signed sines. -/
theorem rot_spread (n : Fin 192 → EReal) (C S : Fin 32 → EReal) (c s : Fin 128 → EReal)
    (c0 : ∀ l : Fin 32, c ⟨l.val, by omega⟩ = C l) (c1 : ∀ l : Fin 32, c ⟨64 + l.val, by omega⟩ = C l)
    (s0 : ∀ l : Fin 32, s ⟨l.val, by omega⟩ = S l * -1) (s1 : ∀ l : Fin 32, s ⟨64 + l.val, by omega⟩ = S l * 1) (l : Fin 128) :
    spread n ⟨128 + l.val, by omega⟩ * c l + spread n ⟨128 + (l.val + 128 - 64) % 128, by omega⟩ * s l = rot n C S l := by
  obtain ⟨l, hl⟩ := l
  unfold rot
  dsimp only
  by_cases h1 : l < 32
  · have e : (⟨128 + (l + 128 - 64) % 128, by omega⟩ : Fin 256) = ⟨192 + l, by omega⟩ := Fin.ext (by dsimp only; omega)
    have f : (⟨192 + l - 32, by omega⟩ : Fin 192) = ⟨160 + l, by omega⟩ := Fin.ext (by dsimp only; omega)
    rw [dif_pos h1, e, spread_low n (128 + l) (by omega), spread_high n (192 + l) (by omega) (by omega), f, c0 ⟨l, h1⟩, s0 ⟨l, h1⟩,
      mul_neg, mul_one, mul_neg, sub_eq_add_neg]
  rw [dif_neg h1]
  by_cases h2 : l - 32 < 32
  · have e : (⟨128 + (l + 128 - 64) % 128, by omega⟩ : Fin 256) = ⟨192 + l, by omega⟩ := Fin.ext (by dsimp only; omega)
    rw [dif_pos h2, e, spread_gap n (128 + l) (by omega) (by omega), spread_end n (192 + l) (by omega) (by omega), zero_mul, zero_mul, add_zero]
  rw [dif_neg h2]
  by_cases h3 : l - 32 - 32 < 32
  · have e : (⟨128 + (l + 128 - 64) % 128, by omega⟩ : Fin 256) = ⟨128 + (l - 32 - 32), by omega⟩ := Fin.ext (by dsimp only; omega)
    have f : (⟨128 + l - 32, by omega⟩ : Fin 192) = ⟨160 + (l - 32 - 32), by omega⟩ := Fin.ext (by dsimp only; omega)
    have k : (⟨l, hl⟩ : Fin 128) = ⟨64 + (l - 32 - 32), by omega⟩ := Fin.ext (by dsimp only; omega)
    rw [dif_pos h3, e, spread_low n (128 + (l - 32 - 32)) (by omega), spread_high n (128 + l) (by omega) (by omega), f,
      (congrArg c k).trans (c1 ⟨l - 32 - 32, h3⟩), (congrArg s k).trans (s1 ⟨l - 32 - 32, h3⟩), mul_one]
  · have e : (⟨128 + (l + 128 - 64) % 128, by omega⟩ : Fin 256) = ⟨128 + (l - 64), by omega⟩ := Fin.ext (by dsimp only; omega)
    rw [dif_neg h3, e, spread_end n (128 + l) (by omega) (by omega), spread_gap n (128 + (l - 64)) (by omega) (by omega), zero_mul, zero_mul, add_zero]

/-- The reciprocal root of a sum of squares' mean over 192. -/
def root (ss : EReal) : EReal :=
  Ideal.rsqrt (Ideal.div ss (Ideal.ofBits .f32 0x43400000#32) + Ideal.ofBits .f32 0x358637BD#32)

/-- A row normalised: times the root, times the gain. -/
def normed (q : Fin 192 → EReal) (R : EReal) (G : Fin 192 → EReal) (k : Fin 192) : EReal := q k * R * G k

theorem inv_mul (x : EReal) : x * (Named.named κ "inv" (φ := .f32) 0x3BAAAAAB#32 : Ideal .f32) = Ideal.div x (Ideal.ofBits .f32 0x43400000#32) := by
  rw [IdealRules.named_const.ideal_named_scalar _ _ _ _ rfl,
    show Ideal.ofBits FTy.f32 0x43400000#32 = ((192 : ℝ) : EReal) by simp [Ideal.ofBits, Ideal.ieee, -EReal.coe_mul]; norm_num,
    Ideal.div_coe (by norm_num)]

/-! ## The queries -/

/-- A head's row of the queries over the lanes, before the rotation. -/
theorem query_row (x0 : Vec Ideal S256x1536 .bf16) (g : Vec Ideal S1x256 .f32) (w : Vec Ideal S1x1536x256 .bf16) (a : Fin 256)
    (q G : Fin 192 → EReal) (hq : ∀ l : Fin 256, ∑ e : Fin 1536, x0 (ix2 a e) * w (ix3 0 e l) = spread q l)
    (hg : ∀ l : Fin 256, g (ix2 0 l) = spread G l) (l : Fin 256) :
    k0_pay105 x0 g w (ix2 a l) = spread (normed q (root (∑ k, q k * q k)) G) l := by
  pointwise [k0_pay105]
  simp only [hq, hg, inv_mul]
  have e : ∑ k, spread q k * spread q k = ∑ k, q k * q k := by
    rw [← sum_spread fun k => q k * q k]
    exact Finset.sum_congr rfl fun k _ => spread_map₂ (fun a b => a * b) (zero_mul _) q q k
  rw [e]
  exact spread_map₂ (fun a b => a * root (∑ k, q k * q k) * b) (mul_zero _) q G l

theorem query_low (x0 : Vec Ideal S256x1536 .bf16) (g : Vec Ideal S1x256 .f32) (w : Vec Ideal S1x1536x256 .bf16) (a : Fin 256) (l : Fin 128) :
    k0_pay106 x0 g w (ix2 a l) = k0_pay105 x0 g w (ix2 a ⟨l.val, by omega⟩) * Ideal.ofBits .f32 0x3DD53B95#32 := by
  unfold k0_pay106
  generalize k0_pay105 x0 g w = d
  pointwise

theorem query_turned (x0 : Vec Ideal S256x1536 .bf16) (c s : Vec Ideal S256x128 .f32) (g : Vec Ideal S1x256 .f32) (w : Vec Ideal S1x1536x256 .bf16)
    (a : Fin 256) (l : Fin 128) :
    k0_pay107 x0 c s g w (ix2 a l)
      = (k0_pay105 x0 g w (ix2 a ⟨128 + l.val, by omega⟩) * c (ix2 a l)
        + k0_pay105 x0 g w (ix2 a ⟨128 + (l.val + 128 - 64) % 128, by omega⟩) * s (ix2 a l)) * Ideal.ofBits .f32 0x3DD53B95#32 := by
  unfold k0_pay107
  generalize k0_pay105 x0 g w = d
  pointwise

/-! ## The keys -/

/-- A head's row of the keys: its own 128, then the shared rotated part's two halves. -/
def keys (kv sm : Fin 128 → EReal) (k : Fin 192) : EReal :=
  if h : k.val < 128 then kv ⟨k.val, h⟩ else if h : k.val < 160 then sm ⟨k.val - 128, by omega⟩ else sm ⟨k.val - 96, by omega⟩

theorem keys_low (kv sm : Fin 128 → EReal) (k : ℕ) (h : k < 128) : keys kv sm ⟨k, by omega⟩ = kv ⟨k, h⟩ := by
  unfold keys; rw [dif_pos h]

theorem keys_mid (kv sm : Fin 128 → EReal) (k : ℕ) (h : k < 32) : keys kv sm ⟨128 + k, by omega⟩ = sm ⟨k, by omega⟩ := by
  unfold keys; rw [dif_neg (by dsimp only; omega), dif_pos (by dsimp only; omega)]
  exact congrArg sm (Fin.ext (by dsimp only; omega))

theorem keys_high (kv sm : Fin 128 → EReal) (k : ℕ) (h : k < 32) : keys kv sm ⟨160 + k, by omega⟩ = sm ⟨64 + k, by omega⟩ := by
  unfold keys; rw [dif_neg (by dsimp only; omega), dif_neg (by dsimp only; omega)]
  exact congrArg sm (Fin.ext (by dsimp only; omega))

/-- The shared part times the root and the gain's lanes is the normalised row's lanes. -/
theorem shared (kv sm : Fin 128 → EReal) (R : EReal) (G : Fin 192 → EReal) (l : Fin 128) :
    sm l * R * spread G ⟨128 + l.val, by omega⟩ = spread (normed (keys kv sm) R G) ⟨128 + l.val, by omega⟩ := by
  obtain ⟨l, hl⟩ := l
  dsimp only
  by_cases h1 : l < 32
  · rw [spread_low _ (128 + l) (by omega), spread_low _ (128 + l) (by omega)]
    unfold normed
    rw [keys_mid kv sm l h1]
  by_cases h2 : l < 64
  · rw [spread_gap _ (128 + l) (by omega) (by omega), spread_gap _ (128 + l) (by omega) (by omega), mul_zero]
  by_cases h3 : l < 96
  · have f : (⟨128 + l - 32, by omega⟩ : Fin 192) = ⟨160 + (l - 64), by omega⟩ := Fin.ext (by dsimp only; omega)
    rw [spread_high _ (128 + l) (by omega) (by omega), spread_high _ (128 + l) (by omega) (by omega), f]
    unfold normed
    rw [keys_high kv sm (l - 64) (by omega)]
    exact congrArg (fun k => sm k * R * _) (Fin.ext (by dsimp only; omega))
  · rw [spread_end _ (128 + l) (by omega) (by omega), spread_end _ (128 + l) (by omega) (by omega), mul_zero]

theorem key_low (x1 : Vec Ideal S256x512 .bf16) (g : Vec Ideal S1x256 .f32) (u : Vec Ideal S256x1 .f32) (w : Vec Ideal S1x512x256 .bf16) (a : Fin 256) (l : Fin 128)
    (kv sm : Fin 128 → EReal) (G : Fin 192 → EReal) (hk : ∀ l : Fin 128, ∑ e : Fin 512, x1 (ix2 a e) * w (ix3 0 e ⟨l.val, by omega⟩) = kv l)
    (hu : u (ix2 a 0) = ∑ l, sm l * sm l) (hg : ∀ l : Fin 256, g (ix2 0 l) = spread G l) :
    k0_pay102 x1 g u w (ix2 a l) = normed (keys kv sm) (root (∑ l, kv l * kv l + ∑ l, sm l * sm l)) G ⟨l.val, by omega⟩ := by
  pointwise [k0_pay102, k0_pay101, k0_pay100, k0_pay99]
  simp only [hk, hu, hg, inv_mul]
  unfold normed
  rw [keys_low kv sm l.val l.isLt, spread_low G l.val (by omega)]
  rfl

theorem key_turned (x1 : Vec Ideal S256x512 .bf16) (x2 c s : Vec Ideal S256x128 .f32) (g : Vec Ideal S1x256 .f32) (u : Vec Ideal S256x1 .f32) (w : Vec Ideal S1x512x256 .bf16)
    (a : Fin 256) (l : Fin 128) (kv sm : Fin 128 → EReal) (G : Fin 192 → EReal)
    (hk : ∀ l : Fin 128, ∑ e : Fin 512, x1 (ix2 a e) * w (ix3 0 e ⟨l.val, by omega⟩) = kv l)
    (hs : ∀ l, x2 (ix2 a l) = sm l) (hu : u (ix2 a 0) = ∑ l, sm l * sm l) (hg : ∀ l : Fin 256, g (ix2 0 l) = spread G l) :
    k0_pay103 x1 x2 c s g u w (ix2 a l)
      = spread (normed (keys kv sm) (root (∑ l, kv l * kv l + ∑ l, sm l * sm l)) G) ⟨128 + l.val, by omega⟩ * c (ix2 a l)
        + spread (normed (keys kv sm) (root (∑ l, kv l * kv l + ∑ l, sm l * sm l)) G) ⟨128 + (l.val + 128 - 64) % 128, by omega⟩ * s (ix2 a l) := by
  pointwise [k0_pay103, k0_pay101, k0_pay100, k0_pay99]
  simp only [hk, hs, hu, hg, inv_mul]
  rw [← shared kv sm _ G l, ← shared kv sm _ G ⟨(l.val + 128 - 64) % 128, by omega⟩]
  rfl

theorem value_low (x1 : Vec Ideal S256x512 .bf16) (w : Vec Ideal S1x512x256 .bf16) (a : Fin 256) (l : Fin 128) :
    k0_pay104 (k0_pay99 x1 w) (ix2 a l) = ∑ e : Fin 512, x1 (ix2 a e) * w (ix3 0 e ⟨128 + l.val, by omega⟩) := by
  pointwise [k0_pay104, k0_pay99]

theorem squares (x2 : Vec Ideal S256x128 .f32) (a : Fin 256) : k0_pay10 x2 (ix2 a 0) = ∑ l, x2 (ix2 a l) * x2 (ix2 a l) := by
  pointwise [k0_pay10]

theorem angle_cos (x0 : Vec Ideal S256x1 .i32) (f : Vec Ideal S1x128 .f32) (a : Fin 256) (l : Fin 128) :
    k0_pay6 x0 f (ix2 a l) = Ideal.cos (FloatOps.sitofp (F := Ideal) .f32 (x0 (ix2 a 0)) * f (ix2 0 l)) := by
  pointwise [k0_pay6, k0_pay5]

theorem angle_sin (x0 : Vec Ideal S256x1 .i32) (f s : Vec Ideal S1x128 .f32) (a : Fin 256) (l : Fin 128) :
    k0_pay7 x0 f s (ix2 a l) = Ideal.sin (FloatOps.sitofp (F := Ideal) .f32 (x0 (ix2 a 0)) * f (ix2 0 l)) * s (ix2 0 l) := by
  pointwise [k0_pay7, k0_pay5]

/-! ## The reference, a row at a time -/

variable (x0 : Vec Ideal S8192x1536 .bf16) (x1 : Vec Ideal S8192x512 .bf16) (x2 : Vec Ideal S8192x256 .f32) (x3 : Vec Ideal S8192 .i32)
  (x4 : Vec Ideal S1536x1920 .f32) (x5 : Vec Ideal S512x2560 .f32) (x6 x7 : Vec Ideal S192 .f32) (r : Fin 8192) (h : Fin 10)

/-- The queries' projection. -/
def qdot (k : Fin 192) : EReal := ∑ e : Fin 1536, x0 (ix2 r e) * x4 (ix2 e ⟨h.val * 192 + k.val, by omega⟩)

/-- The keys' and values' projection. -/
def kvdot (l : Fin 256) : EReal := ∑ e : Fin 512, x1 (ix2 r e) * x5 (ix2 e ⟨h.val * 256 + l.val, by omega⟩)

/-- The shared rotated part. -/
def sdot (l : Fin 128) : EReal := x2 (ix2 r ⟨128 + l.val, by omega⟩)

/-- The angle's cosine. -/
def cosine (l : Fin 32) : EReal := Ideal.cos (FloatOps.sitofp (F := Ideal) .f32 (x3 (ix1 r)) * val_main_v7 (F := Ideal) (ix1 l))

/-- The angle's sine. -/
def sine (l : Fin 32) : EReal := Ideal.sin (FloatOps.sitofp (F := Ideal) .f32 (x3 (ix1 r)) * val_main_v7 (F := Ideal) (ix1 l))

theorem ref_cos (l : Fin 32) : val_main_v13 (F := Ideal) x3 (ix3 r 0 l) = cosine x3 r l := by
  unfold cosine val_main_v13 val_main_v12 val_main_v11 val_main_v9 val_main_v10 val_main_v8 val_main_v1 val_main_v0
  generalize val_main_v7 (F := Ideal) = f
  pointwise

theorem ref_sin (l : Fin 32) : val_main_v15 (F := Ideal) x3 (ix3 r 0 l) = sine x3 r l := by
  unfold sine val_main_v15 val_main_v14 val_main_v11 val_main_v9 val_main_v10 val_main_v8 val_main_v1 val_main_v0
  generalize val_main_v7 (F := Ideal) = f
  pointwise

theorem ref_normed (k : Fin 192) : val_main_v32 (F := Ideal) x0 x4 x6 (ix3 r h k)
    = normed (qdot x0 x4 r h) (root (∑ k, qdot x0 x4 r h k * qdot x0 x4 r h k)) (fun k => x6 (ix1 k)) k := by
  have hd : ∀ k : Fin 192, val_main_v19 (F := Ideal) x0 x4 (ix3 r h k) = qdot x0 x4 r h k := by
    intro k
    unfold val_main_v19 val_main_v18 val_main_v17
    pointwise
    rfl
  unfold val_main_v32 val_main_v31 val_main_v30 val_main_v29 val_main_v28 val_main_v27 val_main_v26 val_main_v25 val_main_v24 val_main_v23 val_main_v22
    val_main_v21 val_main_v20 val_main_cst_2 val_main_cst_3 val_main_cst_4
  generalize val_main_v19 (F := Ideal) x0 x4 = q at hd
  pointwise
  simp only [hd]
  rfl

theorem ref_queries (l : Fin 256) : val_main_v48 (F := Ideal) x0 x3 x4 x6 (ix3 r h l)
    = mix (normed (qdot x0 x4 r h) (root (∑ k, qdot x0 x4 r h k * qdot x0 x4 r h k)) fun k => x6 (ix1 k)) (cosine x3 r) (sine x3 r) l
      * Ideal.ofBits .f32 0x3DD53B95#32 := by
  have hn := ref_normed x0 x4 x6 r h
  have hc := ref_cos x3 r
  have hs := ref_sin x3 r
  generalize normed (qdot x0 x4 r h) (root (∑ k, qdot x0 x4 r h k * qdot x0 x4 r h k)) (fun k => x6 (ix1 k)) = n at hn
  unfold val_main_v48 val_main_v47 val_main_cst_5 val_main_v46 val_main_v33 val_main_v40 val_main_v45 val_main_v16 val_main_cst_1 val_main_v37 val_main_v39
    val_main_v42 val_main_v44 val_main_v34 val_main_v35 val_main_v36 val_main_v38 val_main_v41 val_main_v43
  generalize val_main_v32 (F := Ideal) x0 x4 x6 = q at hn
  generalize val_main_v13 (F := Ideal) x3 = C at hc
  generalize val_main_v15 (F := Ideal) x3 = S at hs
  pointwise
  simp only [hn, hc, hs]
  rfl

set_option maxHeartbeats 2000000 in
theorem ref_keys (l : Fin 256) : val_main_v103 (F := Ideal) x1 x2 x3 x5 x7 (ix3 r h l)
    = mix (normed (keys (fun l => kvdot x1 x5 r h ⟨l.val, by omega⟩) (sdot x2 r))
        (root (∑ l : Fin 128, kvdot x1 x5 r h ⟨l.val, by omega⟩ * kvdot x1 x5 r h ⟨l.val, by omega⟩ + ∑ l, sdot x2 r l * sdot x2 r l)) fun k => x7 (ix1 k))
        (cosine x3 r) (sine x3 r) l := by
  have hd : ∀ l : Fin 256, val_main_v53 (F := Ideal) x1 x5 (ix3 r h l) = kvdot x1 x5 r h l := by
    intro k
    unfold val_main_v53 val_main_v52 val_main_v51
    pointwise
    rfl
  have hc := ref_cos x3 r
  have hs := ref_sin x3 r
  have hr : val_main_v70 (F := Ideal) x1 x2 x5 (ix3 r h 0)
      = root (∑ l : Fin 128, kvdot x1 x5 r h ⟨l.val, by omega⟩ * kvdot x1 x5 r h ⟨l.val, by omega⟩ + ∑ l, sdot x2 r l * sdot x2 r l) := by
    unfold val_main_v70 val_main_v69 val_main_v68 val_main_cst_9 val_main_v67 val_main_v66 val_main_cst_8 val_main_v65 val_main_v64 val_main_v63
      val_main_v62 val_main_cst_7 val_main_v61 val_main_v60 val_main_v59 val_main_cst_6 val_main_v58 val_main_v57 val_main_v56 val_main_v54
    generalize val_main_v53 (F := Ideal) x1 x5 = q at hd
    pointwise
    simp only [hd]
    rfl
  generalize root (∑ l : Fin 128, kvdot x1 x5 r h ⟨l.val, by omega⟩ * kvdot x1 x5 r h ⟨l.val, by omega⟩ + ∑ l, sdot x2 r l * sdot x2 r l) = R at hr
  unfold val_main_v103 val_main_v76 val_main_v97 val_main_v16 val_main_v102 val_main_cst_1 val_main_v75 val_main_v74 val_main_v73 val_main_v72 val_main_v71
    val_main_v94 val_main_v93 val_main_v96 val_main_v95 val_main_v99 val_main_v98 val_main_v101 val_main_v100
    val_main_v84 val_main_v83 val_main_v82 val_main_v81 val_main_v80 val_main_v79 val_main_v78 val_main_v77
    val_main_v92 val_main_v91 val_main_v90 val_main_v89 val_main_v88 val_main_v87 val_main_v86 val_main_v85 val_main_v57 val_main_v56 val_main_v54
  generalize val_main_v53 (F := Ideal) x1 x5 = q at hd
  generalize val_main_v70 (F := Ideal) x1 x2 x5 = R' at hr
  generalize val_main_v13 (F := Ideal) x3 = C at hc
  generalize val_main_v15 (F := Ideal) x3 = S at hs
  pointwise
  simp only [hd, hc, hs, hr]
  unfold mix rot normed
  dsimp only
  refine dite_congr rfl (fun h1 => ?_) fun _ => dite_congr rfl (fun h2 => ?_) fun _ => dite_congr rfl (fun _ => rfl) fun _ => dite_congr rfl (fun h4 => ?_) fun _ => rfl
  · exact congrArg (fun y => y * R * x7 (ix1 ⟨l.val, by omega⟩)) (keys_low (fun l => kvdot x1 x5 r h ⟨l.val, by omega⟩) (sdot x2 r) l.val h1).symm
  · have e1 := keys_mid (fun l => kvdot x1 x5 r h ⟨l.val, by omega⟩) (sdot x2 r) (l.val - 128) h2
    have e2 := keys_high (fun l => kvdot x1 x5 r h ⟨l.val, by omega⟩) (sdot x2 r) (l.val - 128) h2
    rw [e1, e2]
    unfold sdot
    with_reducible rfl
  · have e1 := keys_mid (fun l => kvdot x1 x5 r h ⟨l.val, by omega⟩) (sdot x2 r) (l.val - 128 - 32 - 32) h4
    have e2 := keys_high (fun l => kvdot x1 x5 r h ⟨l.val, by omega⟩) (sdot x2 r) (l.val - 128 - 32 - 32) h4
    rw [e1, e2]
    unfold sdot
    with_reducible rfl

end Cert.Prep

end
-- ==== Proof.Pieces.lean ====
/- The call that prepares the latent queries, keys and values: its stores, a head at a time. -/
module

public import proofs.«01_k».proof.Proof.Prep

@[expose] public section

set_option maxRecDepth 16384

noncomputable section

namespace Cert.Prep

open Idealize.ShloMosaic Idealize.ShloMosaic.TcCoe Cert.Kernel10Ideal Cert.Kernel10Ideal.Gen Cert.Reference10Ideal.Read

variable (m : (ℓ : Loc nD τ sig) → Buf (Elt Ideal) ℓ) (c : Dev nD) (t : Fin cfg0.N)

/-! ## The blocks read -/

/-- The array's row of a block's row. -/
def row (a : Fin 256) : Fin 8192 := ⟨256 * (grid0.coords t 0).val + a.val, by
  have c0 : (grid0.coords t 0).val < 32 := (grid0.coords t 0).isLt
  omega⟩

theorem zero2 : (![0, 0] : Fin 2 → ℕ) = fun _ => 0 := by decide

theorem blk0 (a : Fin 256) (e : Fin 1536) : View.ld (iblk m c 0 t) r0_0 (ix2 a e) = m ((c.tc : Thread nD τ).loc main_arg0) (ix2 (row t a) e) := by
  unfold row
  refine (congrFun (View.ld_unit_zero (S := S256x1536) (off := ![0, 0]) zero2 _ _) _).trans ?_
  blk_ext [iblk, V_main_arg0, idx0 t]

theorem blk1 (a : Fin 256) (e : Fin 512) : View.ld (iblk m c 1 t) r0_1 (ix2 a e) = m ((c.tc : Thread nD τ).loc main_arg1) (ix2 (row t a) e) := by
  unfold row
  refine (congrFun (View.ld_unit_zero (S := S256x512) (off := ![0, 0]) zero2 _ _) _).trans ?_
  blk_ext [iblk, V_main_arg1, idx1 t]

theorem blk2 (a : Fin 256) (l : Fin 128) :
    View.ld (iblk m c 2 t) r0_2 (ix2 a l) = sdot (m ((c.tc : Thread nD τ).loc main_arg2)) (row t a) l := by
  unfold row sdot
  refine (congrFun (View.ld_unit_zero (S := S256x128) (off := ![0, 0]) zero2 _ _) _).trans ?_
  blk_ext [iblk, V_main_arg2, idx2 t]

theorem read3 (f : S8192x1.Idx → BitVec 32) (a : Fin 256) : View.read (Elt Ideal) ((cfg0.win 3).blk t).view f (ix2 a 0) = f (ix2 (row t a) 0) := by
  refine congrArg f ?_
  unfold row
  blk_ext [idx3 t]

theorem read4 (f : S1x128.Idx → EReal) (l : Fin 128) : View.read (Elt Ideal) ((cfg0.win 4).blk t).view f (ix2 0 l) = f (ix2 0 l) := by
  refine congrArg f ?_
  blk_ext [idx4 t]

theorem read5 (f : S1x128.Idx → EReal) (l : Fin 128) : View.read (Elt Ideal) ((cfg0.win 5).blk t).view f (ix2 0 l) = f (ix2 0 l) := by
  refine congrArg f ?_
  blk_ext [idx5 t]

theorem read6 (f : S10x1536x256.Idx → EReal) (h : Fin 10) (e : Fin 1536) (l : Fin 256) :
    View.read (Elt Ideal) ((cfg0.win 6).blk t).view f (ix3 h e l) = f (ix3 h e l) := by
  refine congrArg f ?_
  blk_ext [idx6 t]

theorem read7 (f : S10x512x256.Idx → EReal) (h : Fin 10) (e : Fin 512) (l : Fin 256) :
    View.read (Elt Ideal) ((cfg0.win 7).blk t).view f (ix3 h e l) = f (ix3 h e l) := by
  refine congrArg f ?_
  blk_ext [idx7 t]

theorem read8 (f : S1x256.Idx → EReal) (l : Fin 256) : View.read (Elt Ideal) ((cfg0.win 8).blk t).view f (ix2 0 l) = f (ix2 0 l) := by
  refine congrArg f ?_
  blk_ext [idx8 t]

theorem read9 (f : S1x256.Idx → EReal) (l : Fin 256) : View.read (Elt Ideal) ((cfg0.win 9).blk t).view f (ix2 0 l) = f (ix2 0 l) := by
  refine congrArg f ?_
  blk_ext [idx9 t]

theorem ld3 (f : Vec Ideal S256x1 .i32) (a : Fin 256) : View.ld f r0_3 (ix2 a 0) = f (ix2 a 0) := by
  refine congrArg f ?_
  blk_ext
  show 0 + 1 * a.val = a.val
  omega

theorem ld4 (f : Vec Ideal S1x128 .f32) (l : Fin 128) : View.ld f r0_4 (ix2 0 l) = f (ix2 0 l) := by
  refine congrArg f ?_
  blk_ext
  show 0 + 1 * l.val = l.val
  omega

theorem ld5 (f : Vec Ideal S1x256 .f32) (l : Fin 256) : View.ld f r0_5 (ix2 0 l) = f (ix2 0 l) := by
  refine congrArg f ?_
  blk_ext
  show 0 + 1 * l.val = l.val
  omega

theorem ld6 (f : Vec Ideal S10x1536x256 .bf16) (h : Fin 10) (inb) (e : Fin 1536) (l : Fin 256) :
    View.ld f (Rect.unit (s := S10x1536x256) ![h.val, 0, 0] S1x1536x256.size inb) (ix3 0 e l) = f (ix3 h e l) := by
  refine congrArg f ?_
  blk_ext
  · show h.val + 1 * 0 = h.val
    omega
  · show 0 + 1 * e.val = e.val
    omega
  · show 0 + 1 * l.val = l.val
    omega

theorem ld7 (f : Vec Ideal S10x512x256 .bf16) (h : Fin 10) (inb) (e : Fin 512) (l : Fin 256) :
    View.ld f (Rect.unit (s := S10x512x256) ![h.val, 0, 0] S1x512x256.size inb) (ix3 0 e l) = f (ix3 h e l) := by
  refine congrArg f ?_
  blk_ext
  · show h.val + 1 * 0 = h.val
    omega
  · show 0 + 1 * e.val = e.val
    omega
  · show 0 + 1 * l.val = l.val
    omega

theorem blk3 (a : Fin 256) : View.ld (iblk m c 3 t) r0_3 (ix2 a 0) = m ((c.tc : Thread nD τ).loc main_arg3) (ix1 (row t a)) := by
  refine (ld3 _ a).trans ?_
  show View.read (Elt Ideal) ((cfg0.win 3).blk t).view (V m c main_v50) (ix2 a 0) = _
  rw [V_column, read3, column_apply]

theorem blk4 (l : Fin 128) : View.ld (iblk m c 4 t) r0_4 (ix2 0 l) = freqs (ix2 0 l) := by
  refine (ld4 _ l).trans ?_
  show View.read (Elt Ideal) ((cfg0.win 4).blk t).view (V m c main_v11) (ix2 0 l) = _
  rw [V_freqs, read4]

theorem blk5 (l : Fin 128) : View.ld (iblk m c 5 t) r0_4 (ix2 0 l) = signs (ix2 0 l) := by
  refine (ld4 _ l).trans ?_
  show View.read (Elt Ideal) ((cfg0.win 5).blk t).view (V m c main_v20) (ix2 0 l) = _
  rw [V_signs, read5]

theorem blk6 (h : Fin 10) (inb) (e : Fin 1536) (l : Fin 256) :
    View.ld (iblk m c 6 t) (Rect.unit (s := S10x1536x256) ![h.val, 0, 0] S1x1536x256.size inb) (ix3 0 e l)
      = spread (fun k => (m ((c.tc : Thread nD τ).loc main_arg4) (ix2 e ⟨h.val * 192 + k.val, by omega⟩) : EReal)) l := by
  refine (ld6 _ h inb e l).trans ?_
  show View.read (Elt Ideal) ((cfg0.win 6).blk t).view (V m c main_v30) (ix3 h e l) = _
  rw [V_queries, read6, query_apply]
  simp only [heads_apply]

theorem blk7 (h : Fin 10) (inb) (e : Fin 512) (l : Fin 256) :
    View.ld (iblk m c 7 t) (Rect.unit (s := S10x512x256) ![h.val, 0, 0] S1x512x256.size inb) (ix3 0 e l)
      = m ((c.tc : Thread nD τ).loc main_arg5) (ix2 e ⟨h.val * 256 + l.val, by omega⟩) := by
  refine (ld7 _ h inb e l).trans ?_
  show View.read (Elt Ideal) ((cfg0.win 7).blk t).view (V m c main_v33) (ix3 h e l) = _
  rw [V_pairs, read7, pair_apply]

theorem blk8 (l : Fin 256) : k0_pay8 (View.ld (iblk m c 8 t) r0_5) (ix2 0 l) = spread (fun k => m ((c.tc : Thread nD τ).loc main_arg6) (ix1 k)) l := by
  have e : k0_pay8 (View.ld (iblk m c 8 t) r0_5) (ix2 0 l) = View.ld (iblk m c 8 t) r0_5 (ix2 0 l) := by
    generalize View.ld (iblk m c 8 t) r0_5 = g
    pointwise [k0_pay8]
  refine e.trans ((ld5 _ l).trans ?_)
  show View.read (Elt Ideal) ((cfg0.win 8).blk t).view (V m c main_v41) (ix2 0 l) = _
  rw [V_gainQ, read8, gain_apply]

theorem blk9 (l : Fin 256) : k0_pay9 (View.ld (iblk m c 9 t) r0_5) (ix2 0 l) = spread (fun k => m ((c.tc : Thread nD τ).loc main_arg7) (ix1 k)) l := by
  have e : k0_pay9 (View.ld (iblk m c 9 t) r0_5) (ix2 0 l) = View.ld (iblk m c 9 t) r0_5 (ix2 0 l) := by
    generalize View.ld (iblk m c 9 t) r0_5 = g
    pointwise [k0_pay9]
  refine e.trans ((ld5 _ l).trans ?_)
  show View.read (Elt Ideal) ((cfg0.win 9).blk t).view (V m c main_v49) (ix2 0 l) = _
  rw [V_gainK, read9, gain_apply]

/-! ## The angles -/

/-- The cosines' block. -/
def cosBlk : FVec Ideal S256x128 .f32 := k0_pay6 (View.ld (iblk m c 3 t) r0_3) (View.ld (iblk m c 4 t) r0_4)

/-- The signed sines' block. -/
def sinBlk : FVec Ideal S256x128 .f32 := k0_pay7 (View.ld (iblk m c 3 t) r0_3) (View.ld (iblk m c 4 t) r0_4) (View.ld (iblk m c 5 t) r0_4)

theorem cos_low (a : Fin 256) (l : Fin 32) :
    cosBlk m c t (ix2 a ⟨l.val, by omega⟩) = cosine (m ((c.tc : Thread nD τ).loc main_arg3)) (row t a) l := by
  refine (angle_cos _ _ a _).trans ?_
  rw [blk3, blk4, freqs_low, freq_eq]
  rfl

theorem cos_high (a : Fin 256) (l : Fin 32) :
    cosBlk m c t (ix2 a ⟨64 + l.val, by omega⟩) = cosine (m ((c.tc : Thread nD τ).loc main_arg3)) (row t a) l := by
  refine (angle_cos _ _ a _).trans ?_
  rw [blk3, blk4, freqs_high, freq_eq]
  rfl

theorem sin_low (a : Fin 256) (l : Fin 32) :
    sinBlk m c t (ix2 a ⟨l.val, by omega⟩) = sine (m ((c.tc : Thread nD τ).loc main_arg3)) (row t a) l * -1 := by
  refine (angle_sin _ _ _ a _).trans ?_
  rw [blk3, blk4, blk5, freqs_low, freq_eq, signs_low]
  rfl

theorem sin_high (a : Fin 256) (l : Fin 32) :
    sinBlk m c t (ix2 a ⟨64 + l.val, by omega⟩) = sine (m ((c.tc : Thread nD τ).loc main_arg3)) (row t a) l * 1 := by
  refine (angle_sin _ _ _ a _).trans ?_
  rw [blk3, blk4, blk5, freqs_high, freq_eq, signs_high]
  rfl

/-! ## The references' blocks -/

/-- The queries' block of the reference. -/
def GQ (y : S256x2560.Idx) : EReal :=
  val_main_v50 (F := Ideal) (m ((c.tc : Thread nD τ).loc main_arg0)) (m ((c.tc : Thread nD τ).loc main_arg3))
    (m ((c.tc : Thread nD τ).loc main_arg4)) (m ((c.tc : Thread nD τ).loc main_arg6)) ((win0_10.blk t).view.emb y)

/-- The keys' block of the reference. -/
def GK (y : S256x2560.Idx) : EReal :=
  val_main_v105 (F := Ideal) (m ((c.tc : Thread nD τ).loc main_arg1)) (m ((c.tc : Thread nD τ).loc main_arg2)) (m ((c.tc : Thread nD τ).loc main_arg3))
    (m ((c.tc : Thread nD τ).loc main_arg5)) (m ((c.tc : Thread nD τ).loc main_arg7)) ((win0_11.blk t).view.emb y)

/-- The values' block of the reference. -/
def GV (y : S256x1280.Idx) : EReal :=
  val_main_v107 (F := Ideal) (m ((c.tc : Thread nD τ).loc main_arg1)) (m ((c.tc : Thread nD τ).loc main_arg5)) ((win0_12.blk t).view.emb y)

theorem GQ_apply (h : Fin 10) (o : ℕ) (inb) (a : Fin 256) (l : Fin 128) (k : Fin 256) (hk : o + l.val = 256 * h.val + k.val) :
    GQ m c t ((Rect.unit (s := S256x2560) ![0, o] S256x128.size inb).emb (ix2 a l))
      = mix (normed (qdot (m ((c.tc : Thread nD τ).loc main_arg0)) (m ((c.tc : Thread nD τ).loc main_arg4)) (row t a) h)
          (root (∑ k, qdot (m ((c.tc : Thread nD τ).loc main_arg0)) (m ((c.tc : Thread nD τ).loc main_arg4)) (row t a) h k
            * qdot (m ((c.tc : Thread nD τ).loc main_arg0)) (m ((c.tc : Thread nD τ).loc main_arg4)) (row t a) h k))
          fun k => m ((c.tc : Thread nD τ).loc main_arg6) (ix1 k))
        (cosine (m ((c.tc : Thread nD τ).loc main_arg3)) (row t a)) (sine (m ((c.tc : Thread nD τ).loc main_arg3)) (row t a)) k
        * Ideal.ofBits .f32 0x3DD53B95#32 := by
  rw [← ref_queries]
  have e : (Rect.unit (s := S256x2560) ![0, o] S256x128.size inb).emb (ix2 a l) = ix2 a ⟨256 * h.val + k.val, by omega⟩ := by
    blk_ext
  have e' : (win0_10.blk t).view.emb (ix2 a ⟨256 * h.val + k.val, by omega⟩) = ix2 (row t a) ⟨256 * h.val + k.val, by omega⟩ := by
    unfold row
    blk_ext [idx10 t]
  unfold GQ
  rw [e, e']
  show val_main_v49 (F := Ideal) _ _ _ _ _ = _
  rw [val_main_v49_apply]
  refine congrArg _ ?_
  blk_ext

theorem GK_apply (h : Fin 10) (o : ℕ) (inb) (a : Fin 256) (l : Fin 128) (k : Fin 256) (hk : o + l.val = 256 * h.val + k.val) :
    GK m c t ((Rect.unit (s := S256x2560) ![0, o] S256x128.size inb).emb (ix2 a l))
      = mix (normed (keys (fun l => kvdot (m ((c.tc : Thread nD τ).loc main_arg1)) (m ((c.tc : Thread nD τ).loc main_arg5)) (row t a) h ⟨l.val, by omega⟩)
            (sdot (m ((c.tc : Thread nD τ).loc main_arg2)) (row t a)))
          (root (∑ l : Fin 128, kvdot (m ((c.tc : Thread nD τ).loc main_arg1)) (m ((c.tc : Thread nD τ).loc main_arg5)) (row t a) h ⟨l.val, by omega⟩
              * kvdot (m ((c.tc : Thread nD τ).loc main_arg1)) (m ((c.tc : Thread nD τ).loc main_arg5)) (row t a) h ⟨l.val, by omega⟩
            + ∑ l, sdot (m ((c.tc : Thread nD τ).loc main_arg2)) (row t a) l * sdot (m ((c.tc : Thread nD τ).loc main_arg2)) (row t a) l))
          fun k => m ((c.tc : Thread nD τ).loc main_arg7) (ix1 k))
        (cosine (m ((c.tc : Thread nD τ).loc main_arg3)) (row t a)) (sine (m ((c.tc : Thread nD τ).loc main_arg3)) (row t a)) k := by
  rw [← ref_keys]
  have e : (Rect.unit (s := S256x2560) ![0, o] S256x128.size inb).emb (ix2 a l) = ix2 a ⟨256 * h.val + k.val, by omega⟩ := by
    blk_ext
  have e' : (win0_11.blk t).view.emb (ix2 a ⟨256 * h.val + k.val, by omega⟩) = ix2 (row t a) ⟨256 * h.val + k.val, by omega⟩ := by
    unfold row
    blk_ext [idx11 t]
  unfold GK
  rw [e, e']
  show val_main_v104 (F := Ideal) _ _ _ _ _ _ = _
  rw [val_main_v104_apply]
  refine congrArg _ ?_
  blk_ext

theorem GV_apply (h : Fin 10) (o : ℕ) (inb) (a : Fin 256) (l : Fin 128) (ho : o = 128 * h.val) :
    GV m c t ((Rect.unit (s := S256x1280) ![0, o] S256x128.size inb).emb (ix2 a l))
      = kvdot (m ((c.tc : Thread nD τ).loc main_arg1)) (m ((c.tc : Thread nD τ).loc main_arg5)) (row t a) h ⟨128 + l.val, by omega⟩ := by
  have e : (Rect.unit (s := S256x1280) ![0, o] S256x128.size inb).emb (ix2 a l) = ix2 a ⟨128 * h.val + l.val, by omega⟩ := by
    blk_ext
  have e' : (win0_12.blk t).view.emb (ix2 a ⟨128 * h.val + l.val, by omega⟩) = ix2 (row t a) ⟨128 * h.val + l.val, by omega⟩ := by
    unfold row
    blk_ext [idx12 t]
  have e'' : idx_main_v106 (ix2 (row t a) ⟨128 * h.val + l.val, by omega⟩) = ix3 (row t a) h l := by
    blk_ext
  unfold GV
  rw [e, e']
  show val_main_v106 (F := Ideal) _ _ _ = _
  rw [val_main_v106_apply, e'']
  unfold val_main_v55 val_main_v53 val_main_v52 val_main_v51 kvdot
  pointwise

/-! ## A head's stores -/

/-- The queries' gain. -/
def gq : FVec Ideal S1x256 .f32 := k0_pay8 (View.ld (iblk m c 8 t) r0_5)

/-- The keys' gain. -/
def gk : FVec Ideal S1x256 .f32 := k0_pay9 (View.ld (iblk m c 9 t) r0_5)

/-- The shared part's squares, summed. -/
def sq : FVec Ideal S256x1 .f32 := k0_pay10 (View.ld (iblk m c 2 t) r0_2)

theorem split2 (x : S256x128.Idx) : ∃ (a : Fin 256) (l : Fin 128), x = ix2 a l := ⟨⟨(x 0).val, (x 0).isLt⟩, ⟨(x 1).val, (x 1).isLt⟩, by blk_ext⟩

/-- The queries' latents' block. -/
def cq : Vec Ideal S256x1536 .bf16 := View.ld (iblk m c 0 t) r0_0

/-- The keys' and values' latents' block. -/
def ckv : Vec Ideal S256x512 .bf16 := View.ld (iblk m c 1 t) r0_1

/-- The shared part's block. -/
def small : Vec Ideal S256x128 .f32 := View.ld (iblk m c 2 t) r0_2

/-- A head of the queries' weights. -/
def wq (h : Fin 10) (inb : ∀ a, (![h.val, 0, 0] : Fin 3 → ℕ) a + S1x1536x256.size a ≤ S10x1536x256.size a) : Vec Ideal S1x1536x256 .bf16 := View.ld (iblk m c 6 t) (Rect.unit (s := S10x1536x256) ![h.val, 0, 0] S1x1536x256.size inb)

/-- A head of the keys' and values' weights. -/
def wkv (h : Fin 10) (inb : ∀ a, (![h.val, 0, 0] : Fin 3 → ℕ) a + S1x512x256.size a ≤ S10x512x256.size a) : Vec Ideal S1x512x256 .bf16 := View.ld (iblk m c 7 t) (Rect.unit (s := S10x512x256) ![h.val, 0, 0] S1x512x256.size inb)

/-- A head's row of the queries in the reference, normalised. -/
def nq (h : Fin 10) (a : Fin 256) : Fin 192 → EReal :=
  normed (qdot (m ((c.tc : Thread nD τ).loc main_arg0)) (m ((c.tc : Thread nD τ).loc main_arg4)) (row t a) h)
    (root (∑ k, qdot (m ((c.tc : Thread nD τ).loc main_arg0)) (m ((c.tc : Thread nD τ).loc main_arg4)) (row t a) h k
      * qdot (m ((c.tc : Thread nD τ).loc main_arg0)) (m ((c.tc : Thread nD τ).loc main_arg4)) (row t a) h k))
    fun k => m ((c.tc : Thread nD τ).loc main_arg6) (ix1 k)

/-- A head's row of the keys in the reference, normalised. -/
def nk (h : Fin 10) (a : Fin 256) : Fin 192 → EReal :=
  normed (keys (fun l => kvdot (m ((c.tc : Thread nD τ).loc main_arg1)) (m ((c.tc : Thread nD τ).loc main_arg5)) (row t a) h ⟨l.val, by omega⟩)
      (sdot (m ((c.tc : Thread nD τ).loc main_arg2)) (row t a)))
    (root (∑ l : Fin 128, kvdot (m ((c.tc : Thread nD τ).loc main_arg1)) (m ((c.tc : Thread nD τ).loc main_arg5)) (row t a) h ⟨l.val, by omega⟩
        * kvdot (m ((c.tc : Thread nD τ).loc main_arg1)) (m ((c.tc : Thread nD τ).loc main_arg5)) (row t a) h ⟨l.val, by omega⟩
      + ∑ l, sdot (m ((c.tc : Thread nD τ).loc main_arg2)) (row t a) l * sdot (m ((c.tc : Thread nD τ).loc main_arg2)) (row t a) l))
    fun k => m ((c.tc : Thread nD τ).loc main_arg7) (ix1 k)

theorem query_at (h : Fin 10) (inb) (a : Fin 256) (l : Fin 256) :
    k0_pay105 (cq m c t) (gq m c t) (wq m c t h inb) (ix2 a l) = spread (nq m c t h a) l := by
  refine query_row (cq m c t) (gq m c t) (wq m c t h inb) a _ _ (fun l => ?_) (fun l => blk8 m c t l) l
  refine (Finset.sum_congr rfl fun e _ => congrArg₂ (fun p q : EReal => p * q) (blk0 m c t a e) (blk6 m c t h inb e l)).trans ?_
  exact sum_mul_spread _ _ l

theorem turned_at (n : Fin 192 → EReal) (a : Fin 256) (l : Fin 128) :
    spread n ⟨128 + l.val, by omega⟩ * cosBlk m c t (ix2 a l) + spread n ⟨128 + (l.val + 128 - 64) % 128, by omega⟩ * sinBlk m c t (ix2 a l)
      = rot n (cosine (m ((c.tc : Thread nD τ).loc main_arg3)) (row t a)) (sine (m ((c.tc : Thread nD τ).loc main_arg3)) (row t a)) l :=
  rot_spread n _ _ (fun l => cosBlk m c t (ix2 a l)) (fun l => sinBlk m c t (ix2 a l)) (cos_low m c t a) (cos_high m c t a) (sin_low m c t a)
    (sin_high m c t a) l

theorem queries_low (h : Fin 10) (o : ℕ) (ho : o = 256 * h.val) (inb inb') (x : S256x128.Idx) :
    k0_pay106 (cq m c t) (gq m c t) (wq m c t h inb) x = GQ m c t ((Rect.unit (s := S256x2560) ![0, o] S256x128.size inb').emb x) := by
  obtain ⟨a, l, rfl⟩ := split2 x
  refine (query_low _ _ _ a l).trans (Eq.trans ?_ (GQ_apply m c t h o inb' a l ⟨l.val, by omega⟩ (by dsimp only; omega)).symm)
  refine congrArg (fun p : EReal => p * Ideal.ofBits .f32 0x3DD53B95#32) ((query_at m c t h inb a _).trans ?_)
  exact (spread_low _ l.val (by omega)).trans (mix_low _ _ _ l).symm

theorem queries_high (h : Fin 10) (o : ℕ) (ho : o = 256 * h.val + 128) (inb inb') (x : S256x128.Idx) :
    k0_pay107 (cq m c t) (cosBlk m c t) (sinBlk m c t) (gq m c t) (wq m c t h inb) x
      = GQ m c t ((Rect.unit (s := S256x2560) ![0, o] S256x128.size inb').emb x) := by
  obtain ⟨a, l, rfl⟩ := split2 x
  refine (query_turned _ _ _ _ _ a l).trans (Eq.trans ?_ (GQ_apply m c t h o inb' a l ⟨128 + l.val, by omega⟩ (by dsimp only; omega)).symm)
  refine congrArg (fun p : EReal => p * Ideal.ofBits .f32 0x3DD53B95#32) (Eq.trans ?_ (mix_high _ _ _ l).symm)
  rw [query_at, query_at]
  exact turned_at m c t _ a l

theorem pair_at (h : Fin 10) (inb) (a : Fin 256) (l : Fin 256) :
    ∑ e : Fin 512, ckv m c t (ix2 a e) * wkv m c t h inb (ix3 0 e l)
      = kvdot (m ((c.tc : Thread nD τ).loc main_arg1)) (m ((c.tc : Thread nD τ).loc main_arg5)) (row t a) h l :=
  Finset.sum_congr rfl fun e _ => congrArg₂ (fun p q : EReal => p * q) (blk1 m c t a e) (blk7 m c t h inb e l)

theorem squares_at (a : Fin 256) :
    sq m c t (ix2 a 0) = ∑ l, sdot (m ((c.tc : Thread nD τ).loc main_arg2)) (row t a) l * sdot (m ((c.tc : Thread nD τ).loc main_arg2)) (row t a) l :=
  (squares _ a).trans (Finset.sum_congr rfl fun l _ => congrArg₂ (fun p q : EReal => p * q) (blk2 m c t a l) (blk2 m c t a l))

theorem keys_store_low (h : Fin 10) (o : ℕ) (ho : o = 256 * h.val) (inb inb') (x : S256x128.Idx) :
    k0_pay102 (ckv m c t) (gk m c t) (sq m c t) (wkv m c t h inb) x = GK m c t ((Rect.unit (s := S256x2560) ![0, o] S256x128.size inb').emb x) := by
  obtain ⟨a, l, rfl⟩ := split2 x
  refine Eq.trans ?_ (GK_apply m c t h o inb' a l ⟨l.val, by omega⟩ (by dsimp only; omega)).symm
  refine Eq.trans ?_ (mix_low (nk m c t h a) _ _ l).symm
  exact key_low _ _ _ _ a l _ _ _ (fun l => pair_at m c t h inb a ⟨l.val, by omega⟩) (squares_at m c t a) (blk9 m c t)

theorem keys_store_high (h : Fin 10) (o : ℕ) (ho : o = 256 * h.val + 128) (inb inb') (x : S256x128.Idx) :
    k0_pay103 (ckv m c t) (small m c t) (cosBlk m c t) (sinBlk m c t) (gk m c t) (sq m c t) (wkv m c t h inb) x
      = GK m c t ((Rect.unit (s := S256x2560) ![0, o] S256x128.size inb').emb x) := by
  obtain ⟨a, l, rfl⟩ := split2 x
  refine Eq.trans ?_ (GK_apply m c t h o inb' a l ⟨128 + l.val, by omega⟩ (by dsimp only; omega)).symm
  refine Eq.trans ?_ (mix_high (nk m c t h a) _ _ l).symm
  refine Eq.trans ?_ (turned_at m c t (nk m c t h a) a l)
  exact key_turned _ _ _ _ _ _ _ a l _ _ _ (fun l => pair_at m c t h inb a ⟨l.val, by omega⟩) (blk2 m c t a) (squares_at m c t a) (blk9 m c t)

theorem values_store (h : Fin 10) (o : ℕ) (ho : o = 128 * h.val) (inb inb') (x : S256x128.Idx) :
    k0_pay104 (k0_pay99 (ckv m c t) (wkv m c t h inb)) x = GV m c t ((Rect.unit (s := S256x1280) ![0, o] S256x128.size inb').emb x) := by
  obtain ⟨a, l, rfl⟩ := split2 x
  refine (value_low _ _ a l).trans (Eq.trans ?_ (GV_apply m c t h o inb' a l ho).symm)
  exact pair_at m c t h inb a ⟨128 + l.val, by omega⟩

end Cert.Prep

end
-- ==== Proof.Tiles.lean ====
/- The call that prepares the latent queries, keys and values: its results. -/
module

public import proofs.«01_k».proof.Proof.Pieces

@[expose] public section

set_option maxRecDepth 16384

noncomputable section

namespace Cert.Prep

open Idealize.ShloMosaic Idealize.ShloMosaic.TcCoe Cert.Kernel10Ideal Cert.Kernel10Ideal.Gen Cert.Reference10Ideal.Read

variable (m : (ℓ : Loc nD τ sig) → Buf (Elt Ideal) ℓ) (c : Dev nD)

set_option maxHeartbeats 4000000 in
/-- The queries' array. -/
theorem result_queries : (dats m 0 c).arrAt 10 cfg0.N
    = val_main_v50 (F := Ideal) (m ((c.tc : Thread nD τ).loc main_arg0)) (m ((c.tc : Thread nD τ).loc main_arg3)) (m ((c.tc : Thread nD τ).loc main_arg4)) (m ((c.tc : Thread nD τ).loc main_arg6)) := by
  refine (dats m 0 c).arrAt_eq_of_covers 10 _ (by decide +kernel) fun t hf y => ?_
  rw [after0_10]
  unfold out0_10
  refine View.canon_apply_of_pieces (Val := Elt Ideal) (e := .bf16) (GQ m c t) _ ?_ _ (cover0_10 _ _ _ _ _ _ _ _ _ _ _ _ _ _ _ _ _ _ _ _ _)
  refine List.forall_mem_cons.mpr ⟨queries_high m c t 9 2432 rfl inb_S10x1536x256_S1x1536x256_9_0_0 inb_S256x2560_S256x128_0_2432, ?_⟩
  refine List.forall_mem_cons.mpr ⟨queries_low m c t 9 2304 rfl inb_S10x1536x256_S1x1536x256_9_0_0 inb_S256x2560_S256x128_0_2304, ?_⟩
  refine List.forall_mem_cons.mpr ⟨queries_high m c t 8 2176 rfl inb_S10x1536x256_S1x1536x256_8_0_0 inb_S256x2560_S256x128_0_2176, ?_⟩
  refine List.forall_mem_cons.mpr ⟨queries_low m c t 8 2048 rfl inb_S10x1536x256_S1x1536x256_8_0_0 inb_S256x2560_S256x128_0_2048, ?_⟩
  refine List.forall_mem_cons.mpr ⟨queries_high m c t 7 1920 rfl inb_S10x1536x256_S1x1536x256_7_0_0 inb_S256x2560_S256x128_0_1920, ?_⟩
  refine List.forall_mem_cons.mpr ⟨queries_low m c t 7 1792 rfl inb_S10x1536x256_S1x1536x256_7_0_0 inb_S256x2560_S256x128_0_1792, ?_⟩
  refine List.forall_mem_cons.mpr ⟨queries_high m c t 6 1664 rfl inb_S10x1536x256_S1x1536x256_6_0_0 inb_S256x2560_S256x128_0_1664, ?_⟩
  refine List.forall_mem_cons.mpr ⟨queries_low m c t 6 1536 rfl inb_S10x1536x256_S1x1536x256_6_0_0 inb_S256x2560_S256x128_0_1536, ?_⟩
  refine List.forall_mem_cons.mpr ⟨queries_high m c t 5 1408 rfl inb_S10x1536x256_S1x1536x256_5_0_0 inb_S256x2560_S256x128_0_1408, ?_⟩
  refine List.forall_mem_cons.mpr ⟨queries_low m c t 5 1280 rfl inb_S10x1536x256_S1x1536x256_5_0_0 inb_S256x2560_S256x128_0_1280, ?_⟩
  refine List.forall_mem_cons.mpr ⟨queries_high m c t 4 1152 rfl inb_S10x1536x256_S1x1536x256_4_0_0 inb_S256x2560_S256x128_0_1152, ?_⟩
  refine List.forall_mem_cons.mpr ⟨queries_low m c t 4 1024 rfl inb_S10x1536x256_S1x1536x256_4_0_0 inb_S256x2560_S256x128_0_1024, ?_⟩
  refine List.forall_mem_cons.mpr ⟨queries_high m c t 3 896 rfl inb_S10x1536x256_S1x1536x256_3_0_0 inb_S256x2560_S256x128_0_896, ?_⟩
  refine List.forall_mem_cons.mpr ⟨queries_low m c t 3 768 rfl inb_S10x1536x256_S1x1536x256_3_0_0 inb_S256x2560_S256x128_0_768, ?_⟩
  refine List.forall_mem_cons.mpr ⟨queries_high m c t 2 640 rfl inb_S10x1536x256_S1x1536x256_2_0_0 inb_S256x2560_S256x128_0_640, ?_⟩
  refine List.forall_mem_cons.mpr ⟨queries_low m c t 2 512 rfl inb_S10x1536x256_S1x1536x256_2_0_0 inb_S256x2560_S256x128_0_512, ?_⟩
  refine List.forall_mem_cons.mpr ⟨queries_high m c t 1 384 rfl inb_S10x1536x256_S1x1536x256_1_0_0 inb_S256x2560_S256x128_0_384, ?_⟩
  refine List.forall_mem_cons.mpr ⟨queries_low m c t 1 256 rfl inb_S10x1536x256_S1x1536x256_1_0_0 inb_S256x2560_S256x128_0_256, ?_⟩
  refine List.forall_mem_cons.mpr ⟨queries_high m c t 0 128 rfl inb_S10x1536x256_S1x1536x256_0_0_0 inb_S256x2560_S256x128_0_128, ?_⟩
  refine List.forall_mem_cons.mpr ⟨queries_low m c t 0 0 rfl inb_S10x1536x256_S1x1536x256_0_0_0 inb_S256x2560_S256x128_0_0, ?_⟩
  exact List.forall_mem_nil _

set_option maxHeartbeats 4000000 in
/-- The keys' array. -/
theorem result_keys : (dats m 0 c).arrAt 11 cfg0.N
    = val_main_v105 (F := Ideal) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) := by
  refine (dats m 0 c).arrAt_eq_of_covers 11 _ (by decide +kernel) fun t hf y => ?_
  rw [after0_11]
  unfold out0_11
  refine View.canon_apply_of_pieces (Val := Elt Ideal) (e := .bf16) (GK m c t) _ ?_ _ (cover0_11 _ _ _ _ _ _ _ _ _ _ _ _ _ _ _ _ _ _ _ _ _)
  refine List.forall_mem_cons.mpr ⟨keys_store_high m c t 9 2432 rfl inb_S10x512x256_S1x512x256_9_0_0 inb_S256x2560_S256x128_0_2432, ?_⟩
  refine List.forall_mem_cons.mpr ⟨keys_store_low m c t 9 2304 rfl inb_S10x512x256_S1x512x256_9_0_0 inb_S256x2560_S256x128_0_2304, ?_⟩
  refine List.forall_mem_cons.mpr ⟨keys_store_high m c t 8 2176 rfl inb_S10x512x256_S1x512x256_8_0_0 inb_S256x2560_S256x128_0_2176, ?_⟩
  refine List.forall_mem_cons.mpr ⟨keys_store_low m c t 8 2048 rfl inb_S10x512x256_S1x512x256_8_0_0 inb_S256x2560_S256x128_0_2048, ?_⟩
  refine List.forall_mem_cons.mpr ⟨keys_store_high m c t 7 1920 rfl inb_S10x512x256_S1x512x256_7_0_0 inb_S256x2560_S256x128_0_1920, ?_⟩
  refine List.forall_mem_cons.mpr ⟨keys_store_low m c t 7 1792 rfl inb_S10x512x256_S1x512x256_7_0_0 inb_S256x2560_S256x128_0_1792, ?_⟩
  refine List.forall_mem_cons.mpr ⟨keys_store_high m c t 6 1664 rfl inb_S10x512x256_S1x512x256_6_0_0 inb_S256x2560_S256x128_0_1664, ?_⟩
  refine List.forall_mem_cons.mpr ⟨keys_store_low m c t 6 1536 rfl inb_S10x512x256_S1x512x256_6_0_0 inb_S256x2560_S256x128_0_1536, ?_⟩
  refine List.forall_mem_cons.mpr ⟨keys_store_high m c t 5 1408 rfl inb_S10x512x256_S1x512x256_5_0_0 inb_S256x2560_S256x128_0_1408, ?_⟩
  refine List.forall_mem_cons.mpr ⟨keys_store_low m c t 5 1280 rfl inb_S10x512x256_S1x512x256_5_0_0 inb_S256x2560_S256x128_0_1280, ?_⟩
  refine List.forall_mem_cons.mpr ⟨keys_store_high m c t 4 1152 rfl inb_S10x512x256_S1x512x256_4_0_0 inb_S256x2560_S256x128_0_1152, ?_⟩
  refine List.forall_mem_cons.mpr ⟨keys_store_low m c t 4 1024 rfl inb_S10x512x256_S1x512x256_4_0_0 inb_S256x2560_S256x128_0_1024, ?_⟩
  refine List.forall_mem_cons.mpr ⟨keys_store_high m c t 3 896 rfl inb_S10x512x256_S1x512x256_3_0_0 inb_S256x2560_S256x128_0_896, ?_⟩
  refine List.forall_mem_cons.mpr ⟨keys_store_low m c t 3 768 rfl inb_S10x512x256_S1x512x256_3_0_0 inb_S256x2560_S256x128_0_768, ?_⟩
  refine List.forall_mem_cons.mpr ⟨keys_store_high m c t 2 640 rfl inb_S10x512x256_S1x512x256_2_0_0 inb_S256x2560_S256x128_0_640, ?_⟩
  refine List.forall_mem_cons.mpr ⟨keys_store_low m c t 2 512 rfl inb_S10x512x256_S1x512x256_2_0_0 inb_S256x2560_S256x128_0_512, ?_⟩
  refine List.forall_mem_cons.mpr ⟨keys_store_high m c t 1 384 rfl inb_S10x512x256_S1x512x256_1_0_0 inb_S256x2560_S256x128_0_384, ?_⟩
  refine List.forall_mem_cons.mpr ⟨keys_store_low m c t 1 256 rfl inb_S10x512x256_S1x512x256_1_0_0 inb_S256x2560_S256x128_0_256, ?_⟩
  refine List.forall_mem_cons.mpr ⟨keys_store_high m c t 0 128 rfl inb_S10x512x256_S1x512x256_0_0_0 inb_S256x2560_S256x128_0_128, ?_⟩
  refine List.forall_mem_cons.mpr ⟨keys_store_low m c t 0 0 rfl inb_S10x512x256_S1x512x256_0_0_0 inb_S256x2560_S256x128_0_0, ?_⟩
  exact List.forall_mem_nil _

set_option maxHeartbeats 4000000 in
/-- The values' array. -/
theorem result_values : (dats m 0 c).arrAt 12 cfg0.N
    = val_main_v107 (F := Ideal) (m ((c.tc : Thread nD τ).loc main_arg1)) (m ((c.tc : Thread nD τ).loc main_arg5)) := by
  refine (dats m 0 c).arrAt_eq_of_covers 12 _ (by decide +kernel) fun t hf y => ?_
  rw [after0_12]
  unfold out0_12
  refine View.canon_apply_of_pieces (Val := Elt Ideal) (e := .bf16) (GV m c t) _ ?_ _ (cover0_12 _ _ _ _ _ _ _ _ _ _ _)
  refine List.forall_mem_cons.mpr ⟨values_store m c t 9 1152 rfl inb_S10x512x256_S1x512x256_9_0_0 inb_S256x1280_S256x128_0_1152, ?_⟩
  refine List.forall_mem_cons.mpr ⟨values_store m c t 8 1024 rfl inb_S10x512x256_S1x512x256_8_0_0 inb_S256x1280_S256x128_0_1024, ?_⟩
  refine List.forall_mem_cons.mpr ⟨values_store m c t 7 896 rfl inb_S10x512x256_S1x512x256_7_0_0 inb_S256x1280_S256x128_0_896, ?_⟩
  refine List.forall_mem_cons.mpr ⟨values_store m c t 6 768 rfl inb_S10x512x256_S1x512x256_6_0_0 inb_S256x1280_S256x128_0_768, ?_⟩
  refine List.forall_mem_cons.mpr ⟨values_store m c t 5 640 rfl inb_S10x512x256_S1x512x256_5_0_0 inb_S256x1280_S256x128_0_640, ?_⟩
  refine List.forall_mem_cons.mpr ⟨values_store m c t 4 512 rfl inb_S10x512x256_S1x512x256_4_0_0 inb_S256x1280_S256x128_0_512, ?_⟩
  refine List.forall_mem_cons.mpr ⟨values_store m c t 3 384 rfl inb_S10x512x256_S1x512x256_3_0_0 inb_S256x1280_S256x128_0_384, ?_⟩
  refine List.forall_mem_cons.mpr ⟨values_store m c t 2 256 rfl inb_S10x512x256_S1x512x256_2_0_0 inb_S256x1280_S256x128_0_256, ?_⟩
  refine List.forall_mem_cons.mpr ⟨values_store m c t 1 128 rfl inb_S10x512x256_S1x512x256_1_0_0 inb_S256x1280_S256x128_0_128, ?_⟩
  refine List.forall_mem_cons.mpr ⟨values_store m c t 0 0 rfl inb_S10x512x256_S1x512x256_0_0_0 inb_S256x1280_S256x128_0_0, ?_⟩
  exact List.forall_mem_nil _

end Cert.Prep

end
-- ==== Proof.Gates.lean ====
/- The forget gates: their logarithm, the exact sum of its three parts, and the reference's running sum. -/
module

public import proofs.«01_k».proof.Proof.Gen.Reference11Ideal.Read
public import Idealize.ShloMosaic.Lib.Pointwise
public import Idealize.ShloMosaic.Lib.IdealHost
public import Idealize.ShloMosaic.Lib.Pipeline.ValueKit
public import Idealize.ShloMosaic.Lib.Routing.OpsOne

@[expose] public section

set_option maxRecDepth 16384

noncomputable section

namespace Cert.Forget

open Idealize.ShloMosaic Idealize.ShloMosaic.TcCoe Idealize.ShloMosaic.Routing Cert.Reference11Ideal Cert.Reference11Ideal.Gen Cert.Reference11Ideal.Read

/-! ## The logarithm of a gate -/

/-- What the logarithm of the sigmoid takes off the smaller of its argument and zero. -/
def drop (x : EReal) : EReal := Ideal.log1p (Ideal.exp (-(max x (-x))))

/-- The logarithm of the sigmoid. -/
def gate (x : EReal) : EReal := min x 0 - drop x

theorem drop_real (x : EReal) : ∃ r : ℝ, 0 ≤ r ∧ drop x = (r : EReal) := by
  have z : Ideal.log (1 + (0 : EReal)) = ((0 : ℝ) : EReal) := by
    rw [add_zero]
    show Ideal.log (((1 : ℝ) : EReal)) = _
    show (if (1 : ℝ) ≤ 0 then (⊥ : EReal) else (Real.log 1 : EReal)) = _
    rw [if_neg (by norm_num), Real.log_one]
  induction x using EReal.rec with
  | bot => exact ⟨0, le_refl _, by unfold drop; rw [EReal.neg_bot, max_eq_right bot_le, EReal.neg_top]; exact z⟩
  | top => exact ⟨0, le_refl _, by unfold drop; rw [max_eq_left le_top, EReal.neg_top]; exact z⟩
  | coe r =>
    refine ⟨Real.log (1 + Real.exp (-(max r (-r)))), Real.log_nonneg (by have := Real.exp_pos (-(max r (-r))); linarith), ?_⟩
    have e : -(max (r : EReal) (-(r : EReal))) = ((-(max r (-r)) : ℝ) : EReal) := by
      rw [← EReal.coe_neg, ← EReal.coe_strictMono.monotone.map_max, ← EReal.coe_neg]
    unfold drop
    rw [e]
    show Ideal.log (1 + ((Real.exp (-(max r (-r))) : ℝ) : EReal)) = _
    rw [← EReal.coe_one, ← EReal.coe_add]
    show (if 1 + Real.exp (-(max r (-r))) ≤ 0 then (⊥ : EReal) else _) = _
    rw [if_neg (by have := Real.exp_pos (-(max r (-r))); linarith)]

/-- A gate's logarithm is a real number or minus infinity. -/
theorem gate_cases (x : EReal) : gate x = ⊥ ∨ ∃ r : ℝ, gate x = (r : EReal) := by
  obtain ⟨d, _, e⟩ := drop_real x
  unfold gate
  rw [e]
  induction x using EReal.rec with
  | bot => left; rw [min_eq_left bot_le]; exact EReal.bot_sub _
  | top => right; exact ⟨0 - d, by rw [min_eq_right le_top, EReal.coe_sub]; rfl⟩
  | coe r => right; exact ⟨min r 0 - d, by rw [EReal.coe_sub, EReal.coe_strictMono.monotone.map_min]; rfl⟩

/-- The softplus of the negated argument, negated. -/
theorem gate_eq (x : EReal) : -(max (-x) 0 + drop x) = gate x := by
  obtain ⟨d, _, e⟩ := drop_real x
  unfold gate
  rw [e, EReal.neg_add (Or.inr (EReal.coe_ne_top d)) (Or.inr (EReal.coe_ne_bot d))]
  refine congrArg (· - (d : EReal)) ?_
  rcases le_total x 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

/-- The three parts the kernel splits a logarithm into sum to it. -/
theorem parts (x : EReal) : gate x + (gate x - gate x) + ((gate x - gate x) - (gate x - gate x)) = gate x := by
  rcases gate_cases x with h | ⟨r, h⟩
  · rw [h]
    simp
  · rw [h, ← EReal.coe_sub, ← EReal.coe_sub, ← EReal.coe_add, ← EReal.coe_add]
    congr 1
    ring

/-! ## The reference's running sum -/

theorem foldl_add {α : Type} (L : List α) (h : α → EReal) (v : EReal) : L.foldl (fun r n => r + h n) v = v + (L.map h).sum := by
  induction L generalizing v with
  | nil => simp
  | cons a L ih => rw [List.foldl_cons, ih, List.map_cons, List.sum_cons, add_assoc]

theorem sum_range_list (f : ℕ → EReal) (n : ℕ) : ((List.range n).map f).sum = ∑ i ∈ Finset.range n, f i := by
  induction n with
  | zero => rfl
  | succ n ih => rw [List.range_succ, List.map_append, List.sum_append, ih, Finset.sum_range_succ, List.map_singleton, List.sum_singleton]

theorem sum_window (f : ℕ → EReal) (p j : ℕ) (hj : j ≤ p) :
    ∑ w ∈ Finset.range (p + 1), (if p ≤ j + w then f (j + w - p) else 0) = ∑ i ∈ Finset.range (j + 1), f i := by
  obtain ⟨d, rfl⟩ : ∃ d, p = j + d := ⟨p - j, by omega⟩
  rw [show j + d + 1 = d + (j + 1) by omega, Finset.sum_range_add, Finset.sum_eq_zero (fun w hw => ?_), zero_add]
  · refine Finset.sum_congr rfl fun w _ => ?_
    rw [if_pos (by omega)]
    congr 1
    omega
  · have := Finset.mem_range.mp hw
    rw [if_neg (by omega)]

/-- The running sum down a column, as the window sum it is written as. -/
theorem column_sums {p C : ℕ} (x : (shape2 (p + 1) C).Idx → EReal) (f : ℕ → ℕ → EReal) (hx : ∀ (i : Fin (p + 1)) (c : Fin C), x (ix2 i c) = f i.val c.val)
    (h : (shape2 (p + 1) C).ReduceWindows (![p + 1, 1] : Fin 2 → ℕ) ![1, 1] ![p, 0] ![0, 0] (shape2 (p + 1) C)) (j : Fin (p + 1)) (c : Fin C) :
    Ideal.hostReduceWindowAdd ![p + 1, 1] ![1, 1] ![p, 0] ![0, 0] h x 0 (ix2 j c) = ∑ i ∈ Finset.range (j.val + 1), f i c.val := by
  have hj := j.isLt
  have hc := c.isLt
  unfold Ideal.hostReduceWindowAdd Host.reduceWindow
  refine (foldl_add _ _ _).trans ((zero_add _).trans ?_)
  refine Eq.trans (congrArg List.sum (List.map_congr_left (g := fun n => (fun w => if p ≤ j.val + w then f (j.val + w - p) c.val else 0) n.val) fun n _ => ?_)) ?_
  · have hw0 : ((shape2 (p + 1) 1).rowMajor.symm n 0).val = n.val := by rw [Routing.symm_col]; rfl
    have hw1 : ((shape2 (p + 1) 1).rowMajor.symm n 1).val = 0 := by rw [Routing.symm_col]; rfl
    have hn : n.val < p + 1 := (n.cast (Routing.numel_col _)).isLt
    dsimp only
    split
    · next hin =>
      have h0 := hin 0
      change p ≤ j.val * 1 + ((shape2 (p + 1) 1).rowMajor.symm n 0).val
        ∧ j.val * 1 + ((shape2 (p + 1) 1).rowMajor.symm n 0).val - p < p + 1 at h0
      rw [hw0] at h0
      rw [if_pos (by omega)]
      refine (congrArg x (funext fun a => Fin.ext ?_)).trans (hx ⟨j.val + n.val - p, by omega⟩ c)
      match a with
      | ⟨0, _⟩ =>
        show j.val * 1 + ((shape2 (p + 1) 1).rowMajor.symm n 0).val - p = j.val + n.val - p
        rw [hw0, Nat.mul_one]
      | ⟨1, _⟩ =>
        show c.val * 1 + ((shape2 (p + 1) 1).rowMajor.symm n 1).val - 0 = c.val
        rw [hw1]
        omega
    · next hin =>
      rw [if_neg fun hle => hin fun a => by
        match a with
        | ⟨0, _⟩ =>
          show p ≤ j.val * 1 + ((shape2 (p + 1) 1).rowMajor.symm n 0).val
            ∧ j.val * 1 + ((shape2 (p + 1) 1).rowMajor.symm n 0).val - p < p + 1
          rw [hw0]
          omega
        | ⟨1, _⟩ =>
          show 0 ≤ c.val * 1 + ((shape2 (p + 1) 1).rowMajor.symm n 1).val ∧ c.val * 1 + ((shape2 (p + 1) 1).rowMajor.symm n 1).val - 0 < C
          rw [hw1]
          omega]
  · rw [Routing.map_finRange_val _ (fun w => if p ≤ j.val + w then f (j.val + w - p) c.val else 0)]
    refine (congrArg (fun M => ((List.range M).map fun w => if p ≤ j.val + w then f (j.val + w - p) c.val else 0).sum) (Routing.numel_col (p + 1))).trans ?_
    rw [sum_range_list]
    exact sum_window (fun i => f i c.val) p j.val (by omega)

/-! ## The reference -/

variable (x0 : Vec Ideal S8192x256 .f32) (x1 : Vec Ideal S12 .f32)

/-- The bias, padded by zeros to all the lanes. -/
def bias : Vec Ideal S128 .f32 := val_main_v2 (F := Ideal) x1

/-- The logarithm of the gate at a row and lane given as numbers. -/
def logs (i l : ℕ) : EReal := if h : i < 8192 ∧ l < 128 then gate (x0 (ix2 ⟨i, h.1⟩ ⟨l, by omega⟩) + bias x1 (ix1 ⟨l, h.2⟩)) else 0

/-- The running sum through row `n - 1`, at a lane. -/
def sums (n l : ℕ) : EReal := ∑ i ∈ Finset.range n, logs x0 x1 i l

theorem ref_arg (i : Fin 8192) (l : Fin 128) :
    val_main_v5 (F := Ideal) x0 x1 (ix2 i l) = x0 (ix2 i ⟨l.val, by omega⟩) + bias x1 (ix1 l) := by
  rw [val_main_v5_apply, val_main_v0_apply, val_main_v4_apply, val_main_v3_apply]
  unfold bias
  refine congrArg₂ (fun a b : EReal => a + b) (congrArg x0 ?_) (congrArg (val_main_v2 (F := Ideal) x1) ?_) <;> blk_ext

theorem ref_gate (i : S8192x128.Idx) : val_main_v6 (F := Ideal) x0 x1 i = gate (val_main_v5 (F := Ideal) x0 x1 i) := by
  rw [← gate_eq]
  unfold val_main_v6 val_main_call0_v1 val_main_call0_call0_v11 val_main_call0_call0_v10 val_main_call0_call0_v9 val_main_call0_call0_v8 val_main_call0_call0_v7
    val_main_call0_call0_v4 val_main_call0_call0_v3 val_main_call0_call0_v2 val_main_call0_call0_v1 val_main_call0_call0_v0 val_main_call0_v0
    val_main_call0_call0_cst
  generalize val_main_v5 (F := Ideal) x0 x1 = y
  pointwise [drop]
  rw [if_neg (fun h => h rfl)]
  show -(max (-y i) 0 + Ideal.log1p (Ideal.exp (-(max (-y i) (- -y i))))) = _
  rw [neg_neg, max_comm (-y i) (y i)]

theorem ref_sums (i : Fin 8192) (l : Fin 128) : val_main_v7 (F := Ideal) x0 x1 (ix2 i l) = sums x0 x1 (i.val + 1) l.val := by
  have hz : val_main_call1_call0_v0 (F := Ideal) (Shape.Idx.first h_S_) = 0 := by
    rw [val_main_call1_call0_v0_apply, val_main_call1_call0_cst_apply]
    exact Ideal.ofBits_zero_f32
  unfold val_main_v7 Host.reduceWindowAdd
  rw [hz]
  refine column_sums (p := 8191) (C := 128) _ (logs x0 x1) (fun i c => ?_) _ i l
  rw [ref_gate, ref_arg]
  unfold logs
  rw [dif_pos ⟨i.isLt, c.isLt⟩]

end Cert.Forget

end
-- ==== Proof.Forget.lean ====
/- The running sum of the forget gates' logarithms: the kernel's result arrays are the reference's. -/
module

public import proofs.«01_k».proof.Proof.Gates
public import proofs.«01_k».proof.Proof.Gen.Kernel11Ideal.Value
public import Idealize.ShloMosaic.Lib.Pipeline.ReadBack
public import Idealize.ShloMosaic.Lib.Claim

@[expose] public section

set_option maxRecDepth 16384

noncomputable section

namespace Cert.Forget

open Idealize.ShloMosaic Idealize.ShloMosaic.TcCoe Cert.Kernel11Ideal Cert.Kernel11Ideal.Gen Cert.Reference11Ideal.Read

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, t.val, 0] := by decide +kernel
theorem idx4 : ∀ t : Fin cfg0.N, win0_4.index t = ![0, t.val, 0, 0] := by decide +kernel

variable (m : (ℓ : Loc nD τ sig) → Buf (Elt Ideal) ℓ) (c : Dev nD)

/-! ## What a point leaves -/

/-- The sum carried into a point. -/
def before (t : Fin cfg0.N) : Vec Ideal S1x128 .f32 :=
  if t.val % 16 = 0 then k0_pay2 (F := Ideal) else (outsAt0 m c (t.val - 1) (Nat.lt_of_le_of_lt (Nat.sub_le _ _) t.isLt)).2.2

theorem carried (t : Fin cfg0.N) : (outsAt0 m c t.val t.isLt).2.2 = k0_pay4 (iblk m c 0 t) (iblk m c 1 t) (iblk m c 2 t) (before m c t) := by
  by_cases h : t.val % 16 = 0
  · rw [outsAt0_A m c t h]
    unfold before
    rw [if_pos h]
    unfold sout0_A_0
    frame_out
  · rw [outsAt0_B m c t h]
    unfold before
    rw [if_neg h]
    unfold sout0_B_0
    frame_out
    rw [read_unread_whole]

/-- The block's running sums times the constant. -/
def scaled (t : Fin cfg0.N) : FVec Ideal S512x128 .f32 := k0_pay5 (iblk m c 0 t) (iblk m c 1 t) (iblk m c 2 t) (before m c t)

theorem keys_left (t : Fin cfg0.N) : (outsAt0 m c t.val t.isLt).2.1 = k0_pay6 (scaled m c t) := by
  by_cases h : t.val % 16 = 0
  · rw [outsAt0_A m c t h]
    unfold scaled before
    rw [if_pos h]
    unfold out0_A_4
    frame_out
  · rw [outsAt0_B m c t h]
    unfold scaled before
    rw [if_neg h]
    unfold out0_B_4
    frame_out
    rw [read_unread_whole]

/-! ## The blocks -/

theorem blk_small (t : Fin cfg0.N) (i : Fin 512) (l : Fin 128) (h : 512 * t.val + i.val < 8192) :
    iblk m c 0 t (ix2 i l) = m ((c.tc : Thread nD τ).loc main_arg0) (ix2 ⟨512 * t.val + i.val, h⟩ ⟨l.val, by omega⟩) := by
  blk_ext [iblk, V_main_arg0, idx0 t]

theorem V_bias : V m c main_v2 = broadcastInDim S1x128 ![1] bcast_S128_S1x128_1 (bias (m ((c.tc : Thread nD τ).loc main_arg1))) := by
  entry_read
  rfl

theorem blk_bias (t : Fin cfg0.N) (l : Fin 128) :
    iblk m c 1 t (ix2 0 l) = bias (m ((c.tc : Thread nD τ).loc main_arg1)) (ix1 l) := by
  have e : (win0_1.blk t).view.emb (ix2 0 l) = ix2 0 l := by blk_ext [idx1 t]
  unfold iblk
  show V m c main_v2 ((win0_1.blk t).view.emb (ix2 0 l)) = _
  rw [e, V_bias]
  generalize bias (m ((c.tc : Thread nD τ).loc main_arg1)) = b
  exact broadcastInDim_apply _ bcast_S128_S1x128_1 b _ (ix1 l) (fun a => match a with
    | ⟨0, _⟩ => by show l.val = if (128 : Nat) = 1 then 0 else l.val; rw [if_neg (by decide)])

/-- The lower triangle of ones, as the call builds it. -/
def triangle : FVec Ideal S512x512 .bf16 :=
  truncf .bf16 (select (cmpi .sge (addi (iotaInDim S512x512 32 0) (broadcastInDim S512x512 ![] bcast_S_S512x512 (constantI S_ 32 0#32))) (iotaInDim S512x512 32 1))
    (broadcastInDim S512x512 ![] bcast_S_S512x512 (constant S_ .f32 0x3F800000#32))
    (broadcastInDim S512x512 ![] bcast_S_S512x512 (constant (F := Ideal) S_ .f32 0x00000000#32))) bitsLt_bf16_f32

theorem V_triangle : V m c main_v5 = triangle := by
  entry_read
  rfl

theorem triangle_apply (i j : Fin 512) : triangle (ix2 i j) = if j.val ≤ i.val then (1 : EReal) else 0 := by
  unfold triangle
  have hi := i.isLt
  have hj := j.isLt
  pointwise
  rw [show IntOp.addi (BitVec.ofNat 32 i.val) 0#32 = BitVec.ofNat 32 i.val from BitVec.add_zero _,
    WordCmp.cmpi_sge_ofNat (by omega) (by omega)]
  unfold Scalar.select
  by_cases h : j.val ≤ i.val
  · rw [if_pos h, decide_eq_true h]; rfl
  · rw [if_neg h, decide_eq_false h]; rfl

theorem blk_tri (t : Fin cfg0.N) (i j : Fin 512) :
    iblk m c 2 t (ix2 i j) = if j.val ≤ i.val then (1 : EReal) else 0 := by
  have e : (win0_2.blk t).view.emb (ix2 i j) = ix2 i j := by blk_ext [idx2 t]
  unfold iblk
  show V m c main_v5 ((win0_2.blk t).view.emb (ix2 i j)) = _
  rw [e, V_triangle]
  exact triangle_apply i j

/-! ## The payloads -/

theorem pay (x : Vec Ideal S512x128 .f32) (b : Vec Ideal S1x128 .f32) (tri : Vec Ideal S512x512 .bf16) (p : Vec Ideal S1x128 .f32) (i : Fin 512) (l : Fin 128) :
    k0_pay3 x b tri p (ix2 i l)
      = (∑ j, tri (ix2 i j) * gate (x (ix2 j l) + b (ix2 0 l)) + ∑ j, tri (ix2 i j) * (gate (x (ix2 j l) + b (ix2 0 l)) - gate (x (ix2 j l) + b (ix2 0 l)))
          + ∑ j, tri (ix2 i j) * ((gate (x (ix2 j l) + b (ix2 0 l)) - gate (x (ix2 j l) + b (ix2 0 l))) - (gate (x (ix2 j l) + b (ix2 0 l)) - gate (x (ix2 j l) + b (ix2 0 l)))))
        + p (ix2 0 l) := by
  have g : ∀ y : EReal, min y 0 - Ideal.log1p (Ideal.exp (0 - FloatOps.absf (F := Ideal) (φ := .f32) y)) = gate y := fun y => by
    rw [zero_sub]; rfl
  pointwise [k0_pay3]
  simp only [g]

/-- A row of the triangle sums the entries up to it. -/
theorem tri_sum (f : ℕ → EReal) (i : Fin 512) :
    ∑ j : Fin 512, (if j.val ≤ i.val then (1 : EReal) else 0) * f j.val = ∑ j ∈ Finset.range (i.val + 1), f j := by
  have hi := i.isLt
  rw [Fin.sum_univ_eq_sum_range (fun j => (if j ≤ i.val then (1 : EReal) else 0) * f j) 512,
    (show Finset.range 512 = Finset.range ((i.val + 1) + (511 - i.val)) from congrArg Finset.range (by omega)), Finset.sum_range_add, Finset.sum_eq_zero (s := Finset.range (511 - i.val)) (fun j _ => ?_), add_zero]
  · refine Finset.sum_congr rfl fun j hj => ?_
    rw [if_pos (by have := Finset.mem_range.mp hj; omega), one_mul]
  · rw [if_neg (by omega), zero_mul]

/-- The block's running sums over what was carried in. -/
theorem pay_sum (x : Vec Ideal S512x128 .f32) (b : Vec Ideal S1x128 .f32) (tri : Vec Ideal S512x512 .bf16) (p : Vec Ideal S1x128 .f32) (i : Fin 512) (l : Fin 128)
    (f : ℕ → EReal) (ht : ∀ j : Fin 512, tri (ix2 i j) = if j.val ≤ i.val then (1 : EReal) else 0) (hf : ∀ j : Fin 512, gate (x (ix2 j l) + b (ix2 0 l)) = f j.val) :
    k0_pay3 x b tri p (ix2 i l) = ∑ j ∈ Finset.range (i.val + 1), f j + p (ix2 0 l) := by
  rw [pay, ← Finset.sum_add_distrib, ← Finset.sum_add_distrib, ← tri_sum f i]
  refine congrArg (· + p (ix2 0 l)) (Finset.sum_congr rfl fun j _ => ?_)
  rw [ht, ← hf]
  split
  · rw [one_mul, one_mul, one_mul]
    exact parts _
  · rw [zero_mul, zero_mul, zero_mul, add_zero, add_zero]

/-! ## The carried sum -/

/-- The running sum of the call's two arguments. -/
def S (n l : ℕ) : EReal := sums (m ((c.tc : Thread nD τ).loc main_arg0)) (m ((c.tc : Thread nD τ).loc main_arg1)) n l

theorem point_sum (t : Fin cfg0.N) (i : Fin 512) (l : Fin 128) (hp : before m c t (ix2 0 l) = S m c (512 * t.val) l.val) :
    k0_pay3 (iblk m c 0 t) (iblk m c 1 t) (iblk m c 2 t) (before m c t) (ix2 i l) = S m c (512 * t.val + i.val + 1) l.val := by
  have hN : t.val < 16 := lt_of_lt_of_eq t.isLt N_0
  have hi := i.isLt
  refine (pay_sum _ _ _ _ i l (fun j => logs (m ((c.tc : Thread nD τ).loc main_arg0)) (m ((c.tc : Thread nD τ).loc main_arg1)) (512 * t.val + j) l.val)
    (fun j => blk_tri m c t i j) fun j => ?_).trans ?_
  · rw [blk_small m c t j l (by omega), blk_bias]
    unfold logs
    rw [dif_pos ⟨by omega, l.isLt⟩]
  · rw [hp, add_comm]
    unfold S sums
    rw [add_assoc (512 * t.val), Finset.sum_range_add _ (512 * t.val) (i.val + 1)]

theorem carried_sum (n : ℕ) (hn : n < cfg0.N) (l : Fin 128) : (outsAt0 m c n hn).2.2 (ix2 0 l) = S m c (512 * (n + 1)) l.val := by
  have last : ∀ t : Fin cfg0.N, before m c t (ix2 0 l) = S m c (512 * t.val) l.val →
      (outsAt0 m c t.val t.isLt).2.2 (ix2 0 l) = S m c (512 * (t.val + 1)) l.val := fun t hp => by
    rw [carried]
    have e : k0_pay4 (iblk m c 0 t) (iblk m c 1 t) (iblk m c 2 t) (before m c t) (ix2 0 l)
        = k0_pay3 (iblk m c 0 t) (iblk m c 1 t) (iblk m c 2 t) (before m c t) (ix2 (511 : Fin 512) l) := by
      unfold k0_pay4
      generalize k0_pay3 (iblk m c 0 t) (iblk m c 1 t) (iblk m c 2 t) (before m c t) = v
      pointwise
    rw [e, point_sum m c t _ l hp]
    rfl
  induction n with
  | zero =>
    refine last ⟨0, hn⟩ ?_
    unfold before S sums
    rw [if_pos (Nat.zero_mod 16)]
    refine Eq.trans ?_ (Finset.sum_range_zero _).symm
    pointwise [k0_pay2]
  | succ n ih =>
    have hN : n + 1 < 16 := lt_of_lt_of_eq hn N_0
    refine last ⟨n + 1, hn⟩ ?_
    unfold before
    rw [if_neg (by show ¬(n + 1) % 16 = 0; omega)]
    exact ih _

theorem before_sum (t : Fin cfg0.N) (l : Fin 128) : before m c t (ix2 0 l) = S m c (512 * t.val) l.val := by
  have hN : t.val < 16 := lt_of_lt_of_eq t.isLt N_0
  unfold before
  split
  · next h =>
    have h0 : t.val = 0 := by omega
    unfold S sums
    rw [h0, Finset.sum_range_zero]
    pointwise [k0_pay2]
  · next h =>
    rw [carried_sum]
    congr 1
    omega

/-- The block's scaled running sums. -/
theorem scaled_apply (t : Fin cfg0.N) (i : Fin 512) (l : Fin 128) :
    scaled m c t (ix2 i l) = S m c (512 * t.val + i.val + 1) l.val * Ideal.ofBits .f32 0x3FB8AA3B#32 := by
  rw [← point_sum m c t i l (before_sum m c t l)]
  unfold scaled k0_pay5
  generalize k0_pay3 (iblk m c 0 t) (iblk m c 1 t) (iblk m c 2 t) (before m c t) = v
  pointwise

theorem ref_scaled (i : Fin 8192) (l : Fin 128) :
    val_main_v9 (F := Ideal) (m ((c.tc : Thread nD τ).loc main_arg0)) (m ((c.tc : Thread nD τ).loc main_arg1)) (ix2 i l)
      = S m c (i.val + 1) l.val * Ideal.ofBits .f32 0x3FB8AA3B#32 := by
  rw [val_main_v9_apply, ref_sums]
  rfl

/-! ## The result arrays -/

/-- The sums laid out by lanes and blocks of rows. -/
theorem result_keys : (dats m 0 c).arrAt 4 cfg0.N
    = val_main_v15 (F := Ideal) (m ((c.tc : Thread nD τ).loc main_arg0)) (m ((c.tc : Thread nD τ).loc main_arg1)) := by
  refine (dats m 0 c).arrAt_eq_of_covers 4 _ (by decide +kernel) fun t hf y => ?_
  have hN : t.val < 16 := lt_of_lt_of_eq t.isLt N_0
  rw [after0_4, keys_left]
  blk_simp [idx4 t]
  obtain ⟨l, i, rfl⟩ : ∃ (l : Fin 128) (i : Fin 512), y = ix4 l 0 0 i := ⟨⟨(y 0).val, (y 0).isLt⟩, ⟨(y 3).val, (y 3).isLt⟩, by blk_ext⟩
  have he : (win0_4.blk t).view.emb (ix4 l 0 0 i) = ix4 l ⟨t.val, hN⟩ 0 i := by blk_ext [idx4 t]
  have e15 : idx_main_v14 (idx_main_v15 (ix4 l ⟨t.val, hN⟩ 0 i)) = ix2 ⟨512 * t.val + i.val, by omega⟩ l := by blk_ext
  rw [he, val_main_v15_apply, val_main_v14_apply, e15, ref_scaled]
  refine Eq.trans ?_ (scaled_apply m c t i l)
  generalize scaled m c t = v
  pointwise [k0_pay6]

/-- A head's block of the reference. -/
def G (t : Fin cfg0.N) (y : S12x512x128.Idx) : EReal :=
  val_main_v13 (F := Ideal) (m ((c.tc : Thread nD τ).loc main_arg0)) (m ((c.tc : Thread nD τ).loc main_arg1)) ((win0_3.blk t).view.emb y)

/-- One head's sums, spread over the lanes. -/
def spread (v : FVec Ideal S512x128 .f32) (h : ℕ) (s : S512x128.Slices ![0, h] S512x1) : FVec Ideal S1x512x128 .f32 :=
  k0_pay1 (extractStridedSlice S512x1 ![0, h] v s)

theorem head (t : Fin cfg0.N) (h : Fin 12) (s) (inb) (x : S1x512x128.Idx) :
    spread (scaled m c t) h.val s x = G m c t ((Rect.unit (s := S12x512x128) ![h.val, 0, 0] S1x512x128.size inb).emb x) := by
  have hN : t.val < 16 := lt_of_lt_of_eq t.isLt N_0
  obtain ⟨i, k, rfl⟩ : ∃ (i : Fin 512) (k : Fin 128), x = ix3 0 i k := ⟨⟨(x 1).val, (x 1).isLt⟩, ⟨(x 2).val, (x 2).isLt⟩, by blk_ext⟩
  have e : (Rect.unit (s := S12x512x128) ![h.val, 0, 0] S1x512x128.size inb).emb (ix3 0 i k) = ix3 h i k := by blk_ext
  have he : (win0_3.blk t).view.emb (ix3 h i k) = ix3 h ⟨512 * t.val + i.val, by omega⟩ k := by blk_ext [idx3 t]
  have e13 : idx_main_v10 (idx_main_v11 (idx_main_v12 (idx_main_v13 (ix3 h ⟨512 * t.val + i.val, by omega⟩ k))))
      = ix2 ⟨512 * t.val + i.val, by omega⟩ ⟨h.val, by omega⟩ := by blk_ext
  unfold G
  rw [e, he, val_main_v13_apply, val_main_v12_apply, val_main_v11_apply, val_main_v10_apply, e13, ref_scaled]
  refine Eq.trans ?_ (scaled_apply m c t i ⟨h.val, by omega⟩)
  unfold spread
  generalize scaled m c t = v
  pointwise [k0_pay1]

/-- What a point stores into the first result's block, last store first. -/
def stores (v : FVec Ideal S512x128 .f32) : List (View.Piece (Elt Ideal) S12x512x128 .f32) :=
  [ ⟨Rect.unit ![11, 0, 0] ![1, 512, 128] inb_S12x512x128_S1x512x128_11_0_0, k0_pay1 (k0_pay19 v)⟩,
    ⟨Rect.unit ![10, 0, 0] ![1, 512, 128] inb_S12x512x128_S1x512x128_10_0_0, k0_pay18 v⟩,
    ⟨Rect.unit ![9, 0, 0] ![1, 512, 128] inb_S12x512x128_S1x512x128_9_0_0, k0_pay17 v⟩,
    ⟨Rect.unit ![8, 0, 0] ![1, 512, 128] inb_S12x512x128_S1x512x128_8_0_0, k0_pay16 v⟩,
    ⟨Rect.unit ![7, 0, 0] ![1, 512, 128] inb_S12x512x128_S1x512x128_7_0_0, k0_pay15 v⟩,
    ⟨Rect.unit ![6, 0, 0] ![1, 512, 128] inb_S12x512x128_S1x512x128_6_0_0, k0_pay14 v⟩,
    ⟨Rect.unit ![5, 0, 0] ![1, 512, 128] inb_S12x512x128_S1x512x128_5_0_0, k0_pay13 (k0_pay12 v)⟩,
    ⟨Rect.unit ![4, 0, 0] ![1, 512, 128] inb_S12x512x128_S1x512x128_4_0_0, k0_pay11 v⟩,
    ⟨Rect.unit ![3, 0, 0] ![1, 512, 128] inb_S12x512x128_S1x512x128_3_0_0, k0_pay10 v⟩,
    ⟨Rect.unit ![2, 0, 0] ![1, 512, 128] inb_S12x512x128_S1x512x128_2_0_0, k0_pay9 v⟩,
    ⟨Rect.unit ![1, 0, 0] ![1, 512, 128] inb_S12x512x128_S1x512x128_1_0_0, k0_pay8 v⟩,
    ⟨Rect.unit ![0, 0, 0] ![1, 512, 128] inb_S12x512x128_S1x512x128_0_0_0, k0_pay7 v⟩ ]

theorem stores_cover (v : FVec Ideal S512x128 .f32) (y : S12x512x128.Idx) : ∃ p ∈ stores v, y ∈ p.1.set :=
  View.cover_of_tiledL (stores v) S1x512x128.size (by sl_kernel_rfl) y

theorem stores_value (t : Fin cfg0.N) (y : S12x512x128.Idx) : View.canon (Val := Elt Ideal) (stores (scaled m c t)) y = G m c t y := by
  refine View.canon_apply_of_pieces (Val := Elt Ideal) (e := .f32) (G m c t) _ ?_ _ (stores_cover _ y)
  unfold stores
  refine List.forall_mem_cons.mpr ⟨head m c t 11 slices_S512x128_o0_11_S512x1 inb_S12x512x128_S1x512x128_11_0_0, ?_⟩
  refine List.forall_mem_cons.mpr ⟨head m c t 10 slices_S512x128_o0_10_S512x1 inb_S12x512x128_S1x512x128_10_0_0, ?_⟩
  refine List.forall_mem_cons.mpr ⟨head m c t 9 slices_S512x128_o0_9_S512x1 inb_S12x512x128_S1x512x128_9_0_0, ?_⟩
  refine List.forall_mem_cons.mpr ⟨head m c t 8 slices_S512x128_o0_8_S512x1 inb_S12x512x128_S1x512x128_8_0_0, ?_⟩
  refine List.forall_mem_cons.mpr ⟨head m c t 7 slices_S512x128_o0_7_S512x1 inb_S12x512x128_S1x512x128_7_0_0, ?_⟩
  refine List.forall_mem_cons.mpr ⟨head m c t 6 slices_S512x128_o0_6_S512x1 inb_S12x512x128_S1x512x128_6_0_0, ?_⟩
  refine List.forall_mem_cons.mpr ⟨head m c t 5 slices_S512x128_o0_5_S512x1 inb_S12x512x128_S1x512x128_5_0_0, ?_⟩
  refine List.forall_mem_cons.mpr ⟨head m c t 4 slices_S512x128_o0_4_S512x1 inb_S12x512x128_S1x512x128_4_0_0, ?_⟩
  refine List.forall_mem_cons.mpr ⟨head m c t 3 slices_S512x128_o0_3_S512x1 inb_S12x512x128_S1x512x128_3_0_0, ?_⟩
  refine List.forall_mem_cons.mpr ⟨head m c t 2 slices_S512x128_o0_2_S512x1 inb_S12x512x128_S1x512x128_2_0_0, ?_⟩
  refine List.forall_mem_cons.mpr ⟨head m c t 1 slices_S512x128_o0_1_S512x1 inb_S12x512x128_S1x512x128_1_0_0, ?_⟩
  refine List.forall_mem_cons.mpr ⟨head m c t 0 slices_S512x128_o0_0_S512x1 inb_S12x512x128_S1x512x128_0_0_0, ?_⟩
  exact List.forall_mem_nil _

theorem queries_left (t : Fin cfg0.N) (y : S12x512x128.Idx) : (outsAt0 m c t.val t.isLt).1 y = G m c t y := by
  refine Eq.trans ?_ (stores_value m c t y)
  by_cases h : t.val % 16 = 0
  · rw [outsAt0_A m c t h]
    unfold stores scaled before
    rw [if_pos h]
    unfold out0_A_3
    frame_out
  · rw [outsAt0_B m c t h]
    unfold stores scaled before
    rw [if_neg h]
    unfold out0_B_3
    frame_out
    rw [read_unread_whole]

/-- The sums spread over the lanes of each head. -/
theorem result_queries : (dats m 0 c).arrAt 3 cfg0.N
    = val_main_v13 (F := Ideal) (m ((c.tc : Thread nD τ).loc main_arg0)) (m ((c.tc : Thread nD τ).loc main_arg1)) := by
  refine (dats m 0 c).arrAt_eq_of_covers 3 _ (by decide +kernel) fun t hf y => ?_
  rw [after0_3]
  exact queries_left m c t y

end Cert.Forget

end
-- ==== Proof.lean ====
/- The claim's proof: each program's frame, the named constant, and the value claim. -/
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Ref
public import Idealize.ShloMosaic.Adequacy
public import Idealize.ShloMosaic.Init
public import Idealize.ShloMosaic.Lib.Quiescent
public import proofs.«01_k».proof.Proof.Out
public import proofs.«01_k».proof.Proof.Heads
public import proofs.«01_k».proof.Proof.Values
public import proofs.«01_k».proof.Proof.Stick
public import proofs.«01_k».proof.Proof.Gate
public import proofs.«01_k».proof.Proof.Latent
public import proofs.«01_k».proof.Proof.Norm
public import proofs.«01_k».proof.Proof.Small
public import proofs.«01_k».proof.Proof.Tiles
public import proofs.«01_k».proof.Proof.Forget

@[expose] public section

noncomputable section

namespace Cert.Proof

open Idealize.ShloMosaic Idealize.SL.Sem Cert.Kernel

/-- The named constant `mask` is the printed constant at the machine's floats and `⊥` at the ideal ones. -/
theorem preserves : Cert.preserves_Kernel_KernelIdeal :=
  IdealRules.named_const.statement Cert.KernelIdeal.κ "mask" .f32 0xF149F2CA#32 ⊥ rfl

/-- The reference runs, keeps its arguments, and has no counter to leave raised. -/
theorem frameRI : Cert.quiescent_ReferenceIdeal := fun m g _ =>
  (θ_run Cert.ReferenceIdeal.defs _ _).mono (fun r h => ⟨fun c => (h c).2,
      sem_eq_zero_of_no_sems (by decide) r.2⟩)
    (Cert.ReferenceIdeal.Value.run (F := Ideal) m g)

/-- Both programs leave the closed form of the attention in their result. -/
theorem algebraic : Cert.algebraic_KernelIdeal_ReferenceIdeal := fun m g m' g' _ hag =>
  ⟨fun c => Mla.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run Cert.KernelIdeal.defs _ _).mono (fun r h c => ⟨(h c).1.trans (Mla.result m c), (h c).2⟩)
      (Cert.KernelIdeal.Value.run_blocks m g),
    (θ_run Cert.ReferenceIdeal.defs _ _).mono (fun r h c => ⟨(h c).1.trans (by
        rw [Cert.ReferenceIdeal.Read.val_main_v47_eq, (hag c).1, (hag c).2.1, (hag c).2.2.1, (hag c).2.2.2.1, (hag c).2.2.2.2]
        exact Mla.ref_result _ _ _ _ _), (h c).2⟩)
      (Cert.ReferenceIdeal.Value.run (F := Ideal) m' g')⟩

/-! ## The output projection -/

theorem frameRI2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem algebraic2 : Cert.algebraic_Kernel2Ideal_Reference2Ideal := fun m g m' g' _ hag =>
  ⟨fun c => Cert.Reference2Ideal.Read.val_main_v5 (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)),
    (θ_run Cert.Kernel2Ideal.defs _ _).mono (fun r h c => ⟨(h c).1.trans (Out.result m c), (h c).2⟩)
      (Cert.Kernel2Ideal.Value.run_blocks m g),
    (θ_run Cert.Reference2Ideal.defs _ _).mono (fun r h c => ⟨(h c).1.trans (by
        rw [Cert.Reference2Ideal.Read.val_main_v5_eq, (hag c).1, (hag c).2.1, (hag c).2.2.1, (hag c).2.2.2.1, (hag c).2.2.2.2]), (h c).2⟩)
      (Cert.Reference2Ideal.Value.run (F := Ideal) m' g')⟩

/-! ## The forgetting attention's queries and keys -/

theorem frameRI3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic3 : Cert.algebraic_Kernel3Ideal_Reference3Ideal := fun m g m' g' _ hag =>
  ⟨fun c => Cert.Reference3Ideal.Read.val_main_v26 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)),
    (θ_run Cert.Kernel3Ideal.defs _ _).mono (fun r h c => ⟨(h c).1.trans (Heads.result m c), (h c).2⟩)
      (Cert.Kernel3Ideal.Value.run_blocks m g),
    (θ_run Cert.Reference3Ideal.defs _ _).mono (fun r h c => ⟨(h c).1.trans (by
        rw [Cert.Reference3Ideal.Read.val_main_v26_eq, (hag c).1, (hag c).2.1, (hag c).2.2.1, (hag c).2.2.2]), (h c).2⟩)
      (Cert.Reference3Ideal.Value.run (F := Ideal) m' g')⟩

/-! ## The forgetting attention's values -/

theorem frameRI4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic4 : Cert.algebraic_Kernel4Ideal_Reference4Ideal := fun m g m' g' _ hag =>
  ⟨fun c => Cert.Reference4Ideal.Read.val_main_v5 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    (θ_run Cert.Kernel4Ideal.defs _ _).mono (fun r h c => ⟨(h c).1.trans (Values.result m c), (h c).2⟩)
      (Cert.Kernel4Ideal.Value.run_blocks m g),
    (θ_run Cert.Reference4Ideal.defs _ _).mono (fun r h c => ⟨(h c).1.trans (by
        rw [Cert.Reference4Ideal.Read.val_main_v5_eq, (hag c).1, (hag c).2]), (h c).2⟩)
      (Cert.Reference4Ideal.Value.run (F := Ideal) m' g')⟩

/-! ## The stick-breaking attention's queries, keys and values -/

theorem frameRI5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem algebraic5 : Cert.algebraic_Kernel5Ideal_Reference5Ideal := fun m g m' g' _ hag =>
  ⟨fun c => Cert.Reference5Ideal.Read.val_main_v11 (F := Ideal) (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    (θ_run Cert.Kernel5Ideal.defs _ _).mono (fun r h c => ⟨(h c).1.trans (Stick.result m c), (h c).2⟩)
      (Cert.Kernel5Ideal.Value.run_blocks m g),
    (θ_run Cert.Reference5Ideal.defs _ _).mono (fun r h c => ⟨(h c).1.trans (by
        rw [Cert.Reference5Ideal.Read.val_main_v11_eq, (hag c).1, (hag c).2]), (h c).2⟩)
      (Cert.Reference5Ideal.Value.run (F := Ideal) m' g')⟩

/-! ## The gate -/

theorem frameRI6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic6 : Cert.algebraic_Kernel6Ideal_Reference6Ideal := fun m g m' g' _ hag =>
  ⟨fun c => Cert.Reference6Ideal.Read.val_main_v11 (F := Ideal) (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run Cert.Kernel6Ideal.defs _ _).mono (fun r h c => ⟨(h c).1.trans (Gate.result m c), (h c).2⟩)
      (Cert.Kernel6Ideal.Value.run_blocks m g),
    (θ_run Cert.Reference6Ideal.defs _ _).mono (fun r h c => ⟨(h c).1.trans (by
        rw [Cert.Reference6Ideal.Read.val_main_v11_eq, (hag c).1, (hag c).2]), (h c).2⟩)
      (Cert.Reference6Ideal.Value.run (F := Ideal) m' g')⟩

/-! ## The latent queries -/

theorem frameRI7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic7 : Cert.algebraic_Kernel7Ideal_Reference7Ideal := fun m g m' g' _ hag =>
  ⟨fun c => Cert.Reference7Ideal.Read.val_main_v18 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    (θ_run Cert.Kernel7Ideal.defs _ _).mono (fun r h c => ⟨(h c).1.trans (Latent.result m c), (h c).2⟩)
      (Cert.Kernel7Ideal.Value.run_blocks m g),
    (θ_run Cert.Reference7Ideal.defs _ _).mono (fun r h c => ⟨(h c).1.trans (by
        rw [Cert.Reference7Ideal.Read.val_main_v18_eq, (hag c).1, (hag c).2.1, (hag c).2.2]), (h c).2⟩)
      (Cert.Reference7Ideal.Value.run (F := Ideal) m' g')⟩

/-! ## The norm of the hidden states -/

theorem frameRI8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem algebraic8 : Cert.algebraic_Kernel8Ideal_Reference8Ideal := fun m g m' g' _ hag =>
  ⟨fun c => Cert.Reference8Ideal.Read.val_main_v13 (F := Ideal) (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)),
    (θ_run Cert.Kernel8Ideal.defs _ _).mono (fun r h c => ⟨(h c).1.trans (Norm.result m c), (h c).2⟩)
      (Cert.Kernel8Ideal.Value.run_blocks m g),
    (θ_run Cert.Reference8Ideal.defs _ _).mono (fun r h c => ⟨(h c).1.trans (by
        rw [Cert.Reference8Ideal.Read.val_main_v13_eq, (hag c).1, (hag c).2]), (h c).2⟩)
      (Cert.Reference8Ideal.Value.run (F := Ideal) m' g')⟩

/-! ## The latent keys and values, the forget gates' logits and the keys' rotated part -/

theorem frameRI9 : Cert.quiescent_Reference9Ideal := fun m g _ =>
  (θ_run Cert.Reference9Ideal.defs _ _).mono (fun r h => ⟨fun c => (h c).2.2, sem_eq_zero_of_no_sems (by decide) r.2⟩)
    (Cert.Reference9Ideal.Value.run (F := Ideal) m g)

theorem algebraic9 : Cert.algebraic_Kernel9Ideal_Reference9Ideal := fun m g m' g' _ hag =>
  ⟨fun c => Cert.Reference9Ideal.Read.val_main_v19 (F := Ideal) (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2)),
    fun c => Cert.Reference9Ideal.Read.val_main_v28 (F := Ideal) (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)),
    (θ_run Cert.Kernel9Ideal.defs _ _).mono (fun r h c =>
        ⟨(h c).1.trans (Small.result_ckv m c), (h c).2.1.trans (Small.result_small m c), (h c).2.2⟩)
      (Cert.Kernel9Ideal.Value.run_blocks m g),
    (θ_run Cert.Reference9Ideal.defs _ _).mono (fun r h c => ⟨(h c).1.trans (by
        rw [Cert.Reference9Ideal.Read.val_main_v19_eq, (hag c).1, (hag c).2.1, (hag c).2.2]), (h c).2.1.trans (by
        rw [Cert.Reference9Ideal.Read.val_main_v28_eq, (hag c).1, (hag c).2.1]), (h c).2.2⟩)
      (Cert.Reference9Ideal.Value.run (F := Ideal) m' g')⟩

/-! ## The queries, keys and values of the latent attention -/

/-- The named constant `inv` is the printed constant at the machine's floats and `1 / 192` at the ideal ones. -/
theorem preserves10 : Cert.preserves_Kernel10_Kernel10Ideal :=
  IdealRules.named_const.statement Cert.Kernel10Ideal.κ "inv" .f32 0x3BAAAAAB#32 ((1 / 192 : ℝ) : EReal) rfl

theorem frameRI10 : Cert.quiescent_Reference10Ideal := fun m g _ =>
  (θ_run Cert.Reference10Ideal.defs _ _).mono (fun r h => ⟨fun c => (h c).2.2.2, sem_eq_zero_of_no_sems (by decide) r.2⟩)
    (Cert.Reference10Ideal.Value.run (F := Ideal) m g)

theorem algebraic10 : Cert.algebraic_Kernel10Ideal_Reference10Ideal := fun m g m' g' _ hag =>
  ⟨fun c => Cert.Reference10Ideal.Read.val_main_v50 (F := Ideal) (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg4))
      (m ((c.tc : Thread Cert.Kernel10Ideal.nD Cert.Kernel10Ideal.τ).loc Cert.Kernel10Ideal.main_arg6)),
    fun c => Cert.Reference10Ideal.Read.val_main_v105 (F := Ideal) (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg5))
      (m ((c.tc : Thread Cert.Kernel10Ideal.nD Cert.Kernel10Ideal.τ).loc Cert.Kernel10Ideal.main_arg7)),
    fun c => Cert.Reference10Ideal.Read.val_main_v107 (F := Ideal) (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg5)),
    (θ_run Cert.Kernel10Ideal.defs _ _).mono (fun r h c =>
        ⟨(h c).1.trans (Prep.result_queries m c), (h c).2.1.trans (Prep.result_keys m c),
          (h c).2.2.1.trans (Prep.result_values m c), (h c).2.2.2⟩)
      (Cert.Kernel10Ideal.Value.run_blocks m g),
    (θ_run Cert.Reference10Ideal.defs _ _).mono (fun r h c => ⟨(h c).1.trans (by
        rw [Cert.Reference10Ideal.Read.val_main_v50_eq, (hag c).1, (hag c).2.2.2.1, (hag c).2.2.2.2.1, (hag c).2.2.2.2.2.2.1]), (h c).2.1.trans (by
        rw [Cert.Reference10Ideal.Read.val_main_v105_eq, (hag c).2.1, (hag c).2.2.1, (hag c).2.2.2.1, (hag c).2.2.2.2.2.1, (hag c).2.2.2.2.2.2.2]), (h c).2.2.1.trans (by
        rw [Cert.Reference10Ideal.Read.val_main_v107_eq, (hag c).2.1, (hag c).2.2.2.2.2.1]), (h c).2.2.2⟩)
      (Cert.Reference10Ideal.Value.run (F := Ideal) m' g')⟩

/-! ## The running sum of the forget gates' logarithms -/

theorem frameRI11 : Cert.quiescent_Reference11Ideal := fun m g _ =>
  (θ_run Cert.Reference11Ideal.defs _ _).mono (fun r h => ⟨fun c => (h c).2.2, sem_eq_zero_of_no_sems (by decide) r.2⟩)
    (Cert.Reference11Ideal.Value.run (F := Ideal) m g)

theorem algebraic11 : Cert.algebraic_Kernel11Ideal_Reference11Ideal := fun m g m' g' _ hag =>
  ⟨fun c => Cert.Reference11Ideal.Read.val_main_v13 (F := Ideal) (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1)),
    fun c => Cert.Reference11Ideal.Read.val_main_v15 (F := Ideal) (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1)),
    (θ_run Cert.Kernel11Ideal.defs _ _).mono (fun r h c =>
        ⟨(h c).1.trans (Forget.result_queries m c), (h c).2.1.trans (Forget.result_keys m c), (h c).2.2⟩)
      (Cert.Kernel11Ideal.Value.run_blocks m g),
    (θ_run Cert.Reference11Ideal.defs _ _).mono (fun r h c => ⟨(h c).1.trans (by
        rw [Cert.Reference11Ideal.Read.val_main_v13_eq, (hag c).1, (hag c).2]), (h c).2.1.trans (by
        rw [Cert.Reference11Ideal.Read.val_main_v15_eq, (hag c).1, (hag c).2]), (h c).2.2⟩)
      (Cert.Reference11Ideal.Value.run (F := Ideal) m' g')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    fun m g _ => Cert.Kernel.Gen.frame m g, fun m g _ => Cert.KernelIdeal.Gen.frame m g, frameRI,
    fun m g _ => Cert.Kernel2.Gen.frame m g, fun m g _ => Cert.Kernel2Ideal.Gen.frame m g, frameRI2,
    fun m g _ => Cert.Kernel3.Gen.frame m g, fun m g _ => Cert.Kernel3Ideal.Gen.frame m g, frameRI3,
    fun m g _ => Cert.Kernel4.Gen.frame m g, fun m g _ => Cert.Kernel4Ideal.Gen.frame m g, frameRI4,
    fun m g _ => Cert.Kernel5.Gen.frame m g, fun m g _ => Cert.Kernel5Ideal.Gen.frame m g, frameRI5,
    fun m g _ => Cert.Kernel6.Gen.frame m g, fun m g _ => Cert.Kernel6Ideal.Gen.frame m g, frameRI6,
    fun m g _ => Cert.Kernel7.Gen.frame m g, fun m g _ => Cert.Kernel7Ideal.Gen.frame m g, frameRI7,
    fun m g _ => Cert.Kernel8.Gen.frame m g, fun m g _ => Cert.Kernel8Ideal.Gen.frame m g, frameRI8,
    fun m g _ => Cert.Kernel9.Gen.frame m g, fun m g _ => Cert.Kernel9Ideal.Gen.frame m g, frameRI9,
    fun m g _ => Cert.Kernel10.Gen.frame m g, fun m g _ => Cert.Kernel10Ideal.Gen.frame m g, frameRI10,
    fun m g _ => Cert.Kernel11.Gen.frame m g, fun m g _ => Cert.Kernel11Ideal.Gen.frame m g, frameRI11,
    preserves, algebraic,
    trivial, algebraic2, trivial, algebraic3, trivial, algebraic4, trivial, algebraic5, trivial, algebraic6, trivial, algebraic7,
    trivial, algebraic8, trivial, algebraic9, preserves10, algebraic10, trivial, algebraic11⟩

end Cert.Proof

end
